-- ==== Defs.lean ====
def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal [hPre_in_range : Cert.Pre_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite [hPre_finite : Cert.Pre_finite.Facts] (m : (ℓ : Loc Cert.LatentIdeal.nD Cert.LatentIdeal.τ Cert.LatentIdeal.sig) → Buf (Elt Ideal) ℓ) : Prop :=
  ∀ c : Dev Cert.LatentIdeal.nD,
    (Cert.Pre_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2))) = (fun _ => 1#1)

def Pre_LatentRefIdeal (m : (ℓ : Loc Cert.LatentRefIdeal.nD Cert.LatentRefIdeal.τ Cert.LatentRefIdeal.sig) → Buf (Elt Ideal) ℓ) : Prop :=
  True

def Pre_LatentRefIdeal_finite [hPre_finite : Cert.Pre_finite.Facts] (m : (ℓ : Loc Cert.LatentRefIdeal.nD Cert.LatentRefIdeal.τ Cert.LatentRefIdeal.sig) → Buf (Elt Ideal) ℓ) : Prop :=
  ∀ c : Dev Cert.LatentRefIdeal.nD,
    (Cert.Pre_finite.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2))) = (fun _ => 1#1)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3)
      ∧ r.2.mem ((c.tc : Thread Cert.Swiglu.nD Cert.Swiglu.τ).loc Cert.Swiglu.main_arg4) = m ((c.tc : Thread Cert.Swiglu.nD Cert.Swiglu.τ).loc Cert.Swiglu.main_arg4))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_in_range : Cert.Pre_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentIdeal_pre_finite [hLatentIdeal : Cert.LatentIdeal.Facts] [hPre_finite : Cert.Pre_finite.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def quiescent_LatentRefIdeal_pre_finite [hLatentRefIdeal : Cert.LatentRefIdeal.Facts] [hPre_finite : Cert.Pre_finite.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal_finite m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)) →
    ∃ (v0 : (c : Dev Cert.CrossIdeal.nD) → Buf (Elt Ideal) ((c.tc : Thread Cert.CrossIdeal.nD Cert.CrossIdeal.τ).loc Cert.CrossIdeal.main_v7)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v7) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v38) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)
      ∧ m' ((c.tc : Thread Cert.SwigluRefIdeal.nD Cert.SwigluRefIdeal.τ).loc Cert.SwigluRefIdeal.main_arg4) = m ((c.tc : Thread Cert.SwigluIdeal.nD Cert.SwigluIdeal.τ).loc Cert.SwigluIdeal.main_arg4)) →
    ∃ (v0 : (c : Dev Cert.SwigluIdeal.nD) → Buf (Elt Ideal) ((c.tc : Thread Cert.SwigluIdeal.nD Cert.SwigluIdeal.τ).loc Cert.SwigluIdeal.main_v4)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v4) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v18) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3)
          ∧ r.2.mem ((c.tc : Thread Cert.SwigluRefIdeal.nD Cert.SwigluRefIdeal.τ).loc Cert.SwigluRefIdeal.main_arg4) = m' ((c.tc : Thread Cert.SwigluRefIdeal.nD Cert.SwigluRefIdeal.τ).loc Cert.SwigluRefIdeal.main_arg4))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v4_0)) (v1 : (c : Dev Cert.MemoryIdeal.nD) → Buf (Elt Ideal) ((c.tc : Thread Cert.MemoryIdeal.nD Cert.MemoryIdeal.τ).loc Cert.MemoryIdeal.main_v4_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4_0) = v0 c
          ∧ r.2.mem ((c.tc : Thread Cert.MemoryIdeal.nD Cert.MemoryIdeal.τ).loc Cert.MemoryIdeal.main_v4_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v15) = v0 c
          ∧ r.2.mem ((c.tc : Thread Cert.MemoryRefIdeal.nD Cert.MemoryRefIdeal.τ).loc Cert.MemoryRefIdeal.main_v17) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v30) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Latent_LatentIdeal : Prop :=
  IdealRules.named_const.Statement Cert.LatentIdeal.κ "mask" .f32 0xF149F2CA#32 ⊥

def algebraic_LatentIdeal_LatentRefIdeal_pre_finite [hLatentIdeal : Cert.LatentIdeal.Facts] [hLatentRefIdeal : Cert.LatentRefIdeal.Facts] [hPre_finite : Cert.Pre_finite.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal_finite m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v13)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v13) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v25) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2))

def Claim : Prop :=
  ∃ (hCross : Cert.Cross.Facts) (hCrossIdeal : Cert.CrossIdeal.Facts) (hCrossRefIdeal : Cert.CrossRefIdeal.Facts) (hSwiglu : Cert.Swiglu.Facts) (hSwigluIdeal : Cert.SwigluIdeal.Facts) (hSwigluRefIdeal : Cert.SwigluRefIdeal.Facts) (hMemory : Cert.Memory.Facts) (hMemoryIdeal : Cert.MemoryIdeal.Facts) (hMemoryRefIdeal : Cert.MemoryRefIdeal.Facts) (hNorm : Cert.Norm.Facts) (hNormIdeal : Cert.NormIdeal.Facts) (hNormRefIdeal : Cert.NormRefIdeal.Facts) (hExperts : Cert.Experts.Facts) (hExpertsIdeal : Cert.ExpertsIdeal.Facts) (hExpertsRefIdeal : Cert.ExpertsRefIdeal.Facts) (hLatent : Cert.Latent.Facts) (hLatentIdeal : Cert.LatentIdeal.Facts) (hLatentRefIdeal : Cert.LatentRefIdeal.Facts) (hPre_in_range : Cert.Pre_in_range.Facts) (hPre_finite : Cert.Pre_finite.Facts),
    quiescent_Cross (hCross := hCross)
    ∧ quiescent_CrossIdeal (hCrossIdeal := hCrossIdeal)
    ∧ quiescent_CrossRefIdeal (hCrossRefIdeal := hCrossRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Norm (hNorm := hNorm)
    ∧ quiescent_NormIdeal (hNormIdeal := hNormIdeal)
    ∧ quiescent_NormRefIdeal (hNormRefIdeal := hNormRefIdeal)
    ∧ quiescent_Experts (hExperts := hExperts) (hPre_in_range := hPre_in_range)
    ∧ quiescent_ExpertsIdeal (hExpertsIdeal := hExpertsIdeal) (hPre_in_range := hPre_in_range)
    ∧ quiescent_ExpertsRefIdeal (hExpertsRefIdeal := hExpertsRefIdeal) (hPre_in_range := hPre_in_range)
    ∧ quiescent_Latent (hLatent := hLatent)
    ∧ quiescent_LatentIdeal (hLatentIdeal := hLatentIdeal)
    ∧ quiescent_LatentIdeal_pre_finite (hLatentIdeal := hLatentIdeal) (hPre_finite := hPre_finite)
    ∧ quiescent_LatentRefIdeal (hLatentRefIdeal := hLatentRefIdeal)
    ∧ quiescent_LatentRefIdeal_pre_finite (hLatentRefIdeal := hLatentRefIdeal) (hPre_finite := hPre_finite)
    ∧ preserves_Cross_CrossIdeal
    ∧ algebraic_CrossIdeal_CrossRefIdeal (hCrossIdeal := hCrossIdeal) (hCrossRefIdeal := hCrossRefIdeal)
    ∧ preserves_Swiglu_SwigluIdeal
    ∧ algebraic_SwigluIdeal_SwigluRefIdeal (hSwigluIdeal := hSwigluIdeal) (hSwigluRefIdeal := hSwigluRefIdeal)
    ∧ preserves_Memory_MemoryIdeal
    ∧ algebraic_MemoryIdeal_MemoryRefIdeal (hMemoryIdeal := hMemoryIdeal) (hMemoryRefIdeal := hMemoryRefIdeal)
    ∧ preserves_Norm_NormIdeal
    ∧ algebraic_NormIdeal_NormRefIdeal (hNormIdeal := hNormIdeal) (hNormRefIdeal := hNormRefIdeal)
    ∧ preserves_Experts_ExpertsIdeal
    ∧ algebraic_ExpertsIdeal_ExpertsRefIdeal (hExpertsIdeal := hExpertsIdeal) (hExpertsRefIdeal := hExpertsRefIdeal) (hPre_in_range := hPre_in_range)
    ∧ preserves_Latent_LatentIdeal
    ∧ algebraic_LatentIdeal_LatentRefIdeal_pre_finite (hLatentIdeal := hLatentIdeal) (hLatentRefIdeal := hLatentRefIdeal) (hPre_finite := hPre_finite)
-- ==== Pre_finite.lean ====
abbrev S4x4x4096x96 : Shape := ⟨4, ![4, 4, 4096, 96]⟩
abbrev S4x4x4096x64 : Shape := ⟨4, ![4, 4, 4096, 64]⟩
abbrev S_ : Shape := ⟨0, ![]⟩

class Facts : Prop where
  bcast_S_S4x4x4096x96 : S_.BroadcastsInDim S4x4x4096x96 (![] : Fin 0 → Fin S4x4x4096x96.rank)
  reducesTo_S4x4x4096x96_S_d0_1_2_3 : S4x4x4096x96.ReducesTo [0, 1, 2, 3] S_
  h_S_ : 0 < S_.numel

variable [Facts]

def fn {F : FTy → Type} [FloatOps F] (main_arg0 : FVec F S4x4x4096x96 .f32) (main_arg1 : FVec F S4x4x4096x96 .f32) (main_arg2 : FVec F S4x4x4096x64 .f32) : IVec S_ 1 :=
  let main_v0 : FVec F S4x4x4096x96 .f32 := Host.absf main_arg0
  let main_cst : FVec F S_ .f32 := constant S_ .f32 0x7F800000#32
  let main_v1 : FVec F S4x4x4096x96 .f32 := broadcastInDim S4x4x4096x96 ![] bcast_S_S4x4x4096x96 main_cst
  let main_v2 : IVec S4x4x4096x96 1 := cmpf .olt main_v0 main_v1
  let main_c : IVec S_ 1 := constantI S_ 1 1#1
  let main_v3 : IVec S_ 1 := (fun x v => Host.reduce IntOp.andi x v reducesTo_S4x4x4096x96_S_d0_1_2_3 h_S_) main_v2 main_c
  let main_v4 : FVec F S4x4x4096x96 .f32 := Host.absf main_arg1
  let main_cst_0 : FVec F S_ .f32 := constant S_ .f32 0x7F800000#32
  let main_v5 : FVec F S4x4x4096x96 .f32 := broadcastInDim S4x4x4096x96 ![] bcast_S_S4x4x4096x96 main_cst_0
  let main_v6 : IVec S4x4x4096x96 1 := cmpf .olt main_v4 main_v5
  let main_c_1 : IVec S_ 1 := constantI S_ 1 1#1
  let main_v7 : IVec S_ 1 := (fun x v => Host.reduce IntOp.andi x v reducesTo_S4x4x4096x96_S_d0_1_2_3 h_S_) main_v6 main_c_1
  let main_v8 : IVec S_ 1 := andi main_v3 main_v7
  main_v8
-- ==== Pre_in_range.lean ====
abbrev S36864x1024 : Shape := ⟨2, ![36864, 1024]⟩
abbrev S72 : Shape := ⟨1, ![72]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S36864x1024 .f32) (main_arg1 : IVec S72 32) (main_arg2 : IVec S1 32) (main_arg3 : FVec F S2x8x1024x3584 .f32) (main_arg4 : FVec F S2x8x1024x3584 .f32) (main_arg5 : FVec F S2x8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 7#32
  let main_v2 : IVec S72 32 := broadcastInDim S72 ![] bcast_S_S72 main_c_0
  let main_v3 : IVec S72 1 := cmpi .sle main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 72#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Cross.lean ====
abbrev S4x4096x1024 : Shape := ⟨3, ![4, 4096, 1024]⟩
abbrev S1024 : Shape := ⟨1, ![1024]⟩
abbrev S1024x1024 : Shape := ⟨2, ![1024, 1024]⟩
abbrev S4x256x1024 : Shape := ⟨3, ![4, 256, 1024]⟩
abbrev S_ : Shape := ⟨0, ![]⟩
abbrev S1x1024 : Shape := ⟨2, ![1, 1024]⟩
abbrev S1x512x1024 : Shape := ⟨3, ![1, 512, 1024]⟩
abbrev S1x256x1024 : Shape := ⟨3, ![1, 256, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 15
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1024, .f32⟩
  | .hbm, ⟨3, _⟩ => ⟨S4x256x1024, .f32⟩
  | .hbm, ⟨4, _⟩ => ⟨S4x256x1024, .f32⟩
  | .hbm, ⟨5, _⟩ => ⟨S1024x1024, .f32⟩
  | .hbm, ⟨6, _⟩ => ⟨S4x256x1024, .bf16⟩
  | .hbm, ⟨7, _⟩ => ⟨S4x256x1024, .bf16⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CrossRefIdeal.lean ====
abbrev S4x4096x1024 : Shape := ⟨3, ![4, 4096, 1024]⟩
abbrev S1024 : Shape := ⟨1, ![1024]⟩
abbrev S1024x1024 : Shape := ⟨2, ![1024, 1024]⟩
abbrev S4x256x1024 : Shape := ⟨3, ![4, 256, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x4x4096x256 : Shape := ⟨4, ![4, 4, 4096, 256]⟩
abbrev S4x256x4x256 : Shape := ⟨4, ![4, 256, 4, 256]⟩
abbrev S4x4x256x256 : Shape := ⟨4, ![4, 4, 256, 256]⟩
abbrev S4x4x4096 : Shape := ⟨3, ![4, 4, 4096]⟩
abbrev S4x4x4096x1 : Shape := ⟨4, ![4, 4, 4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1024, .f32⟩
  | .hbm, ⟨3, _⟩ => ⟨S4x256x1024, .f32⟩
  | .hbm, ⟨4, _⟩ => ⟨S4x256x1024, .f32⟩
  | .hbm, ⟨5, _⟩ => ⟨S1024x1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x4x256, .f32⟩
  | .hbm, ⟨24, _⟩ => ⟨S4x4x4096x256, .f32⟩
  | .hbm, ⟨25, _⟩ => ⟨S4x256x4x256, .f32⟩
  | .hbm, ⟨26, _⟩ => ⟨S4x4x256x256, .f32⟩
  | .hbm, ⟨27, _⟩ => ⟨S4x256x4x256, .f32⟩
  | .hbm, ⟨28, _⟩ => ⟨S4x4x256x256, .f32⟩
  | .hbm, ⟨29, _⟩ => ⟨S4x4x4096x256, .f32⟩
  | .hbm, ⟨30, _⟩ => ⟨S_, .f32⟩
  | .hbm, ⟨31, _⟩ => ⟨S4x4x4096x256, .f32⟩
  | .hbm, ⟨32, _⟩ => ⟨S4x4x4096x256, .f32⟩
  | .hbm, ⟨33, _⟩ => ⟨S_, .f32⟩
  | .hbm, ⟨34, _⟩ => ⟨S4x4x4096, .f32⟩
  | .hbm, ⟨35, _⟩ => ⟨S_, .f32⟩
  | .hbm, ⟨36, _⟩ => ⟨S4x4x4096, .f32⟩
  | .hbm, ⟨37, _⟩ => ⟨S4x4x4096, .f32⟩
  | .hbm, ⟨38, _⟩ => ⟨S4x4x4096x1, .f32⟩
  | .hbm, ⟨39, _⟩ => ⟨S4x4x4096x256, .f32⟩
  | .hbm, ⟨40, _⟩ => ⟨S4x4x4096x256, .f32⟩
  | .hbm, ⟨41, _⟩ => ⟨S4x4x4096x256, .f32⟩
  | .hbm, ⟨42, _⟩ => ⟨S_, .f32⟩
  | .hbm, ⟨43, _⟩ => ⟨S4x4x4096, .f32⟩
  | .hbm, ⟨44, _⟩ => ⟨S4x4x4096x1, .f32⟩
  | .hbm, ⟨45, _⟩ => ⟨S4x4x4096x256, .f32⟩
  | .hbm, ⟨46, _⟩ => ⟨S4x4x4096x256, .f32⟩
  | .hbm, ⟨47, _⟩ => ⟨S4x4x4096x256, .f32⟩
  | .hbm, ⟨48, _⟩ => ⟨S4x4096x4x256, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Swiglu.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== SwigluRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Memory.lean ====
abbrev S4x256x1024 : Shape := ⟨3, ![4, 256, 1024]⟩
abbrev S1024 : Shape := ⟨1, ![1024]⟩
abbrev S1024x1024 : Shape := ⟨2, ![1024, 1024]⟩
abbrev S1024x2048 : Shape := ⟨2, ![1024, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 10
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2048, .f32⟩
  | .hbm, ⟨6, _⟩ => ⟨S1024x2048, .bf16⟩
  | .hbm, ⟨7, _⟩ => ⟨S1x1024, .f32⟩
  | .hbm, ⟨8, _⟩ => ⟨S1024x1024, .bf16⟩
  | .hbm, ⟨9, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MemoryRefIdeal.lean ====
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Norm.lean ====
abbrev S4x4096x1024 : Shape := ⟨3, ![4, 4096, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x4096x1024, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x1024, .f32⟩
  | .hbm, ⟨14, _⟩ => ⟨S4x4096x1024, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | .hbm, ⟨18, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Experts.lean ====
abbrev S36864x1024 : Shape := ⟨2, ![36864, 1024]⟩
abbrev S72 : Shape := ⟨1, ![72]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S512x1024 : Shape := ⟨2, ![512, 1024]⟩
abbrev S1x1x1024x1792 : Shape := ⟨4, ![1, 1, 1024, 1792]⟩
abbrev S1x1x1792x1024 : Shape := ⟨4, ![1, 1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 8
  | .vmem => 12
  | .smem => 2
  | _ => 0

abbrev bufTy : (tb : Table) → Fin (tcTables nBuf tb) → BufTy
  | .hbm, ⟨0, _⟩ => ⟨S36864x1024, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S2x8x1024x3584, .bf16⟩
  | .hbm, ⟨5, _⟩ => ⟨S2x8x1024x3584, .bf16⟩
  | .hbm, ⟨6, _⟩ => ⟨S2x8x3584x1024, .bf16⟩
  | .hbm, ⟨7, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1792, .bf16⟩
  | .local _ .vmem, ⟨3, _⟩ => ⟨S1x1x1024x1792, .bf16⟩
  | .local _ .vmem, ⟨4, _⟩ => ⟨S1x1x1024x1792, .bf16⟩
  | .local _ .vmem, ⟨5, _⟩ => ⟨S1x1x1024x1792, .bf16⟩
  | .local _ .vmem, ⟨6, _⟩ => ⟨S1x1x1792x1024, .bf16⟩
  | .local _ .vmem, ⟨7, _⟩ => ⟨S1x1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_24 : BitVec 32 := 0#32
  let v32 : BitVec 1 := Scalar.cmpi .ne v31 c0_i32_24
  v32

def k0_cond4 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S36864x1024 : Shape := ⟨2, ![36864, 1024]⟩
abbrev S72 : Shape := ⟨1, ![72]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S72x1 : Shape := ⟨2, ![72, 1]⟩
abbrev S8 : Shape := ⟨1, ![8]⟩
abbrev S1x8 : Shape := ⟨2, ![1, 8]⟩
abbrev S72x8 : Shape := ⟨2, ![72, 8]⟩
abbrev S1x8x1024x3584 : Shape := ⟨4, ![1, 8, 1024, 3584]⟩
abbrev S8x1024x3584 : Shape := ⟨3, ![8, 1024, 3584]⟩
abbrev S72x1024x3584 : Shape := ⟨3, ![72, 1024, 3584]⟩
abbrev S1x8x3584x1024 : Shape := ⟨4, ![1, 8, 3584, 1024]⟩
abbrev S8x3584x1024 : Shape := ⟨3, ![8, 3584, 1024]⟩
abbrev S72x3584x1024 : Shape := ⟨3, ![72, 3584, 1024]⟩
abbrev S72x512x1024 : Shape := ⟨3, ![72, 512, 1024]⟩
abbrev S72x512x3584 : Shape := ⟨3, ![72, 512, 3584]⟩
abbrev S_ : Shape := ⟨0, ![]⟩
abbrev S36864 : Shape := ⟨1, ![36864]⟩
abbrev S36864x1 : Shape := ⟨2, ![36864, 1]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S72, .i32⟩
  | .hbm, ⟨2, _⟩ => ⟨S1, .i32⟩
  | .hbm, ⟨3, _⟩ => ⟨S2x8x1024x3584, .f32⟩
  | .hbm, ⟨4, _⟩ => ⟨S2x8x1024x3584, .f32⟩
  | .hbm, ⟨5, _⟩ => ⟨S2x8x3584x1024, .f32⟩
  | .hbm, ⟨6, _⟩ => ⟨S72x1, .i32⟩
  | .hbm, ⟨7, _⟩ => ⟨S8, .i32⟩
  | .hbm, ⟨8, _⟩ => ⟨S1x8, .i32⟩
  | .hbm, ⟨9, _⟩ => ⟨S72x8, .i32⟩
  | .hbm, ⟨10, _⟩ => ⟨S72x8, .i32⟩
  | .hbm, ⟨11, _⟩ => ⟨S72x8, .i1⟩
  | .hbm, ⟨12, _⟩ => ⟨S72x8, .f32⟩
  | .hbm, ⟨13, _⟩ => ⟨S1x8x1024x3584, .f32⟩
  | .hbm, ⟨14, _⟩ => ⟨S8x1024x3584, .f32⟩
  | .hbm, ⟨15, _⟩ => ⟨S72x1024x3584, .f32⟩
  | .hbm, ⟨16, _⟩ => ⟨S1x8x1024x3584, .f32⟩
  | .hbm, ⟨17, _⟩ => ⟨S8x1024x3584, .f32⟩
  | .hbm, ⟨18, _⟩ => ⟨S72x1024x3584, .f32⟩
  | .hbm, ⟨19, _⟩ => ⟨S1x8x3584x1024, .f32⟩
  | .hbm, ⟨20, _⟩ => ⟨S8x3584x1024, .f32⟩
  | .hbm, ⟨21, _⟩ => ⟨S72x3584x1024, .f32⟩
  | .hbm, ⟨22, _⟩ => ⟨S72x512x1024, .f32⟩
  | .hbm, ⟨23, _⟩ => ⟨S72x512x3584, .f32⟩
  | .hbm, ⟨24, _⟩ => ⟨S72x512x3584, .f32⟩
  | .hbm, ⟨25, _⟩ => ⟨S72x512x3584, .f32⟩
  | .hbm, ⟨26, _⟩ => ⟨S_, .f32⟩
  | .hbm, ⟨27, _⟩ => ⟨S72x512x3584, .f32⟩
  | .hbm, ⟨28, _⟩ => ⟨S72x512x3584, .f32⟩
  | .hbm, ⟨29, _⟩ => ⟨S_, .f32⟩
  | .hbm, ⟨30, _⟩ => ⟨S72x512x3584, .f32⟩
  | .hbm, ⟨31, _⟩ => ⟨S72x512x3584, .f32⟩
  | .hbm, ⟨32, _⟩ => ⟨S72x512x3584, .f32⟩
  | .hbm, ⟨33, _⟩ => ⟨S72x512x3584, .f32⟩
  | .hbm, ⟨34, _⟩ => ⟨S72x512x3584, .f32⟩
  | .hbm, ⟨35, _⟩ => ⟨S72x512x1024, .f32⟩
  | .hbm, ⟨36, _⟩ => ⟨S36864, .i32⟩
  | .hbm, ⟨37, _⟩ => ⟨S36864x1, .i32⟩
  | .hbm, ⟨38, _⟩ => ⟨S_, .i32⟩
  | .hbm, ⟨39, _⟩ => ⟨S1, .i32⟩
  | .hbm, ⟨40, _⟩ => ⟨S1, .i32⟩
  | .hbm, ⟨41, _⟩ => ⟨S1x1, .i32⟩
  | .hbm, ⟨42, _⟩ => ⟨S36864x1, .i32⟩
  | .hbm, ⟨43, _⟩ => ⟨S36864x1, .i1⟩
  | .hbm, ⟨44, _⟩ => ⟨S36864x1024, .f32⟩
  | .hbm, ⟨45, _⟩ => ⟨S_, .f32⟩
  | .hbm, ⟨46, _⟩ => ⟨S_, .f32⟩
  | .hbm, ⟨47, _⟩ => ⟨S36864x1024, .i1⟩
  | .hbm, ⟨48, _⟩ => ⟨S36864x1024, .f32⟩
  | .hbm, ⟨49, _⟩ => ⟨S36864x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Latent.lean ====
abbrev S4x4x4096x96 : Shape := ⟨4, ![4, 4, 4096, 96]⟩
abbrev S4x4x4096x64 : Shape := ⟨4, ![4, 4, 4096, 64]⟩
abbrev S36 : Shape := ⟨1, ![36]⟩
abbrev S_ : Shape := ⟨0, ![]⟩
abbrev S4x4x64x4096 : Shape := ⟨4, ![4, 4, 64, 4096]⟩
abbrev S16x1x4096x96 : Shape := ⟨4, ![16, 1, 4096, 96]⟩
abbrev S16x4096x96 : Shape := ⟨3, ![16, 4096, 96]⟩
abbrev S16x64x4096 : Shape := ⟨3, ![16, 64, 4096]⟩
abbrev S4x4096x256 : Shape := ⟨3, ![4, 4096, 256]⟩
abbrev S16x1x512x96 : Shape := ⟨4, ![16, 1, 512, 96]⟩
abbrev S1 : Shape := ⟨1, ![1]⟩
abbrev S16x512x96 : Shape := ⟨3, ![16, 512, 96]⟩
abbrev S16x64x512 : Shape := ⟨3, ![16, 64, 512]⟩
abbrev S4x512x256 : Shape := ⟨3, ![4, 512, 256]⟩
abbrev S16x1x512 : Shape := ⟨3, ![16, 1, 512]⟩
abbrev S16x80x512 : Shape := ⟨3, ![16, 80, 512]⟩
abbrev S16x512x512 : Shape := ⟨3, ![16, 512, 512]⟩
abbrev S512x512 : Shape := ⟨2, ![512, 512]⟩
abbrev S1x512x512 : Shape := ⟨3, ![1, 512, 512]⟩
abbrev S16x512 : Shape := ⟨2, ![16, 512]⟩
abbrev S16x16x512 : Shape := ⟨3, ![16, 16, 512]⟩
abbrev S4x64x512 : Shape := ⟨3, ![4, 64, 512]⟩
abbrev S256x512 : Shape := ⟨2, ![256, 512]⟩
abbrev S512x256 : Shape := ⟨2, ![512, 256]⟩
abbrev S1x512x256 : Shape := ⟨3, ![1, 512, 256]⟩

abbrev nBuf : Space → Nat
  | .hbm => 20
  | .vmem => 10
  | .smem => 3
  | _ => 0

abbrev bufTy : (tb : Table) → Fin (tcTables nBuf tb) → BufTy
  | .hbm, ⟨0, _⟩ => ⟨S4x4x4096x96, .f32⟩
  | .hbm, ⟨1, _⟩ => ⟨S4x4x4096x96, .f32⟩
  | .hbm, ⟨2, _⟩ => ⟨S4x4x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4x4096x96, .f32⟩
  | .hbm, ⟨11, _⟩ => ⟨S4x4x4096x96, .f32⟩
  | .hbm, ⟨12, _⟩ => ⟨S4x4x4096x96, .bf16⟩
  | .hbm, ⟨13, _⟩ => ⟨S4x4x4096x96, .bf16⟩
  | .hbm, ⟨14, _⟩ => ⟨S4x4x64x4096, .f32⟩
  | .hbm, ⟨15, _⟩ => ⟨S4x4x64x4096, .bf16⟩
  | .hbm, ⟨16, _⟩ => ⟨S16x1x4096x96, .bf16⟩
  | .hbm, ⟨17, _⟩ => ⟨S16x4096x96, .bf16⟩
  | .hbm, ⟨18, _⟩ => ⟨S16x64x4096, .bf16⟩
  | .hbm, ⟨19, _⟩ => ⟨S4x4096x256, .bf16⟩
  | .local _ .vmem, ⟨0, _⟩ => ⟨S16x1x512x96, .bf16⟩
  | .local _ .vmem, ⟨1, _⟩ => ⟨S16x1x512x96, .bf16⟩
  | .local _ .vmem, ⟨2, _⟩ => ⟨S16x512x96, .bf16⟩
  | .local _ .vmem, ⟨3, _⟩ => ⟨S16x512x96, .bf16⟩
  | .local _ .vmem, ⟨4, _⟩ => ⟨S16x64x512, .bf16⟩
  | .local _ .vmem, ⟨5, _⟩ => ⟨S16x64x512, .bf16⟩
  | .local _ .vmem, ⟨6, _⟩ => ⟨S4x512x256, .bf16⟩
  | .local _ .vmem, ⟨7, _⟩ => ⟨S4x512x256, .bf16⟩
  | .local _ .vmem, ⟨8, _⟩ => ⟨S16x1x512, .f32⟩
  | .local _ .vmem, ⟨9, _⟩ => ⟨S16x80x512, .f32⟩
  | .local _ .smem, ⟨0, _⟩ => ⟨S36, .i32⟩
  | .local _ .smem, ⟨1, _⟩ => ⟨S36, .i32⟩
  | .local _ .smem, ⟨2, _⟩ => ⟨S36, .i32⟩
  | _, _ => ⟨S4x4x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_2 : Ref sig .tc := ⟨.hbm, 5, rfl⟩
abbrev main_v1 : Ref sig .tc := ⟨.hbm, 6, rfl⟩
abbrev main_v2 : Ref sig .tc := ⟨.hbm, 7, rfl⟩
abbrev main_cst_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 36], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v26 : Index := Scalar.indexCast arg1
  ![v26.toNat]
def k0_cond4 (v1 : BitVec 32) : BitVec 1 :=
  let c2_i32 : BitVec 32 := 2#32
  let v14 : BitVec 32 := Scalar.andi v1 c2_i32
  let c0_i32_6 : BitVec 32 := 0#32
  let v15 : BitVec 1 := Scalar.cmpi .ne v14 c0_i32_6
  let v16 : BitVec 32 := Scalar.extui v15
  let c0_i32_7 : BitVec 32 := 0#32
  let v17 : BitVec 1 := Scalar.cmpi .ne v16 c0_i32_7
  v17

def cc0_transform_0 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S16x1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LatentIdeal.lean ====
variable {F : FTy → Type} [FloatOps F] [Named F]
def κ : String → Option EReal := fun
  | "mask" => some ⊥
  | _ => none
-- ==== LatentRefIdeal.lean ====
abbrev S4x4x4096x96 : Shape := ⟨4, ![4, 4, 4096, 96]⟩
abbrev S4x4x4096x64 : Shape := ⟨4, ![4, 4, 4096, 64]⟩
abbrev S4096 : Shape := ⟨1, ![4096]⟩
abbrev S4x4x4096x4096 : Shape := ⟨4, ![4, 4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x4x4096 : Shape := ⟨3, ![4, 4, 4096]⟩
abbrev S4x4x4096x1 : Shape := ⟨4, ![4, 4, 4096, 1]⟩
abbrev S4x4096x4x64 : Shape := ⟨4, ![4, 4096, 4, 64]⟩
abbrev S4x4096x256 : Shape := ⟨3, ![4, 4096, 256]⟩

abbrev nBuf : Space → Nat
  | .hbm => 37
  | .vmem => 0
  | .smem => 0
  | _ => 0

abbrev bufTy : (tb : Table) → Fin (tcTables nBuf tb) → BufTy
  | .hbm, ⟨0, _⟩ => ⟨S4x4x4096x96, .f32⟩
  | .hbm, ⟨1, _⟩ => ⟨S4x4x4096x96, .f32⟩
  | .hbm, ⟨2, _⟩ => ⟨S4x4x4096x64, .f32⟩
  | .hbm, ⟨3, _⟩ => ⟨S4096, .i32⟩
  | .hbm, ⟨4, _⟩ => ⟨S4x4x4096x4096, .f32⟩
  | .hbm, ⟨5, _⟩ => ⟨S_, .f32⟩
  | .hbm, ⟨6, _⟩ => ⟨S_, .f32⟩
  | .hbm, ⟨7, _⟩ => ⟨S4x4x4096x4096, .f32⟩
  | .hbm, ⟨8, _⟩ => ⟨S4x4x4096x4096, .f32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4x4x4096x4096, .i1⟩
  | .hbm, ⟨17, _⟩ => ⟨S4x4x4096x4096, .f32⟩
  | .hbm, ⟨18, _⟩ => ⟨S4x4x4096x4096, .f32⟩
  | .hbm, ⟨19, _⟩ => ⟨S_, .f32⟩
  | .hbm, ⟨20, _⟩ => ⟨S4x4x4096, .f32⟩
  | .hbm, ⟨21, _⟩ => ⟨S_, .f32⟩
  | .hbm, ⟨22, _⟩ => ⟨S4x4x4096, .f32⟩
  | .hbm, ⟨23, _⟩ => ⟨S4x4x4096, .f32⟩
  | .hbm, ⟨24, _⟩ => ⟨S4x4x4096x1, .f32⟩
  | .hbm, ⟨25, _⟩ => ⟨S4x4x4096x4096, .f32⟩
  | .hbm, ⟨26, _⟩ => ⟨S4x4x4096x4096, .f32⟩
  | .hbm, ⟨27, _⟩ => ⟨S4x4x4096x4096, .f32⟩
  | .hbm, ⟨28, _⟩ => ⟨S_, .f32⟩
  | .hbm, ⟨29, _⟩ => ⟨S4x4x4096, .f32⟩
  | .hbm, ⟨30, _⟩ => ⟨S4x4x4096x1, .f32⟩
  | .hbm, ⟨31, _⟩ => ⟨S4x4x4096x4096, .f32⟩
  | .hbm, ⟨32, _⟩ => ⟨S4x4x4096x4096, .f32⟩
  | .hbm, ⟨33, _⟩ => ⟨S4x4x4096x64, .f32⟩
  | .hbm, ⟨34, _⟩ => ⟨S4x4096x4x64, .f32⟩
  | .hbm, ⟨35, _⟩ => ⟨S4x4096x256, .f32⟩
  | .hbm, ⟨36, _⟩ => ⟨S4x4096x256, .bf16⟩
  | _, _ => ⟨S4x4x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.Rows.lean ====
/-
  Rows of the layer, over the extended reals: the RMS normalization of one row. The names of this file are shared by the
  modules that read a kernel's blocks and a reference's arrays at an index.
-/
module

public import Idealize.ShloMosaic.Lib.Pointwise

@[expose] public section

noncomputable section

namespace Cert.Rows

open Idealize.ShloMosaic

/-- One row of 1024 numbers after the RMS normalization with gain `g`: each is divided by the root of the mean square
    (plus the small constant of the layer) and multiplied by its gain. -/
def rms (x g : Fin 1024 → EReal) (j : Fin 1024) : EReal :=
  x j * Ideal.rsqrt (Ideal.div (∑ k, x k * x k) (Ideal.ofBits FTy.f32 1149239296#32) + Ideal.ofBits FTy.f32 897988541#32) * g j

/-- The softmax of a row of scores: each score's exponential, shifted by the greatest score, over their sum. -/
def soft {n : Nat} (s : Fin n → EReal) (i : Fin n) : EReal :=
  Ideal.div (Ideal.exp (s i - Finset.univ.fold max (Ideal.ofBits FTy.f32 4286578688#32) s))
    (∑ k, Ideal.exp (s k - Finset.univ.fold max (Ideal.ofBits FTy.f32 4286578688#32) s))

/-- One head of the attention over 256 positions, the head that starts at column `o` of the rows `q` (the query), `K` and
    `W` (the keys and the values): the values' column `c` weighted by the softmax of the scores, which are multiplied by
    `s`. -/
def head (s : EReal) (q : Fin 1024 → EReal) (K W : Fin 256 → Fin 1024 → EReal) (o : Nat) (ho : o + 256 ≤ 1024) (c : Fin 1024) : EReal :=
  ∑ n, soft (fun n => (∑ d : Fin 256, q ⟨o + d.val, by omega⟩ * K n ⟨o + d.val, by omega⟩) * s) n * W n c

theorem head_congr (s : EReal) (q : Fin 1024 → EReal) (K W : Fin 256 → Fin 1024 → EReal) {o o' : Nat} (ho : o + 256 ≤ 1024) (ho' : o' + 256 ≤ 1024)
    (c c' : Fin 1024) (h : o = o') (hc : c = c') : head s q K W o ho c = head s q K W o' ho' c' := by
  subst h; subst hc; rfl

/-- The attention of one row: every column with the head it lies in. -/
def attend (s : EReal) (q : Fin 1024 → EReal) (K W : Fin 256 → Fin 1024 → EReal) (c : Fin 1024) : EReal :=
  head s q K W (c.val / 256 * 256) (by omega) c

/-! ## A finite nonnegative factor moves through the sums -/

theorem sum_mul_factor {ι : Type*} (t : Finset ι) (f : ι → EReal) {s : EReal} (h0 : 0 ≤ s) (h1 : s ≠ ⊤) : (∑ i ∈ t, f i) * s = ∑ i ∈ t, f i * s := by
  classical
  induction t using Finset.induction_on with
  | empty => simp
  | insert a u ha ih => rw [Finset.sum_insert ha, Finset.sum_insert ha, EReal.right_distrib_of_nonneg_of_ne_top h0 h1, ih]

/-- Scaling the query's weight scales the query. -/
theorem query_scaled (h : Fin 1024 → EReal) (w : Fin 1024 → EReal) {s : EReal} (h0 : 0 ≤ s) (h1 : s ≠ ⊤) :
    ∑ k, h k * (w k * s) = (∑ k, h k * w k) * s := by
  rw [sum_mul_factor _ _ h0 h1]
  exact Finset.sum_congr rfl fun k _ => (mul_assoc _ _ _).symm

/-- Scaling the query scales the scores. -/
theorem head_scaled (q : Fin 1024 → EReal) (K W : Fin 256 → Fin 1024 → EReal) {s : EReal} (h0 : 0 ≤ s) (h1 : s ≠ ⊤) (c : Fin 1024) :
    attend 1 (fun j => q j * s) K W c = attend s q K W c := by
  unfold attend head
  have e : ∀ (o : Nat) (ho : o + 256 ≤ 1024), (fun n : Fin 256 => (∑ d : Fin 256, q ⟨o + d.val, by omega⟩ * s * K n ⟨o + d.val, by omega⟩) * 1)
      = fun n => (∑ d : Fin 256, q ⟨o + d.val, by omega⟩ * K n ⟨o + d.val, by omega⟩) * s := by
    intro o ho
    funext n
    rw [mul_one, sum_mul_factor _ _ h0 h1]
    exact Finset.sum_congr rfl fun d _ => mul_right_comm _ _ _
  rw [e _ (by omega)]

theorem sixteenth : Ideal.ofBits FTy.f32 1031798784#32 = ((1 / 16 : ℝ) : EReal) := by
  simp [Ideal.ofBits, Ideal.ieee, -EReal.coe_mul]; norm_num

theorem sixteenth_nonneg : 0 ≤ Ideal.ofBits FTy.f32 1031798784#32 := by
  rw [sixteenth]; exact EReal.coe_nonneg.2 (by norm_num)

theorem sixteenth_ne_top : Ideal.ofBits FTy.f32 1031798784#32 ≠ ⊤ := by
  rw [sixteenth]; exact EReal.coe_ne_top _

theorem lowest : Ideal.ofBits FTy.f32 4286578688#32 = ⊥ := by
  simp [Ideal.ofBits, Ideal.ieee]

end Cert.Rows

end
-- ==== Proof.MemoryBlock.lean ====
/-
  The keys and values of the memory: what one grid point of the kernel writes, and what its two result arrays hold after
  the run. A point normalizes 512 rows of the memory, multiplies them by the key and the value weights set side by side,
  and writes the left half of the product to the keys and the right half to the values.
-/
module

public import proofs.«01_k».proof.Proof.Rows
public import proofs.«01_k».proof.Proof.Gen.MemoryIdeal.Value
public import Idealize.ShloMosaic.Lib.StableHlo.ReadAt

@[expose] public section

noncomputable section

namespace Cert.MemoryBlock

open Idealize.ShloMosaic Idealize.ShloMosaic.TcCoe Idealize.SL.Sem Cert.MemoryIdeal Cert.MemoryIdeal.Gen
open Idealize.ShloMosaic.Pointwise
open Cert.Rows (rms)

variable (m : (ℓ : Loc nD τ sig) → Buf (Elt Ideal) ℓ)

theorem hz : (![0, 0] : Fin 2 → Nat) = fun _ => 0 := funext fun a => by fin_cases a <;> rfl

/-- The product of the normalized memory with a weight, at row `p` of the 1024 rows and column `q`. -/
def entry (x : S4x256x1024.Idx → EReal) (g : S1024.Idx → EReal) (w : S1024x1024.Idx → EReal) (p q : Fin 1024) : EReal :=
  ∑ k : Fin 1024, rms (fun l => x (ix3 ⟨p.val / 256, by omega⟩ ⟨p.val % 256, by omega⟩ l)) (fun l => g (ix1 l)) k * w (ix2 k q)

/-- The same product as an array. -/
def product (x : S4x256x1024.Idx → EReal) (g : S1024.Idx → EReal) (w : S1024x1024.Idx → EReal) : S1024x1024.Idx → EReal :=
  fun i => entry x g w (i 0) (i 1)

/-! ## The block a point writes, from its input blocks -/

theorem keys_block (c : Dev nD) (i : grid0.Coords) (a2 : Memref sig .tc .vmem S512x1024 .f32) (h2 : a2.IsWhole) (a3 : Memref sig .tc .vmem S1x1024 .f32) (h3 : a3.IsWhole)
    (a4 : Memref sig .tc .vmem S1024x2048 .bf16) (h4 : a4.IsWhole) (a5 : Memref sig .tc .vmem S512x1024 .bf16) (h5 : a5.IsWhole)
    (a6 : Memref sig .tc .vmem S512x1024 .bf16) (h6 : a6.IsWhole) (a7 : Memref sig .tc .vmem S512x1024 .bf16) (h7 : a7.IsWhole) (hc : cond0_0 i)
    (x : Vec Ideal S512x1024 .f32) (g : Vec Ideal S1x1024 .f32) (w : Vec Ideal S1024x2048 .bf16) :
    out0_A_3 c i a2 h2 a3 h3 a4 h4 a5 h5 a6 h6 a7 h7 hc x g w = k0_pay3 (k0_pay1 x g) w := by
  unfold out0_A_3
  rw [View.read_writes_eq_canon _ _ _ (cover0_A_3 c i a2 h2 a3 h3 a4 h4 a5 h5 a6 h6 a7 h7 hc x g w)]
  unfold kernelRun0_A
  dsimp only
  sl_unfold_words
  rw [View.canon_unit_zero hz, View.readCov_unit_zero (S := S512x1024) _ hz]
  simp only [View.readAt_eq_ld, h2.read_unread, h3.read_unread, h4.read_unread, View.ld_unit_zero (S := S512x1024) hz, View.ld_unit_zero (S := S1x1024) hz,
    View.ld_unit_zero (S := S1024x2048) hz]

theorem values_block (c : Dev nD) (i : grid0.Coords) (a2 : Memref sig .tc .vmem S512x1024 .f32) (h2 : a2.IsWhole) (a3 : Memref sig .tc .vmem S1x1024 .f32) (h3 : a3.IsWhole)
    (a4 : Memref sig .tc .vmem S1024x2048 .bf16) (h4 : a4.IsWhole) (a5 : Memref sig .tc .vmem S512x1024 .bf16) (h5 : a5.IsWhole)
    (a6 : Memref sig .tc .vmem S512x1024 .bf16) (h6 : a6.IsWhole) (a7 : Memref sig .tc .vmem S512x1024 .bf16) (h7 : a7.IsWhole) (hc : cond0_0 i)
    (x : Vec Ideal S512x1024 .f32) (g : Vec Ideal S1x1024 .f32) (w : Vec Ideal S1024x2048 .bf16) :
    out0_A_4 c i a2 h2 a3 h3 a4 h4 a5 h5 a6 h6 a7 h7 hc x g w = k0_pay4 (k0_pay1 x g) w := by
  unfold out0_A_4
  rw [View.read_writes_eq_canon _ _ _ (cover0_A_4 c i a2 h2 a3 h3 a4 h4 a5 h5 a6 h6 a7 h7 hc x g w)]
  unfold kernelRun0_A
  dsimp only
  sl_unfold_words
  rw [View.canon_unit_zero hz, View.readCov_unit_zero (S := S512x1024) _ hz]
  simp only [View.readAt_eq_ld, h2.read_unread, h3.read_unread, h4.read_unread, View.ld_unit_zero (S := S512x1024) hz, View.ld_unit_zero (S := S1x1024) hz,
    View.ld_unit_zero (S := S1024x2048) hz]

/-- The left half of a point's product, at row `r` and column `j`. -/
theorem left_apply (x : Vec Ideal S512x1024 .f32) (g : Vec Ideal S1x1024 .f32) (w : Vec Ideal S1024x2048 .bf16) (r : Fin 512) (j : Fin 1024) :
    k0_pay3 (k0_pay1 x g) w (ix2 r j)
      = ∑ k : Fin 1024, rms (fun l => x (ix2 r l)) (fun l => g (ix2 0 l)) k * w (ix2 k ⟨j.val, by omega⟩) := by
  pointwise [k0_pay3, k0_pay2, k0_pay1]
  rfl

/-- The right half of a point's product, at row `r` and column `j`. -/
theorem right_apply (x : Vec Ideal S512x1024 .f32) (g : Vec Ideal S1x1024 .f32) (w : Vec Ideal S1024x2048 .bf16) (r : Fin 512) (j : Fin 1024) :
    k0_pay4 (k0_pay1 x g) w (ix2 r j)
      = ∑ k : Fin 1024, rms (fun l => x (ix2 r l)) (fun l => g (ix2 0 l)) k * w (ix2 k ⟨1024 + j.val, by omega⟩) := by
  pointwise [k0_pay4, k0_pay2, k0_pay1]
  rfl

/-! ## The arrays the blocks are cut from, in the arguments -/

theorem rows_apply (c : Dev nD) (p j : Fin 1024) :
    (V m c main_v0 : S1024x1024.Idx → EReal) (ix2 p j)
      = m ((c : Thread nD τ).loc main_arg0) (ix3 ⟨p.val / 256, by omega⟩ ⟨p.val % 256, by omega⟩ j) := by
  unfold V
  after_reads_at

theorem gain_apply (c : Dev nD) (j : Fin 1024) :
    (V m c main_v3 : S1x1024.Idx → EReal) (ix2 0 j) = m ((c : Thread nD τ).loc main_arg1) (ix1 j) := by
  unfold V
  after_reads_at

theorem key_weight_apply (c : Dev nD) (k j : Fin 1024) :
    (V m c main_v2 : S1024x2048.Idx → EReal) (ix2 k ⟨j.val, by omega⟩) = m ((c : Thread nD τ).loc main_arg2) (ix2 k j) := by
  unfold V
  after_reads_at
  rfl

theorem value_weight_apply (c : Dev nD) (k j : Fin 1024) :
    (V m c main_v2 : S1024x2048.Idx → EReal) (ix2 k ⟨1024 + j.val, by omega⟩) = m ((c : Thread nD τ).loc main_arg3) (ix2 k j) := by
  unfold V
  after_reads_at
  rfl

/-! ## The blocks, cut from those arrays -/

/-- The block a window takes at each of the two points: point `t` takes the rows `512 t` to `512 t + 511` of the memory
    and writes the same rows of the results; the gain and the weights are taken whole. -/
theorem index_facts : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem rows_block (c : Dev nD) (t : Fin cfg0.N) (r : Fin 512) (j : Fin 1024) (p : Fin 1024) (hp : p.val = 512 * t.val + r.val) :
    (iblk m c 0 t : S512x1024.Idx → EReal) (ix2 r j) = m ((c : Thread nD τ).loc main_arg0) (ix3 ⟨p.val / 256, by omega⟩ ⟨p.val % 256, by omega⟩ j) := by
  refine Eq.trans ?_ (rows_apply m c p j)
  obtain ⟨e, -⟩ := index_facts t
  show V m c main_v0 _ = V m c main_v0 _
  congr 1
  funext a
  apply Fin.ext
  match a with
  | ⟨0, _⟩ => show win0_0.index t 0 * 512 + 1 * r.val = p.val; rw [e, hp]; simp; ring
  | ⟨1, _⟩ => show win0_0.index t 1 * 1024 + 1 * j.val = j.val; rw [e]; simp

theorem gain_block (c : Dev nD) (t : Fin cfg0.N) (j : Fin 1024) :
    (iblk m c 1 t : S1x1024.Idx → EReal) (ix2 0 j) = m ((c : Thread nD τ).loc main_arg1) (ix1 j) := by
  refine Eq.trans ?_ (gain_apply m c j)
  obtain ⟨-, e, -⟩ := index_facts t
  show V m c main_v3 _ = V m c main_v3 _
  congr 1
  funext a
  apply Fin.ext
  match a with
  | ⟨0, _⟩ => show win0_1.index t 0 * 1 + 1 * 0 = 0; rw [e]; simp
  | ⟨1, _⟩ => show win0_1.index t 1 * 1024 + 1 * j.val = j.val; rw [e]; simp

theorem weight_block (c : Dev nD) (t : Fin cfg0.N) (k : Fin 1024) (j : Fin 2048) :
    (iblk m c 2 t : S1024x2048.Idx → EReal) (ix2 k j) = V m c main_v2 (ix2 k j) := by
  obtain ⟨-, -, e, -⟩ := index_facts t
  show V m c main_v2 _ = V m c main_v2 _
  congr 1
  funext a
  apply Fin.ext
  match a with
  | ⟨0, _⟩ => show win0_2.index t 0 * 1024 + 1 * k.val = k.val; rw [e]; simp
  | ⟨1, _⟩ => show win0_2.index t 1 * 2048 + 1 * j.val = j.val; rw [e]; simp

theorem key_weight_block (c : Dev nD) (t : Fin cfg0.N) (k j : Fin 1024) :
    (iblk m c 2 t : S1024x2048.Idx → EReal) (ix2 k ⟨j.val, by omega⟩) = m ((c : Thread nD τ).loc main_arg2) (ix2 k j) :=
  (weight_block m c t k _).trans (key_weight_apply m c k j)

theorem value_weight_block (c : Dev nD) (t : Fin cfg0.N) (k j : Fin 1024) :
    (iblk m c 2 t : S1024x2048.Idx → EReal) (ix2 k ⟨1024 + j.val, by omega⟩) = m ((c : Thread nD τ).loc main_arg3) (ix2 k j) :=
  (weight_block m c t k _).trans (value_weight_apply m c k j)

/-! ## What a point writes is its block of the product -/

abbrev keys (c : Dev nD) : S1024x1024.Idx → EReal :=
  product (m ((c : Thread nD τ).loc main_arg0)) (m ((c : Thread nD τ).loc main_arg1)) (m ((c : Thread nD τ).loc main_arg2))
abbrev values (c : Dev nD) : S1024x1024.Idx → EReal :=
  product (m ((c : Thread nD τ).loc main_arg0)) (m ((c : Thread nD τ).loc main_arg1)) (m ((c : Thread nD τ).loc main_arg3))

theorem flushed_keys (c : Dev nD) (t : Fin cfg0.N) :
    (dats m 0 c).flushed 3 t = ((cfg0.win 3).blk t).view.read (Elt Ideal) (keys m c) := by
  have e : win0_3.index t = ![t.val, 0] := by
    obtain ⟨-, -, -, e3, e4⟩ := index_facts t
    exact e3
  have ht : t.val < 2 := lt_of_lt_of_eq t.isLt N_0
  rw [Value.flushed3_A, keys_block]
  funext y
  obtain ⟨r, j, rfl⟩ : ∃ (r : Fin 512) (j : Fin 1024), y = ix2 r j := ⟨y 0, y 1, by funext a; match a with | ⟨0, _⟩ => rfl | ⟨1, _⟩ => rfl⟩
  have hp : 512 * t.val + r.val < 1024 := by omega
  have hi : (((cfg0.win 3).blk t).view.emb (ix2 r j) : S1024x1024.Idx) = ix2 ⟨512 * t.val + r.val, hp⟩ j := by
    funext a
    apply Fin.ext
    match a with
    | ⟨0, _⟩ => show win0_3.index t 0 * 512 + 1 * r.val = 512 * t.val + r.val; rw [e]; simp; ring
    | ⟨1, _⟩ => show win0_3.index t 1 * 1024 + 1 * j.val = j.val; rw [e]; simp
  show k0_pay3 (k0_pay1 (iblk m c 0 t) (iblk m c 1 t)) (iblk m c 2 t) (ix2 r j) = keys m c (((cfg0.win 3).blk t).view.emb (ix2 r j))
  refine Eq.trans ?_ (congrArg (keys m c) hi).symm
  rw [left_apply]
  simp only [rows_block m c t r _ ⟨512 * t.val + r.val, hp⟩ rfl, gain_block m c t, key_weight_block m c t]
  rfl

theorem cover_keys (i : S1024x1024.Idx) : ∃ t : Fin cfg0.N, (cfg0.win 3).flush t = true ∧ i ∈ ((cfg0.win 3).blk t).view.set := by
  have h0 : (i 0).val < 1024 := (i 0).isLt
  have h1 : (i 1).val < 1024 := (i 1).isLt
  let t : Fin cfg0.N := ⟨(i 0).val / 512, lt_of_lt_of_eq (by omega) N_0.symm⟩
  have e : win0_3.index t = ![t.val, 0] := by
    obtain ⟨-, -, -, e3, e4⟩ := index_facts t
    exact e3
  refine ⟨t, (by decide +kernel : ∀ t : Fin grid0.N, win0_3.flush t = true) t, ?_⟩
  show i ∈ ((View.whole main_v4_0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [e]; show (i 0).val / 512 * 512 ≤ (i 0).val ∧ (i 0).val < (i 0).val / 512 * 512 + 512; omega
  | ⟨1, _⟩ =>
    show win0_3.index t 1 * 1024 ≤ (i 1).val ∧ (i 1).val < win0_3.index t 1 * 1024 + 1024
    rw [e]; show 0 * 1024 ≤ (i 1).val ∧ (i 1).val < 0 * 1024 + 1024; omega

theorem final_keys (c : Dev nD) : (dats m 0 c).arrAt 3 cfg0.N = keys m c :=
  (dats m 0 c).arrAt_eq_of_cover 3 _ (fun t _ => flushed_keys m c t) cover_keys

theorem flushed_values (c : Dev nD) (t : Fin cfg0.N) :
    (dats m 0 c).flushed 4 t = ((cfg0.win 4).blk t).view.read (Elt Ideal) (values m c) := by
  have e : win0_4.index t = ![t.val, 0] := by
    obtain ⟨-, -, -, e3, e4⟩ := index_facts t
    exact e4
  have ht : t.val < 2 := lt_of_lt_of_eq t.isLt N_0
  rw [Value.flushed4_A, values_block]
  funext y
  obtain ⟨r, j, rfl⟩ : ∃ (r : Fin 512) (j : Fin 1024), y = ix2 r j := ⟨y 0, y 1, by funext a; match a with | ⟨0, _⟩ => rfl | ⟨1, _⟩ => rfl⟩
  have hp : 512 * t.val + r.val < 1024 := by omega
  have hi : (((cfg0.win 4).blk t).view.emb (ix2 r j) : S1024x1024.Idx) = ix2 ⟨512 * t.val + r.val, hp⟩ j := by
    funext a
    apply Fin.ext
    match a with
    | ⟨0, _⟩ => show win0_4.index t 0 * 512 + 1 * r.val = 512 * t.val + r.val; rw [e]; simp; ring
    | ⟨1, _⟩ => show win0_4.index t 1 * 1024 + 1 * j.val = j.val; rw [e]; simp
  show k0_pay4 (k0_pay1 (iblk m c 0 t) (iblk m c 1 t)) (iblk m c 2 t) (ix2 r j) = values m c (((cfg0.win 4).blk t).view.emb (ix2 r j))
  refine Eq.trans ?_ (congrArg (values m c) hi).symm
  rw [right_apply]
  simp only [rows_block m c t r _ ⟨512 * t.val + r.val, hp⟩ rfl, gain_block m c t, value_weight_block m c t]
  rfl

theorem cover_values (i : S1024x1024.Idx) : ∃ t : Fin cfg0.N, (cfg0.win 4).flush t = true ∧ i ∈ ((cfg0.win 4).blk t).view.set := by
  have h0 : (i 0).val < 1024 := (i 0).isLt
  have h1 : (i 1).val < 1024 := (i 1).isLt
  let t : Fin cfg0.N := ⟨(i 0).val / 512, lt_of_lt_of_eq (by omega) N_0.symm⟩
  have e : win0_4.index t = ![t.val, 0] := by
    obtain ⟨-, -, -, e3, e4⟩ := index_facts t
    exact e4
  refine ⟨t, (by decide +kernel : ∀ t : Fin grid0.N, win0_4.flush t = true) t, ?_⟩
  show i ∈ ((View.whole main_v4_1).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [e]; show (i 0).val / 512 * 512 ≤ (i 0).val ∧ (i 0).val < (i 0).val / 512 * 512 + 512; omega
  | ⟨1, _⟩ =>
    show win0_4.index t 1 * 1024 ≤ (i 1).val ∧ (i 1).val < win0_4.index t 1 * 1024 + 1024
    rw [e]; show 0 * 1024 ≤ (i 1).val ∧ (i 1).val < 0 * 1024 + 1024; omega

theorem final_values (c : Dev nD) : (dats m 0 c).arrAt 4 cfg0.N = values m c :=
  (dats m 0 c).arrAt_eq_of_cover 4 _ (fun t _ => flushed_values m c t) cover_values

/-- The run: the two results end holding the two products, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = keys m c
      ∧ r.2.mem ((c : Thread nD τ).loc main_v4_1) = values m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_keys m c), (h c).2.1.trans (final_values m c), (h c).2.2⟩)
    (Value.run_blocks m ρ)

end Cert.MemoryBlock

end
-- ==== Proof.MemoryClaim.lean ====
/-
  The keys and values of the memory: the reference's two arrays are the two products of the normalized memory with the
  weights, which the kernel's arrays hold too.
-/
module

public import proofs.«01_k».proof.Defs
public import proofs.«01_k».proof.Proof.MemoryBlock
public import proofs.«01_k».proof.Proof.Gen.MemoryRefIdeal.Run

@[expose] public section

noncomputable section

namespace Cert.MemoryClaim

open Idealize.ShloMosaic Idealize.ShloMosaic.TcCoe Idealize.SL.Sem
open Idealize.ShloMosaic.Pointwise
open Cert.MemoryRefIdeal Cert.MemoryRefIdeal.Gen
open Cert.MemoryBlock (product)

/-- The memory after the RMS normalization, as the reference writes it. -/
def normed (x : FVec Ideal S4x256x1024 .f32) (g : FVec Ideal S1024 .f32) : FVec Ideal S4x256x1024 .f32 :=
  mulf (mulf x (broadcastInDim S4x256x1024 ![0, 1, 2] bcast_S4x256x1_S4x256x1024_0_1_2
    (Host.rsqrt (addf (Host.divf (broadcastInDim S4x256x1 ![0, 1] bcast_S4x256_S4x256x1_0_1
      (Host.reduceAdd (mulf x x) (constant S_ .f32 0x00000000#32) reducesTo_S4x256x1024_S4x256_d2 h_S_))
      (broadcastInDim S4x256x1 ![] bcast_S_S4x256x1 (constant S_ .f32 0x44800000#32)))
      (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 g))

/-- It is the row normalization of every row. -/
theorem normed_apply (x : FVec Ideal S4x256x1024 .f32) (g : FVec Ideal S1024 .f32) (a : Fin 4) (b : Fin 256) (j : Fin 1024) :
    normed x g (ix3 a b j) = Cert.Rows.rms (fun l => x (ix3 a b l)) (fun l => g (ix1 l)) j := by
  pointwise [normed]
  rfl

/-- A product of the normalized memory with a weight, as the reference writes it. -/
def result (x : FVec Ideal S4x256x1024 .f32) (g : FVec Ideal S1024 .f32) (w : FVec Ideal S1024x1024 .f32) : FVec Ideal S1024x1024 .bf16 :=
  truncf .bf16 (Host.dotGeneral dot_S1024x1024_S1024x1024_S1024x1024_1_0_0_1_n_n none
    (shapeCast _ (normed x g) shapeCasts_S4x256x1024_S1024x1024) w) bitsLt_bf16_f32

theorem result_eq (x : FVec Ideal S4x256x1024 .f32) (g : FVec Ideal S1024 .f32) (w : FVec Ideal S1024x1024 .f32) :
    result x g w = product x g w := by
  funext i
  obtain ⟨p, q, rfl⟩ : ∃ (p q : Fin 1024), i = ix2 p q := ⟨i 0, i 1, by funext a; match a with | ⟨0, _⟩ => rfl | ⟨1, _⟩ => rfl⟩
  pointwise [result]
  simp only [normed_apply]
  rfl

/-- The reference: its results are the products of the normalized memory with the two weights. -/
theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v15)
        = product (m ((c : Thread nD τ).loc main_arg0)) (m ((c : Thread nD τ).loc main_arg1)) (m ((c : Thread nD τ).loc main_arg2))
      ∧ r.2.mem ((c : Thread nD τ).loc main_v17)
        = product (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2⟩) (Value.run m ρ)
  · exact result_eq _ _ _
  · exact result_eq _ _ _

theorem equal : Cert.algebraic_MemoryIdeal_MemoryRefIdeal := by
  intro m ρ m' ρ' _ hagree
  refine ⟨fun c => Cert.MemoryBlock.keys m c, fun c => Cert.MemoryBlock.values m c, Cert.MemoryBlock.run m ρ, ?_⟩
  refine (θ_run defs _ _).mono (fun _ h c => ⟨(h c).1.trans ?_, (h c).2.1.trans ?_, (h c).2.2⟩) (reference m' ρ')
  · obtain ⟨h0, h1, h2, h3⟩ := hagree c
    rw [h0, h1, h2]
  · obtain ⟨h0, h1, h2, h3⟩ := hagree c
    rw [h0, h1, h3]

end Cert.MemoryClaim

end
-- ==== Proof.CrossBlock.lean ====
/-
  The cross attention: what one grid point of the kernel writes, and what its result array holds after the run. A point
  normalizes 512 rows of one batch, forms their queries, attends with each of the four heads over the 256 positions of the
  memory, multiplies the heads set side by side by the output weight and adds the rows themselves.
-/
module

public import proofs.«01_k».proof.Proof.Rows
public import proofs.«01_k».proof.Proof.Gen.CrossIdeal.Value
public import Idealize.ShloMosaic.Lib.StableHlo.ReadAt

@[expose] public section

noncomputable section
namespace Cert.CrossBlock
open Idealize.ShloMosaic Idealize.ShloMosaic.TcCoe Idealize.SL.Sem Cert.CrossIdeal Cert.CrossIdeal.Gen
open Idealize.ShloMosaic.Pointwise
open Cert.Rows

/-- The query of one row of a block. -/
def query (x : Vec Ideal S1x512x1024 .f32) (g : Vec Ideal S1x1024 .f32) (w : Vec Ideal S1024x1024 .bf16) (r : Fin 512) (j : Fin 1024) : EReal :=
  ∑ k, rms (fun l => x (ix3 0 r l)) (fun l => g (ix2 0 l)) k * w (ix2 k j)

theorem query_apply (x : Vec Ideal S1x512x1024 .f32) (g : Vec Ideal S1x1024 .f32) (w : Vec Ideal S1024x1024 .bf16) (r : Fin 512) (j : Fin 1024) :
    k0_pay3 x g w (ix2 r j) = query x g w r j := by
  pointwise [k0_pay3, k0_pay2]
  rfl

theorem first_apply (x : Vec Ideal S1x512x1024 .f32) (g : Vec Ideal S1x1024 .f32) (w : Vec Ideal S1024x1024 .bf16)
    (k v : Vec Ideal S1x256x1024 .bf16) (r : Fin 512) (j : Fin 256) :
    k0_pay6 (k0_pay4 x g w (View.ld k r0_3)) (k0_pay5 (View.ld v r0_3)) (constant S512x256 .f32 0x00000000#32) (ix2 r j)
      = head 1 (query x g w r) (fun n c => k (ix3 0 n c)) (fun n c => v (ix3 0 n c)) 0 (by omega) ⟨j.val, by omega⟩ := by
  pointwise [k0_pay6, k0_pay4, k0_pay5]
  simp only [query_apply, head, mul_one, zero_add]
  rfl

theorem second_apply (q : FVec Ideal S512x1024 .bf16)
    (k v : Vec Ideal S1x256x1024 .bf16) (r : Fin 512) (j : Fin 256) :
    k0_pay7 q (View.ld k r0_4) (View.ld v r0_4) (ix2 r j)
      = head 1 (fun j => q (ix2 r j)) (fun n c => k (ix3 0 n c)) (fun n c => v (ix3 0 n c)) 256 (by omega) ⟨256 + j.val, by omega⟩ := by
  pointwise [k0_pay7]
  simp only [head, mul_one]
  rfl

theorem third_apply (q : FVec Ideal S512x1024 .bf16)
    (k v : Vec Ideal S1x256x1024 .bf16) (r : Fin 512) (j : Fin 256) :
    k0_pay8 q (View.ld k r0_5) (View.ld v r0_5) (ix2 r j)
      = head 1 (fun j => q (ix2 r j)) (fun n c => k (ix3 0 n c)) (fun n c => v (ix3 0 n c)) 512 (by omega) ⟨512 + j.val, by omega⟩ := by
  pointwise [k0_pay8]
  simp only [head, mul_one]
  rfl

/-- The row a point writes from its four heads. -/
theorem row_apply (y : FVec Ideal S512x1024 .f32) (a b c : FVec Ideal S512x256 .f32) (q : FVec Ideal S512x1024 .bf16)
    (k v : Vec Ideal S1x256x1024 .bf16) (o : Vec Ideal S1024x1024 .bf16) (r : Fin 512) (j : Fin 1024) (f : Fin 1024 → EReal)
    (h0 : ∀ i : Fin 256, a (ix2 r i) = f ⟨i.val, by omega⟩) (h1 : ∀ i : Fin 256, b (ix2 r i) = f ⟨256 + i.val, by omega⟩)
    (h2 : ∀ i : Fin 256, c (ix2 r i) = f ⟨512 + i.val, by omega⟩)
    (h3 : ∀ i : Fin 256, head 1 (fun j => q (ix2 r j)) (fun n c => k (ix3 0 n c)) (fun n c => v (ix3 0 n c)) 768 (by omega) ⟨768 + i.val, by omega⟩ = f ⟨768 + i.val, by omega⟩) :
    k0_pay1 y a b c (k0_pay9 q) (View.ld k r0_6) (View.ld v r0_6) o (ix3 0 r j) = y (ix2 r j) + ∑ i, f i * o (ix2 i j) := by
  pointwise [k0_pay1, k0_pay9]
  simp only [h0, h1, h2]
  simp only [head, mul_one] at h3
  refine congrArg (y (ix2 r j) + ·) (Finset.sum_congr rfl fun x _ => congrArg (· * o (ix2 x j)) ?_)
  have hx : x.val < 1024 := x.isLt
  by_cases e0 : x.val < 256
  · rw [dif_pos e0]
  rw [dif_neg e0]
  by_cases e1 : x.val - 256 < 256
  · rw [dif_pos e1]
    exact congrArg f (Fin.ext (by show 256 + (x.val - 256) = x.val; omega))
  rw [dif_neg e1]
  by_cases e2 : x.val - 256 - 256 < 256
  · rw [dif_pos e2]
    exact congrArg f (Fin.ext (by show 512 + (x.val - 256 - 256) = x.val; omega))
  rw [dif_neg e2]
  exact (h3 ⟨x.val - 256 - 256 - 256, by omega⟩).trans
    (congrArg f (Fin.ext (by show 768 + (x.val - 256 - 256 - 256) = x.val; omega)))

theorem hz2 : (![0, 0] : Fin 2 → Nat) = fun _ => 0 := funext fun a => by fin_cases a <;> rfl
theorem hz3 : (![0, 0, 0] : Fin 3 → Nat) = fun _ => 0 := funext fun a => by fin_cases a <;> rfl

/-- What a point writes, from its input blocks. -/
theorem block_apply (x : Vec Ideal S1x512x1024 .f32) (g : Vec Ideal S1x1024 .f32) (w : Vec Ideal S1024x1024 .bf16)
    (k v : Vec Ideal S1x256x1024 .bf16) (o : Vec Ideal S1024x1024 .bf16) (r : Fin 512) (j : Fin 1024) :
    out0_6 x g w k v o (ix3 0 r j)
      = x (ix3 0 r j) + ∑ c, attend 1 (query x g w r) (fun n c => k (ix3 0 n c)) (fun n c => v (ix3 0 n c)) c * o (ix2 c j) := by
  unfold out0_6 k0_pay10
  rw [View.canon_unit_zero hz3]
  simp only [View.ld_unit_zero (S := S1x512x1024) hz3, View.ld_unit_zero (S := S1x1024) hz2, View.ld_unit_zero (S := S1024x1024) hz2]
  refine (row_apply _ _ _ _ _ _ _ _ r j (attend 1 (query x g w r) (fun n c => k (ix3 0 n c)) (fun n c => v (ix3 0 n c))) ?_ ?_ ?_ ?_).trans ?_
  · intro i
    refine (first_apply x g w k v r i).trans ?_
    exact head_congr _ _ _ _ _ _ _ _ (by show 0 = i.val / 256 * 256; omega) rfl
  · intro i
    refine (second_apply _ k v r i).trans ?_
    simp only [query_apply]
    exact head_congr _ _ _ _ _ _ _ _ (by show 256 = (256 + i.val) / 256 * 256; omega) rfl
  · intro i
    refine (third_apply _ k v r i).trans ?_
    simp only [query_apply]
    exact head_congr _ _ _ _ _ _ _ _ (by show 512 = (512 + i.val) / 256 * 256; omega) rfl
  · intro i
    simp only [query_apply]
    exact head_congr _ _ _ _ _ _ _ _ (by show 768 = (768 + i.val) / 256 * 256; omega) rfl
  · refine congrArg (· + _) ?_
    pointwise [k0_pay2]

variable (m : (ℓ : Loc nD τ sig) → Buf (Elt Ideal) ℓ)

/-- The cross attention of one batch row, at column `j`: the row plus its attention times the output weight. -/
def entry (x : S4x4096x1024.Idx → EReal) (g : S1024.Idx → EReal) (wq : S1024x1024.Idx → EReal) (k v : S4x256x1024.Idx → EReal)
    (wo : S1024x1024.Idx → EReal) (a : Fin 4) (p : Fin 4096) (j : Fin 1024) : EReal :=
  x (ix3 a p j) + ∑ c, attend (Ideal.ofBits FTy.f32 1031798784#32)
    (fun j => ∑ i, rms (fun l => x (ix3 a p l)) (fun l => g (ix1 l)) i * wq (ix2 i j))
    (fun n c => k (ix3 a n c)) (fun n c => v (ix3 a n c)) c * wo (ix2 c j)

/-- The same as an array. -/
def attention (x : S4x4096x1024.Idx → EReal) (g : S1024.Idx → EReal) (wq : S1024x1024.Idx → EReal) (k v : S4x256x1024.Idx → EReal)
    (wo : S1024x1024.Idx → EReal) : S4x4096x1024.Idx → EReal :=
  fun i => entry x g wq k v wo (i 0) (i 1) (i 2)

/-- An entry of the query weight times the sixteenth that scales the scores. -/
abbrev scaled (w : S1024x1024.Idx → EReal) (i j : Fin 1024) : EReal := w (ix2 i j) * Ideal.ofBits FTy.f32 1031798784#32

/-! ## The arrays the blocks are cut from, in the arguments -/

theorem gain_apply (c : Dev nD) (j : Fin 1024) :
    (V m c main_v6 : S1x1024.Idx → EReal) (ix2 0 j) = m ((c : Thread nD τ).loc main_arg1) (ix1 j) := by
  unfold V
  after_reads_at

theorem query_weight_apply (c : Dev nD) (i j : Fin 1024) :
    (V m c main_v4 : S1024x1024.Idx → EReal) (ix2 i j) = scaled (m ((c : Thread nD τ).loc main_arg2)) i j := by
  unfold V
  after_reads_at

theorem keys_apply (c : Dev nD) (a : Fin 4) (n : Fin 256) (j : Fin 1024) :
    (V m c main_v0 : S4x256x1024.Idx → EReal) (ix3 a n j) = m ((c : Thread nD τ).loc main_arg3) (ix3 a n j) := by
  unfold V
  after_reads_at

theorem values_apply (c : Dev nD) (a : Fin 4) (n : Fin 256) (j : Fin 1024) :
    (V m c main_v1 : S4x256x1024.Idx → EReal) (ix3 a n j) = m ((c : Thread nD τ).loc main_arg4) (ix3 a n j) := by
  unfold V
  after_reads_at

theorem output_weight_apply (c : Dev nD) (i j : Fin 1024) :
    (V m c main_v5 : S1024x1024.Idx → EReal) (ix2 i j) = m ((c : Thread nD τ).loc main_arg5) (ix2 i j) := by
  unfold V
  after_reads_at

theorem rows_apply (c : Dev nD) (a : Fin 4) (p : Fin 4096) (j : Fin 1024) :
    (V m c main_arg0 : S4x4096x1024.Idx → EReal) (ix3 a p j) = m ((c : Thread nD τ).loc main_arg0) (ix3 a p j) := by
  unfold V
  after_reads_at

/-! ## The blocks, cut from those arrays -/

/-- The block a window takes at each of the 32 points: point `t` takes the batch `t / 8` and its row block `t % 8`, the keys
    and values of that batch, the gain and the weights whole, and writes the row block it took. -/
theorem index_facts : ∀ t : Fin cfg0.N, win0_0.index t = ![t.val / 8, t.val % 8, 0] ∧ win0_1.index t = ![0, 0] ∧ win0_2.index t = ![0, 0]
    ∧ win0_3.index t = ![t.val / 8, 0, 0] ∧ win0_4.index t = ![t.val / 8, 0, 0] ∧ win0_5.index t = ![0, 0]
    ∧ win0_6.index t = ![t.val / 8, t.val % 8, 0] :=
  (by decide +kernel : ∀ t : Fin grid0.N, _)

theorem rows_block (c : Dev nD) (t : Fin cfg0.N) (r : Fin 512) (j : Fin 1024) (a : Fin 4) (p : Fin 4096) (ha : a.val = t.val / 8)
    (hp : p.val = t.val % 8 * 512 + r.val) :
    (iblk m c 0 t : S1x512x1024.Idx → EReal) (ix3 0 r j) = m ((c : Thread nD τ).loc main_arg0) (ix3 a p j) := by
  refine Eq.trans ?_ (rows_apply m c a p j)
  obtain ⟨e, -⟩ := index_facts t
  show V m c main_arg0 _ = V m c main_arg0 _
  congr 1
  funext b
  apply Fin.ext
  match b with
  | ⟨0, _⟩ => show win0_0.index t 0 * 1 + 1 * 0 = a.val; rw [e, ha]; simp
  | ⟨1, _⟩ => show win0_0.index t 1 * 512 + 1 * r.val = p.val; rw [e, hp]; simp
  | ⟨2, _⟩ => show win0_0.index t 2 * 1024 + 1 * j.val = j.val; rw [e]; simp

theorem gain_block (c : Dev nD) (t : Fin cfg0.N) (j : Fin 1024) :
    (iblk m c 1 t : S1x1024.Idx → EReal) (ix2 0 j) = m ((c : Thread nD τ).loc main_arg1) (ix1 j) := by
  refine Eq.trans ?_ (gain_apply m c j)
  obtain ⟨-, e, -⟩ := index_facts t
  show V m c main_v6 _ = V m c main_v6 _
  congr 1
  funext a
  apply Fin.ext
  match a with
  | ⟨0, _⟩ => show win0_1.index t 0 * 1 + 1 * 0 = 0; rw [e]; simp
  | ⟨1, _⟩ => show win0_1.index t 1 * 1024 + 1 * j.val = j.val; rw [e]; simp

theorem query_weight_block (c : Dev nD) (t : Fin cfg0.N) (i j : Fin 1024) :
    (iblk m c 2 t : S1024x1024.Idx → EReal) (ix2 i j) = scaled (m ((c : Thread nD τ).loc main_arg2)) i j := by
  refine Eq.trans ?_ (query_weight_apply m c i j)
  obtain ⟨-, -, e, -⟩ := index_facts t
  show V m c main_v4 _ = V m c main_v4 _
  congr 1
  funext a
  apply Fin.ext
  match a with
  | ⟨0, _⟩ => show win0_2.index t 0 * 1024 + 1 * i.val = i.val; rw [e]; simp
  | ⟨1, _⟩ => show win0_2.index t 1 * 1024 + 1 * j.val = j.val; rw [e]; simp

theorem keys_block (c : Dev nD) (t : Fin cfg0.N) (n : Fin 256) (j : Fin 1024) (a : Fin 4) (ha : a.val = t.val / 8) :
    (iblk m c 3 t : S1x256x1024.Idx → EReal) (ix3 0 n j) = m ((c : Thread nD τ).loc main_arg3) (ix3 a n j) := by
  refine Eq.trans ?_ (keys_apply m c a n j)
  obtain ⟨-, -, -, e, -⟩ := index_facts t
  show V m c main_v0 _ = V m c main_v0 _
  congr 1
  funext b
  apply Fin.ext
  match b with
  | ⟨0, _⟩ => show win0_3.index t 0 * 1 + 1 * 0 = a.val; rw [e, ha]; simp
  | ⟨1, _⟩ => show win0_3.index t 1 * 256 + 1 * n.val = n.val; rw [e]; simp
  | ⟨2, _⟩ => show win0_3.index t 2 * 1024 + 1 * j.val = j.val; rw [e]; simp

theorem values_block (c : Dev nD) (t : Fin cfg0.N) (n : Fin 256) (j : Fin 1024) (a : Fin 4) (ha : a.val = t.val / 8) :
    (iblk m c 4 t : S1x256x1024.Idx → EReal) (ix3 0 n j) = m ((c : Thread nD τ).loc main_arg4) (ix3 a n j) := by
  refine Eq.trans ?_ (values_apply m c a n j)
  obtain ⟨-, -, -, -, e, -⟩ := index_facts t
  show V m c main_v1 _ = V m c main_v1 _
  congr 1
  funext b
  apply Fin.ext
  match b with
  | ⟨0, _⟩ => show win0_4.index t 0 * 1 + 1 * 0 = a.val; rw [e, ha]; simp
  | ⟨1, _⟩ => show win0_4.index t 1 * 256 + 1 * n.val = n.val; rw [e]; simp
  | ⟨2, _⟩ => show win0_4.index t 2 * 1024 + 1 * j.val = j.val; rw [e]; simp

theorem output_weight_block (c : Dev nD) (t : Fin cfg0.N) (i j : Fin 1024) :
    (iblk m c 5 t : S1024x1024.Idx → EReal) (ix2 i j) = m ((c : Thread nD τ).loc main_arg5) (ix2 i j) := by
  refine Eq.trans ?_ (output_weight_apply m c i j)
  obtain ⟨-, -, -, -, -, e, -⟩ := index_facts t
  show V m c main_v5 _ = V m c main_v5 _
  congr 1
  funext a
  apply Fin.ext
  match a with
  | ⟨0, _⟩ => show win0_5.index t 0 * 1024 + 1 * i.val = i.val; rw [e]; simp
  | ⟨1, _⟩ => show win0_5.index t 1 * 1024 + 1 * j.val = j.val; rw [e]; simp

/-! ## What a point writes is its block of the attention -/

abbrev final (c : Dev nD) : S4x4096x1024.Idx → EReal :=
  attention (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem flushed (c : Dev nD) (t : Fin cfg0.N) :
    (dats m 0 c).flushed 6 t = ((cfg0.win 6).blk t).view.read (Elt Ideal) (final m c) := by
  have e : win0_6.index t = ![t.val / 8, t.val % 8, 0] := by
    obtain ⟨-, -, -, -, -, -, e6⟩ := index_facts t
    exact e6
  have ht : t.val < 32 := lt_of_lt_of_eq t.isLt N_0
  rw [Value.flushed6]
  funext y
  obtain ⟨r, j, rfl⟩ : ∃ (r : Fin 512) (j : Fin 1024), y = ix3 0 r j :=
    ⟨y 1, y 2, by funext a; match a with | ⟨0, _⟩ => exact Subsingleton.elim (α := Fin 1) _ _ | ⟨1, _⟩ => rfl | ⟨2, _⟩ => rfl⟩
  have ha : t.val / 8 < 4 := by omega
  have hp : t.val % 8 * 512 + r.val < 4096 := by omega
  have hi : (((cfg0.win 6).blk t).view.emb (ix3 0 r j) : S4x4096x1024.Idx) = ix3 ⟨t.val / 8, ha⟩ ⟨t.val % 8 * 512 + r.val, hp⟩ j := by
    funext a
    apply Fin.ext
    match a with
    | ⟨0, _⟩ => show win0_6.index t 0 * 1 + 1 * 0 = t.val / 8; rw [e]; simp
    | ⟨1, _⟩ => show win0_6.index t 1 * 512 + 1 * r.val = t.val % 8 * 512 + r.val; rw [e]; simp
    | ⟨2, _⟩ => show win0_6.index t 2 * 1024 + 1 * j.val = j.val; rw [e]; simp
  show out0_6 (iblk m c 0 t) (iblk m c 1 t) (iblk m c 2 t) (iblk m c 3 t) (iblk m c 4 t) (iblk m c 5 t) (ix3 0 r j)
    = final m c (((cfg0.win 6).blk t).view.emb (ix3 0 r j))
  refine Eq.trans ?_ (congrArg (final m c) hi).symm
  rw [block_apply]
  unfold query
  simp only [rows_block m c t r _ ⟨t.val / 8, ha⟩ ⟨t.val % 8 * 512 + r.val, hp⟩ rfl rfl, gain_block m c t, query_weight_block m c t,
    keys_block m c t _ _ ⟨t.val / 8, ha⟩ rfl, values_block m c t _ _ ⟨t.val / 8, ha⟩ rfl, output_weight_block m c t,
    query_scaled _ _ sixteenth_nonneg sixteenth_ne_top, head_scaled _ _ _ sixteenth_nonneg sixteenth_ne_top]
  rfl

theorem cover (i : S4x4096x1024.Idx) : ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 1024 := (i 2).isLt
  let t : Fin cfg0.N := ⟨8 * (i 0).val + (i 1).val / 512, lt_of_lt_of_eq (by omega) N_0.symm⟩
  have e : win0_6.index t = ![t.val / 8, t.val % 8, 0] := by
    obtain ⟨-, -, -, -, -, -, e6⟩ := index_facts t
    exact e6
  have q0 : t.val / 8 = (i 0).val := by show (8 * (i 0).val + (i 1).val / 512) / 8 = (i 0).val; omega
  have q1 : t.val % 8 = (i 1).val / 512 := by show (8 * (i 0).val + (i 1).val / 512) % 8 = (i 1).val / 512; omega
  rw [q0, q1] at e
  refine ⟨t, (by decide +kernel : ∀ t : Fin grid0.N, win0_6.flush t = true) t, ?_⟩
  show i ∈ ((View.whole main_v7).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [e]; show (i 0).val * 1 ≤ (i 0).val ∧ (i 0).val < (i 0).val * 1 + 1; omega
  | ⟨1, _⟩ =>
    show win0_6.index t 1 * 512 ≤ (i 1).val ∧ (i 1).val < win0_6.index t 1 * 512 + 512
    rw [e]; show (i 1).val / 512 * 512 ≤ (i 1).val ∧ (i 1).val < (i 1).val / 512 * 512 + 512; omega
  | ⟨2, _⟩ =>
    show win0_6.index t 2 * 1024 ≤ (i 2).val ∧ (i 2).val < win0_6.index t 2 * 1024 + 1024
    rw [e]; show 0 * 1024 ≤ (i 2).val ∧ (i 2).val < 0 * 1024 + 1024; omega

theorem final_array (c : Dev nD) : (dats m 0 c).arrAt 6 cfg0.N = final m c :=
  (dats m 0 c).arrAt_eq_of_cover 6 _ (fun t _ => flushed m c t) cover

/-- The run: the result ends holding the attention, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v7) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_array m c), (h c).2⟩) (Value.run_blocks m ρ)

end Cert.CrossBlock
end
-- ==== Proof.CrossClaim.lean ====
/-
  The cross attention: the reference's array is the attention of every row, which the kernel's array holds too.
-/
module

public import proofs.«01_k».proof.Defs
public import proofs.«01_k».proof.Proof.CrossBlock
public import proofs.«01_k».proof.Proof.Gen.CrossRefIdeal.Run

@[expose] public section

noncomputable section

namespace Cert.CrossClaim

open Idealize.ShloMosaic Idealize.ShloMosaic.TcCoe Idealize.SL.Sem
open Idealize.ShloMosaic.Pointwise
open Cert.CrossRefIdeal Cert.CrossRefIdeal.Gen
open Cert.CrossBlock (attention)
open Cert.Rows

/-- The rows after the RMS normalization, as the reference writes them. -/
def normed (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2
    (Host.rsqrt (addf (Host.divf (broadcastInDim S4x4096x1 ![0, 1] bcast_S4x4096_S4x4096x1_0_1
      (Host.reduceAdd (mulf x x) (constant S_ .f32 0x00000000#32) reducesTo_S4x4096x1024_S4x4096_d2 h_S_))
      (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

theorem normed_apply (x : FVec Ideal S4x4096x1024 .f32) (g : FVec Ideal S1024 .f32) (a : Fin 4) (p : Fin 4096) (j : Fin 1024) :
    normed x g (ix3 a p j) = rms (fun l => x (ix3 a p l)) (fun l => g (ix1 l)) j := by
  pointwise [normed]
  rfl

/-- The product of an array of rows with a weight. -/
def rowsTimes (x : FVec Ideal S4x4096x1024 .f32) (w : FVec Ideal S1024x1024 .f32) : FVec Ideal S4x4096x1024 .f32 :=
  Host.dotGeneral dot_S4x4096x1024_S1024x1024_S4x4096x1024_2_0_01_1_n_n none x w

theorem rowsTimes_apply (x : FVec Ideal S4x4096x1024 .f32) (w : FVec Ideal S1024x1024 .f32) (a : Fin 4) (p : Fin 4096) (j : Fin 1024) :
    rowsTimes x w (ix3 a p j) = ∑ k : Fin 1024, x (ix3 a p k) * w (ix2 k j) := by
  pointwise [rowsTimes]

/-- The queries split into heads, from the rows of queries. -/
def heads (q : FVec Ideal S4x4096x1024 .f32) : FVec Ideal S4x4x4096x256 .f32 :=
  transpose S4x4x4096x256 [0, 2, 1, 3] (shapeCast _ q shapeCasts_S4x4096x1024_S4x4096x4x256) transposes_S4x4096x4x256_S4x4x4096x256_0_2_1_3

theorem heads_apply (q : FVec Ideal S4x4096x1024 .f32) (a h : Fin 4) (p : Fin 4096) (d : Fin 256) :
    heads q (ix4 a h p d) = q (ix3 a p ⟨h.val * 256 + d.val, by omega⟩) := by
  pointwise [heads]

/-- The keys or the values split into heads. -/
def memHeads (k : FVec Ideal S4x256x1024 .f32) : FVec Ideal S4x4x256x256 .f32 :=
  transpose S4x4x256x256 [0, 2, 1, 3] (shapeCast _ k shapeCasts_S4x256x1024_S4x256x4x256) transposes_S4x256x4x256_S4x4x256x256_0_2_1_3

theorem memHeads_apply (k : FVec Ideal S4x256x1024 .f32) (a h : Fin 4) (n : Fin 256) (d : Fin 256) :
    memHeads k (ix4 a h n d) = k (ix3 a n ⟨h.val * 256 + d.val, by omega⟩) := by
  pointwise [memHeads]

/-- The scores of every head. -/
def scores (q : FVec Ideal S4x4x4096x256 .f32) (k : FVec Ideal S4x4x256x256 .f32) : FVec Ideal S4x4x4096x256 .f32 :=
  mulf (Host.dotGeneral dot_S4x4x4096x256_S4x4x256x256_S4x4x4096x256_3_3_2_2_01_01 none q k)
    (broadcastInDim S4x4x4096x256 ![] bcast_S_S4x4x4096x256 (constant S_ .f32 0x3D800000#32))

theorem scores_apply (q : FVec Ideal S4x4x4096x256 .f32) (k : FVec Ideal S4x4x256x256 .f32) (a h : Fin 4) (p : Fin 4096) (n : Fin 256) :
    scores q k (ix4 a h p n) = (∑ d : Fin 256, q (ix4 a h p d) * k (ix4 a h n d)) * Ideal.ofBits FTy.f32 1031798784#32 := by
  pointwise [scores]

/-- The greatest score of every row. -/
def greatest (s : FVec Ideal S4x4x4096x256 .f32) : FVec Ideal S4x4x4096 .f32 :=
  Host.reduce FloatOps.maximumf s (constant S_ .f32 0xFF800000#32) reducesTo_S4x4x4096x256_S4x4x4096_d3 h_S_

theorem greatest_apply (s : FVec Ideal S4x4x4096x256 .f32) (a h : Fin 4) (p : Fin 4096) :
    greatest s (ix3 a h p) = Finset.univ.fold max (Ideal.ofBits FTy.f32 4286578688#32) (fun n : Fin 256 => s (ix4 a h p n)) := by
  pointwise [greatest]

/-- The exponentials of an array, shifted by the greater of `z` and of `top` in each row. -/
def shiftedBy (s : FVec Ideal S4x4x4096x256 .f32) (z : FVec Ideal S_ .f32) (top : FVec Ideal S4x4x4096 .f32) : FVec Ideal S4x4x4096x256 .f32 :=
  Host.exp (subf s (broadcastInDim S4x4x4096x256 ![0, 1, 2, 3] bcast_S4x4x4096x1_S4x4x4096x256_0_1_2_3
    (broadcastInDim S4x4x4096x1 ![0, 1, 2] bcast_S4x4x4096_S4x4x4096x1_0_1_2
      (maximumf (broadcastInDim S4x4x4096 ![] bcast_S_S4x4x4096 z) top))))

theorem shiftedBy_apply (s : FVec Ideal S4x4x4096x256 .f32) (z : FVec Ideal S_ .f32) (top : FVec Ideal S4x4x4096 .f32) (a h : Fin 4) (p : Fin 4096) (n : Fin 256) :
    shiftedBy s z top (ix4 a h p n) = Ideal.exp (s (ix4 a h p n) - max (z ix0) (top (ix3 a h p))) := by
  pointwise [shiftedBy]

/-- The exponentials of the scores, shifted by the greatest of their row. -/
def shifted (s : FVec Ideal S4x4x4096x256 .f32) : FVec Ideal S4x4x4096x256 .f32 :=
  shiftedBy s (constant S_ .f32 0xFF800000#32) (greatest s)

theorem shifted_apply (s : FVec Ideal S4x4x4096x256 .f32) (a h : Fin 4) (p : Fin 4096) (n : Fin 256) :
    shifted s (ix4 a h p n) = Ideal.exp (s (ix4 a h p n)
      - Finset.univ.fold max (Ideal.ofBits FTy.f32 4286578688#32) (fun n : Fin 256 => s (ix4 a h p n))) := by
  have e : (constant S_ .f32 0xFF800000#32 : FVec Ideal S_ .f32) ix0 = (⊥ : EReal) := lowest
  refine (shiftedBy_apply s _ _ a h p n).trans ?_
  rw [e, greatest_apply]
  exact congrArg (fun y => Ideal.exp (s (ix4 a h p n) - y)) (max_eq_right bot_le)

/-- The softmax of the scores. -/
def weights (s : FVec Ideal S4x4x4096x256 .f32) : FVec Ideal S4x4x4096x256 .f32 :=
  Host.divf (shifted s) (broadcastInDim S4x4x4096x256 ![0, 1, 2, 3] bcast_S4x4x4096x1_S4x4x4096x256_0_1_2_3
    (broadcastInDim S4x4x4096x1 ![0, 1, 2] bcast_S4x4x4096_S4x4x4096x1_0_1_2
      (Host.reduceAdd (shifted s) (constant S_ .f32 0x00000000#32) reducesTo_S4x4x4096x256_S4x4x4096_d3 h_S_)))

theorem weights_apply (s : FVec Ideal S4x4x4096x256 .f32) (a h : Fin 4) (p : Fin 4096) (n : Fin 256) :
    weights s (ix4 a h p n) = soft (fun n => s (ix4 a h p n)) n := by
  pointwise [weights]
  simp only [shifted_apply]
  rfl

/-- The heads' sums of values, set side by side. -/
def joined (s : FVec Ideal S4x4x4096x256 .f32) (v : FVec Ideal S4x4x256x256 .f32) : FVec Ideal S4x4096x1024 .f32 :=
  shapeCast _ (transpose S4x4096x4x256 [0, 2, 1, 3] (Host.dotGeneral dot_S4x4x4096x256_S4x4x256x256_S4x4x4096x256_3_2_2_3_01_01 none (weights s) v)
    transposes_S4x4x4096x256_S4x4096x4x256_0_2_1_3) shapeCasts_S4x4096x4x256_S4x4096x1024

theorem joined_apply (s : FVec Ideal S4x4x4096x256 .f32) (v : FVec Ideal S4x4x256x256 .f32) (a : Fin 4) (p : Fin 4096) (c : Fin 1024) :
    joined s v (ix3 a p c) = ∑ n, soft (fun n => s (ix4 a ⟨c.val / 256, by omega⟩ p n)) n * v (ix4 a ⟨c.val / 256, by omega⟩ n ⟨c.val % 256, by omega⟩) := by
  pointwise [joined]
  simp only [weights_apply]

/-- The whole reference. -/
def result (x : FVec Ideal S4x4096x1024 .f32) (g : FVec Ideal S1024 .f32) (wq : FVec Ideal S1024x1024 .f32) (k v : FVec Ideal S4x256x1024 .f32)
    (wo : FVec Ideal S1024x1024 .f32) : FVec Ideal S4x4096x1024 .f32 :=
  addf x (rowsTimes (joined (scores (heads (rowsTimes (normed x g) wq)) (memHeads k)) (memHeads v)) wo)

theorem result_eq (x : FVec Ideal S4x4096x1024 .f32) (g : FVec Ideal S1024 .f32) (wq : FVec Ideal S1024x1024 .f32) (k v : FVec Ideal S4x256x1024 .f32)
    (wo : FVec Ideal S1024x1024 .f32) : result x g wq k v wo = attention x g wq k v wo := by
  funext i
  obtain ⟨a, p, j, rfl⟩ : ∃ (a : Fin 4) (p : Fin 4096) (j : Fin 1024), i = ix3 a p j :=
    ⟨i 0, i 1, i 2, by funext a; match a with | ⟨0, _⟩ => rfl | ⟨1, _⟩ => rfl | ⟨2, _⟩ => rfl⟩
  refine congrArg (x (ix3 a p j) + ·) ?_
  refine (rowsTimes_apply _ _ a p j).trans (Finset.sum_congr rfl fun c _ => congrArg (· * wo (ix2 c j)) ?_)
  rw [joined_apply]
  simp only [scores_apply, heads_apply, memHeads_apply, rowsTimes_apply, normed_apply]
  have hc : c.val < 1024 := c.isLt
  have e : ∀ h : c.val / 256 * 256 + c.val % 256 < 1024, (⟨c.val / 256 * 256 + c.val % 256, h⟩ : Fin 1024) = c := fun h => Fin.ext (by show c.val / 256 * 256 + c.val % 256 = c.val; omega)
  simp only [e]
  rfl

/-- The reference: its result is the attention of its arguments. -/
theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v38)
        = attention (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun _ h c => ⟨(h c).1.trans ?_, (h c).2⟩) (Value.run m ρ)
  exact result_eq _ _ _ _ _ _

theorem equal : Cert.algebraic_CrossIdeal_CrossRefIdeal := by
  intro m ρ m' ρ' _ hagree
  refine ⟨fun c => Cert.CrossBlock.final m c, Cert.CrossBlock.run m ρ, ?_⟩
  refine (θ_run defs _ _).mono (fun _ h c => ⟨(h c).1.trans ?_, (h c).2⟩) (reference m' ρ')
  obtain ⟨h0, h1, h2, h3, h4, h5⟩ := hagree c
  rw [h0, h1, h2, h3, h4, h5]

end Cert.CrossClaim

end
-- ==== Proof.SwigluBlock.lean ====
/-
  The gated feed-forward layer: what the two grid points of one row block of the kernel write, and what its result array
  holds after the run. The first point of a row block normalizes its 512 rows and keeps them; both points add to the rows
  the product of their 1408 gated hidden columns with the matching rows of the down weight; the second writes the sum.
-/
module

public import proofs.«01_k».proof.Proof.Rows
public import proofs.«01_k».proof.Proof.Gen.SwigluIdeal.Value
public import Idealize.ShloMosaic.Lib.StableHlo.ReadAt

@[expose] public section

noncomputable section

namespace Cert.SwigluBlock

open Idealize.ShloMosaic Idealize.ShloMosaic.TcCoe Idealize.SL.Sem Cert.SwigluIdeal Cert.SwigluIdeal.Gen
open Idealize.ShloMosaic.Pointwise
open Cert.Rows (rms)

theorem hz : (![0, 0] : Fin 2 → Nat) = fun _ => 0 := funext fun a => by fin_cases a <;> rfl

/-- A hidden column: the gate's activation times the up projection. -/
def gated (u v : EReal) : EReal := u * Ideal.logistic u * v

/-! ## What a point leaves, from its input blocks -/

theorem kept_rows (c : Dev nD) (i : grid0.Coords) (a2 : Memref sig .tc .vmem S512x1024 .f32) (h2 : a2.IsWhole) (a3 : Memref sig .tc .vmem S1x1024 .f32) (h3 : a3.IsWhole)
    (a4 : Memref sig .tc .vmem S1024x1408 .bf16) (h4 : a4.IsWhole) (a5 : Memref sig .tc .vmem S1024x1408 .bf16) (h5 : a5.IsWhole)
    (a6 : Memref sig .tc .vmem S1408x1024 .bf16) (h6 : a6.IsWhole) (a7 : Memref sig .tc .vmem S512x1024 .f32) (h7 : a7.IsWhole)
    (a8 : Memref sig .tc .vmem S512x1024 .bf16) (h8 : a8.IsWhole) (a9 : Memref sig .tc .vmem S512x1024 .f32) (h9 : a9.IsWhole)
    (hc0 : cond0_0 i) (hc1 : ¬cond0_1 i) (x : Vec Ideal S512x1024 .f32) (g : Vec Ideal S1x1024 .f32) (u v : Vec Ideal S1024x1408 .bf16) (w : Vec Ideal S1408x1024 .bf16) :
    sout0_A_0 c i a2 h2 a3 h3 a4 h4 a5 h5 a6 h6 a7 h7 a8 h8 a9 h9 hc0 hc1 x g u v w = k0_pay1 x g := by
  unfold sout0_A_0
  rw [View.read_writes_eq_canon _ _ _ (scover0_A_0 c i a2 h2 a3 h3 a4 h4 a5 h5 a6 h6 a7 h7 a8 h8 a9 h9 hc0 hc1 x g u v w)]
  unfold kernelRun0_A
  dsimp only
  sl_unfold_words
  rw [View.canon_unit_zero hz]
  simp only [View.readAt_eq_ld, h2.read_unread, h3.read_unread, View.ld_unit_zero (S := S512x1024) hz, View.ld_unit_zero (S := S1x1024) hz, View.ld_unit_zero (S := S1024x1408) hz, View.ld_unit_zero (S := S1408x1024) hz]

theorem first_sum (c : Dev nD) (i : grid0.Coords) (a2 : Memref sig .tc .vmem S512x1024 .f32) (h2 : a2.IsWhole) (a3 : Memref sig .tc .vmem S1x1024 .f32) (h3 : a3.IsWhole)
    (a4 : Memref sig .tc .vmem S1024x1408 .bf16) (h4 : a4.IsWhole) (a5 : Memref sig .tc .vmem S1024x1408 .bf16) (h5 : a5.IsWhole)
    (a6 : Memref sig .tc .vmem S1408x1024 .bf16) (h6 : a6.IsWhole) (a7 : Memref sig .tc .vmem S512x1024 .f32) (h7 : a7.IsWhole)
    (a8 : Memref sig .tc .vmem S512x1024 .bf16) (h8 : a8.IsWhole) (a9 : Memref sig .tc .vmem S512x1024 .f32) (h9 : a9.IsWhole)
    (hc0 : cond0_0 i) (hc1 : ¬cond0_1 i) (x : Vec Ideal S512x1024 .f32) (g : Vec Ideal S1x1024 .f32) (u v : Vec Ideal S1024x1408 .bf16) (w : Vec Ideal S1408x1024 .bf16) :
    sout0_A_1 c i a2 h2 a3 h3 a4 h4 a5 h5 a6 h6 a7 h7 a8 h8 a9 h9 hc0 hc1 x g u v w = k0_pay3 (k0_pay1 x g) u v (k0_pay2 x) w := by
  unfold sout0_A_1
  rw [View.read_writes_eq_canon _ _ _ (scover0_A_1 c i a2 h2 a3 h3 a4 h4 a5 h5 a6 h6 a7 h7 a8 h8 a9 h9 hc0 hc1 x g u v w)]
  unfold kernelRun0_A
  dsimp only
  sl_unfold_words
  rw [View.canon_cons_unit_zero (S := S512x1024) hz]
  simp only [View.readCov_unit_zero (S := S512x1024) _ hz, View.readAt_eq_ld, h2.read_unread, h3.read_unread, h4.read_unread, h5.read_unread, h6.read_unread, View.ld_unit_zero (S := S512x1024) hz, View.ld_unit_zero (S := S1x1024) hz, View.ld_unit_zero (S := S1024x1408) hz, View.ld_unit_zero (S := S1408x1024) hz]

theorem written (c : Dev nD) (i : grid0.Coords) (a2 : Memref sig .tc .vmem S512x1024 .f32) (h2 : a2.IsWhole) (a3 : Memref sig .tc .vmem S1x1024 .f32) (h3 : a3.IsWhole)
    (a4 : Memref sig .tc .vmem S1024x1408 .bf16) (h4 : a4.IsWhole) (a5 : Memref sig .tc .vmem S1024x1408 .bf16) (h5 : a5.IsWhole)
    (a6 : Memref sig .tc .vmem S1408x1024 .bf16) (h6 : a6.IsWhole) (a7 : Memref sig .tc .vmem S512x1024 .f32) (h7 : a7.IsWhole)
    (a8 : Memref sig .tc .vmem S512x1024 .bf16) (h8 : a8.IsWhole) (a9 : Memref sig .tc .vmem S512x1024 .f32) (h9 : a9.IsWhole)
    (hc0 : ¬cond0_0 i) (hc1 : cond0_1 i) (x : Vec Ideal S512x1024 .f32) (g : Vec Ideal S1x1024 .f32) (u v : Vec Ideal S1024x1408 .bf16) (w : Vec Ideal S1408x1024 .bf16)
    (n : Vec Ideal S512x1024 .bf16) (s : Vec Ideal S512x1024 .f32) :
    out0_B_5 c i a2 h2 a3 h3 a4 h4 a5 h5 a6 h6 a7 h7 a8 h8 a9 h9 hc0 hc1 x g u v w n s = k0_pay3 n u v s w := by
  unfold out0_B_5
  rw [View.read_writes_eq_canon _ _ _ (cover0_B_5 c i a2 h2 a3 h3 a4 h4 a5 h5 a6 h6 a7 h7 a8 h8 a9 h9 hc0 hc1 x g u v w n s)]
  unfold kernelRun0_B
  dsimp only
  sl_unfold_words
  rw [View.canon_unit_zero hz]
  simp only [View.readCov_unit_zero (S := S512x1024) _ hz, View.readAt_eq_ld, h4.read_unread, h5.read_unread, h6.read_unread, h8.read_unread, h9.read_unread, View.ld_unit_zero (S := S512x1024) hz, View.ld_unit_zero (S := S1x1024) hz, View.ld_unit_zero (S := S1024x1408) hz, View.ld_unit_zero (S := S1408x1024) hz]

/-- The kept rows at an index. -/
theorem kept_apply (x : Vec Ideal S512x1024 .f32) (g : Vec Ideal S1x1024 .f32) (r : Fin 512) (j : Fin 1024) :
    k0_pay1 x g (ix2 r j) = rms (fun l => x (ix2 r l)) (fun l => g (ix2 0 l)) j := by
  pointwise [k0_pay1]
  rfl

/-- The sum a point leaves, at an index. -/
theorem sum_apply (n : Vec Ideal S512x1024 .bf16) (u v : Vec Ideal S1024x1408 .bf16) (s : Vec Ideal S512x1024 .f32) (w : Vec Ideal S1408x1024 .bf16) (r : Fin 512) (j : Fin 1024) :
    k0_pay3 n u v s w (ix2 r j)
      = s (ix2 r j) + ∑ f : Fin 1408, gated (∑ k : Fin 1024, n (ix2 r k) * u (ix2 k f)) (∑ k : Fin 1024, n (ix2 r k) * v (ix2 k f)) * w (ix2 f j) := by
  pointwise [k0_pay3]
  rfl

theorem start_apply (x : Vec Ideal S512x1024 .f32) (r : Fin 512) (j : Fin 1024) : k0_pay2 x (ix2 r j) = x (ix2 r j) := by
  pointwise [k0_pay2]

variable (m : (ℓ : Loc nD τ sig) → Buf (Elt Ideal) ℓ)

/-- The layer at row `p` and column `j`: the row plus the product of its 2816 gated hidden columns with the down weight. -/
def entry (x : S16384x1024.Idx → EReal) (g : S1024.Idx → EReal) (u v : S1024x2816.Idx → EReal) (w : S2816x1024.Idx → EReal) (p : Fin 16384) (j : Fin 1024) : EReal :=
  x (ix2 p j) + ∑ f : Fin 2816, gated (∑ k : Fin 1024, rms (fun l => x (ix2 p l)) (fun l => g (ix1 l)) k * u (ix2 k f))
    (∑ k : Fin 1024, rms (fun l => x (ix2 p l)) (fun l => g (ix1 l)) k * v (ix2 k f)) * w (ix2 f j)

/-- The same as an array. -/
def layer (x : S16384x1024.Idx → EReal) (g : S1024.Idx → EReal) (u v : S1024x2816.Idx → EReal) (w : S2816x1024.Idx → EReal) : S16384x1024.Idx → EReal :=
  fun i => entry x g u v w (i 0) (i 1)

/-! ## The arrays the blocks are cut from, in the arguments -/

theorem rows_apply (c : Dev nD) (p : Fin 16384) (j : Fin 1024) :
    (V m c main_arg0 : S16384x1024.Idx → EReal) (ix2 p j) = m ((c : Thread nD τ).loc main_arg0) (ix2 p j) := by
  unfold V
  after_reads_at

theorem gain_apply (c : Dev nD) (j : Fin 1024) :
    (V m c main_v0 : S1x1024.Idx → EReal) (ix2 0 j) = m ((c : Thread nD τ).loc main_arg1) (ix1 j) := by
  unfold V
  after_reads_at

theorem gate_apply (c : Dev nD) (k : Fin 1024) (f : Fin 2816) :
    (V m c main_v1 : S1024x2816.Idx → EReal) (ix2 k f) = m ((c : Thread nD τ).loc main_arg2) (ix2 k f) := by
  unfold V
  after_reads_at

theorem up_apply (c : Dev nD) (k : Fin 1024) (f : Fin 2816) :
    (V m c main_v2 : S1024x2816.Idx → EReal) (ix2 k f) = m ((c : Thread nD τ).loc main_arg3) (ix2 k f) := by
  unfold V
  after_reads_at

theorem down_apply (c : Dev nD) (f : Fin 2816) (j : Fin 1024) :
    (V m c main_v3 : S2816x1024.Idx → EReal) (ix2 f j) = m ((c : Thread nD τ).loc main_arg4) (ix2 f j) := by
  unfold V
  after_reads_at

/-! ## The blocks, cut from those arrays -/

/-- The block a window takes at each of the 64 points: point `t` takes the row block `t / 2` and the half `t % 2` of the
    hidden columns, and its row block is written. -/
theorem index_facts : ∀ t : Fin cfg0.N, win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![t.val / 2, 0] :=
  (by decide +kernel : ∀ t : Fin grid0.N, _)

theorem rows_block (c : Dev nD) (t : Fin cfg0.N) (r : Fin 512) (j : Fin 1024) (p : Fin 16384) (hp : p.val = t.val / 2 * 512 + r.val) :
    (iblk m c 0 t : S512x1024.Idx → EReal) (ix2 r j) = m ((c : Thread nD τ).loc main_arg0) (ix2 p j) := by
  refine Eq.trans ?_ (rows_apply m c p j)
  obtain ⟨e, -⟩ := index_facts t
  show V m c main_arg0 _ = V m c main_arg0 _
  congr 1
  funext a
  apply Fin.ext
  match a with
  | ⟨0, _⟩ => show win0_0.index t 0 * 512 + 1 * r.val = p.val; rw [e, hp]; simp
  | ⟨1, _⟩ => show win0_0.index t 1 * 1024 + 1 * j.val = j.val; rw [e]; simp

theorem gain_block (c : Dev nD) (t : Fin cfg0.N) (j : Fin 1024) :
    (iblk m c 1 t : S1x1024.Idx → EReal) (ix2 0 j) = m ((c : Thread nD τ).loc main_arg1) (ix1 j) := by
  refine Eq.trans ?_ (gain_apply m c j)
  obtain ⟨-, e, -⟩ := index_facts t
  show V m c main_v0 _ = V m c main_v0 _
  congr 1
  funext a
  apply Fin.ext
  match a with
  | ⟨0, _⟩ => show win0_1.index t 0 * 1 + 1 * 0 = 0; rw [e]; simp
  | ⟨1, _⟩ => show win0_1.index t 1 * 1024 + 1 * j.val = j.val; rw [e]; simp

theorem gate_block (c : Dev nD) (t : Fin cfg0.N) (k : Fin 1024) (f : Fin 1408) (q : Fin 2816) (hq : q.val = t.val % 2 * 1408 + f.val) :
    (iblk m c 2 t : S1024x1408.Idx → EReal) (ix2 k f) = m ((c : Thread nD τ).loc main_arg2) (ix2 k q) := by
  refine Eq.trans ?_ (gate_apply m c k q)
  obtain ⟨-, -, e, -⟩ := index_facts t
  show V m c main_v1 _ = V m c main_v1 _
  congr 1
  funext a
  apply Fin.ext
  match a with
  | ⟨0, _⟩ => show win0_2.index t 0 * 1024 + 1 * k.val = k.val; rw [e]; simp
  | ⟨1, _⟩ => show win0_2.index t 1 * 1408 + 1 * f.val = q.val; rw [e, hq]; simp

theorem up_block (c : Dev nD) (t : Fin cfg0.N) (k : Fin 1024) (f : Fin 1408) (q : Fin 2816) (hq : q.val = t.val % 2 * 1408 + f.val) :
    (iblk m c 3 t : S1024x1408.Idx → EReal) (ix2 k f) = m ((c : Thread nD τ).loc main_arg3) (ix2 k q) := by
  refine Eq.trans ?_ (up_apply m c k q)
  obtain ⟨-, -, -, e, -⟩ := index_facts t
  show V m c main_v2 _ = V m c main_v2 _
  congr 1
  funext a
  apply Fin.ext
  match a with
  | ⟨0, _⟩ => show win0_3.index t 0 * 1024 + 1 * k.val = k.val; rw [e]; simp
  | ⟨1, _⟩ => show win0_3.index t 1 * 1408 + 1 * f.val = q.val; rw [e, hq]; simp

theorem down_block (c : Dev nD) (t : Fin cfg0.N) (f : Fin 1408) (j : Fin 1024) (q : Fin 2816) (hq : q.val = t.val % 2 * 1408 + f.val) :
    (iblk m c 4 t : S1408x1024.Idx → EReal) (ix2 f j) = m ((c : Thread nD τ).loc main_arg4) (ix2 q j) := by
  refine Eq.trans ?_ (down_apply m c q j)
  obtain ⟨-, -, -, -, e, -⟩ := index_facts t
  show V m c main_v3 _ = V m c main_v3 _
  congr 1
  funext a
  apply Fin.ext
  match a with
  | ⟨0, _⟩ => show win0_4.index t 0 * 1408 + 1 * f.val = q.val; rw [e, hq]; simp
  | ⟨1, _⟩ => show win0_4.index t 1 * 1024 + 1 * j.val = j.val; rw [e]; simp

/-! ## What a row block's second point writes is its block of the layer -/

/-- Two halves of 1408 columns make the 2816. -/
theorem halves (f : Fin 2816 → EReal) :
    (∑ i : Fin 1408, f ⟨i.val, by omega⟩) + ∑ i : Fin 1408, f ⟨1408 + i.val, by omega⟩ = ∑ i, f i :=
  (Fin.sum_univ_add (a := 1408) (b := 1408) f).symm

/-- An entry of the layer as its two points add it up. -/
theorem halves_entry (x : S16384x1024.Idx → EReal) (g : S1024.Idx → EReal) (u v : S1024x2816.Idx → EReal) (w : S2816x1024.Idx → EReal) (p : Fin 16384) (j : Fin 1024) :
    (x (ix2 p j) + ∑ f : Fin 1408, gated (∑ k : Fin 1024, rms (fun l => x (ix2 p l)) (fun l => g (ix1 l)) k * u (ix2 k ⟨f.val, by omega⟩))
        (∑ k : Fin 1024, rms (fun l => x (ix2 p l)) (fun l => g (ix1 l)) k * v (ix2 k ⟨f.val, by omega⟩)) * w (ix2 ⟨f.val, by omega⟩ j))
      + ∑ f : Fin 1408, gated (∑ k : Fin 1024, rms (fun l => x (ix2 p l)) (fun l => g (ix1 l)) k * u (ix2 k ⟨1408 + f.val, by omega⟩))
        (∑ k : Fin 1024, rms (fun l => x (ix2 p l)) (fun l => g (ix1 l)) k * v (ix2 k ⟨1408 + f.val, by omega⟩)) * w (ix2 ⟨1408 + f.val, by omega⟩ j)
      = entry x g u v w p j :=
  (add_assoc _ _ _).trans (congrArg (x (ix2 p j) + ·) (halves fun f => gated (∑ k : Fin 1024, rms (fun l => x (ix2 p l)) (fun l => g (ix1 l)) k * u (ix2 k f))
    (∑ k : Fin 1024, rms (fun l => x (ix2 p l)) (fun l => g (ix1 l)) k * v (ix2 k f)) * w (ix2 f j)))

abbrev final (c : Dev nD) : S16384x1024.Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4))

theorem flushed (c : Dev nD) (t : Fin cfg0.N) (hf : (cfg0.win 5).flush t = true) :
    (dats m 0 c).flushed 5 t = ((cfg0.win 5).blk t).view.read (Elt Ideal) (final m c) := by
  have h1 : t.val % 2 = 1 := (flush0_5 t).mp hf
  have ht : t.val < 64 := lt_of_lt_of_eq t.isLt N_0
  have e : win0_5.index t = ![t.val / 2, 0] := by
    obtain ⟨-, -, -, -, -, e5⟩ := index_facts t
    exact e5
  have hs : t.val - 1 < cfg0.N := Nat.lt_of_le_of_lt (Nat.sub_le _ _) t.isLt
  rw [Value.flushed5_B m c t (by omega) h1, written]
  have hA := outsAt0_A m c ⟨t.val - 1, hs⟩ (by show (t.val - 1) % 2 = 0; omega) (by show ¬(t.val - 1) % 2 = 1; omega)
  rw [kept_rows, first_sum] at hA
  have hA0 : (outsAt0 m c (t.val - 1) hs).2.1 = k0_pay1 (iblk m c 0 ⟨t.val - 1, hs⟩) (iblk m c 1 ⟨t.val - 1, hs⟩) := congrArg (fun z => z.2.1) hA
  have hA1 : (outsAt0 m c (t.val - 1) hs).2.2 = k0_pay3 (k0_pay1 (iblk m c 0 ⟨t.val - 1, hs⟩) (iblk m c 1 ⟨t.val - 1, hs⟩)) (iblk m c 2 ⟨t.val - 1, hs⟩)
    (iblk m c 3 ⟨t.val - 1, hs⟩) (k0_pay2 (iblk m c 0 ⟨t.val - 1, hs⟩)) (iblk m c 4 ⟨t.val - 1, hs⟩) := congrArg (fun z => z.2.2) hA
  rw [hA0, hA1]
  funext y
  obtain ⟨r, j, rfl⟩ : ∃ (r : Fin 512) (j : Fin 1024), y = ix2 r j := ⟨y 0, y 1, by funext a; match a with | ⟨0, _⟩ => rfl | ⟨1, _⟩ => rfl⟩
  have hp : t.val / 2 * 512 + r.val < 16384 := by omega
  have hi : (((cfg0.win 5).blk t).view.emb (ix2 r j) : S16384x1024.Idx) = ix2 ⟨t.val / 2 * 512 + r.val, hp⟩ j := by
    funext a
    apply Fin.ext
    match a with
    | ⟨0, _⟩ => show win0_5.index t 0 * 512 + 1 * r.val = t.val / 2 * 512 + r.val; rw [e]; simp
    | ⟨1, _⟩ => show win0_5.index t 1 * 1024 + 1 * j.val = j.val; rw [e]; simp
  show k0_pay3 (k0_pay1 (iblk m c 0 ⟨t.val - 1, hs⟩) (iblk m c 1 ⟨t.val - 1, hs⟩)) (iblk m c 2 t) (iblk m c 3 t)
      (k0_pay3 (k0_pay1 (iblk m c 0 ⟨t.val - 1, hs⟩) (iblk m c 1 ⟨t.val - 1, hs⟩)) (iblk m c 2 ⟨t.val - 1, hs⟩)
        (iblk m c 3 ⟨t.val - 1, hs⟩) (k0_pay2 (iblk m c 0 ⟨t.val - 1, hs⟩)) (iblk m c 4 ⟨t.val - 1, hs⟩)) (iblk m c 4 t) (ix2 r j)
    = final m c (((cfg0.win 5).blk t).view.emb (ix2 r j))
  refine Eq.trans ?_ (congrArg (final m c) hi).symm
  rw [sum_apply, sum_apply, start_apply]
  have hq0 : ∀ f : Fin 1408, f.val = (⟨t.val - 1, hs⟩ : Fin cfg0.N).val % 2 * 1408 + f.val := fun f => by
    show f.val = (t.val - 1) % 2 * 1408 + f.val
    omega
  have hq1 : ∀ f : Fin 1408, 1408 + f.val = t.val % 2 * 1408 + f.val := fun f => by omega
  have hr : t.val / 2 * 512 + r.val = (⟨t.val - 1, hs⟩ : Fin cfg0.N).val / 2 * 512 + r.val := by
    show t.val / 2 * 512 + r.val = (t.val - 1) / 2 * 512 + r.val
    omega
  simp only [kept_apply, rows_block m c ⟨t.val - 1, hs⟩ r _ ⟨t.val / 2 * 512 + r.val, hp⟩ hr, gain_block m c,
    fun k f => gate_block m c t k f ⟨1408 + f.val, by omega⟩ (hq1 f), fun k f => gate_block m c ⟨t.val - 1, hs⟩ k f ⟨f.val, by omega⟩ (hq0 f),
    fun k f => up_block m c t k f ⟨1408 + f.val, by omega⟩ (hq1 f), fun k f => up_block m c ⟨t.val - 1, hs⟩ k f ⟨f.val, by omega⟩ (hq0 f),
    fun k f => down_block m c t k f ⟨1408 + k.val, by omega⟩ (hq1 k), fun k f => down_block m c ⟨t.val - 1, hs⟩ k f ⟨k.val, by omega⟩ (hq0 k)]
  exact halves_entry (m ((c : Thread nD τ).loc main_arg0)) (m ((c : Thread nD τ).loc main_arg1)) (m ((c : Thread nD τ).loc main_arg2))
    (m ((c : Thread nD τ).loc main_arg3)) (m ((c : Thread nD τ).loc main_arg4)) ⟨t.val / 2 * 512 + r.val, hp⟩ j

theorem cover (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  let t : Fin cfg0.N := ⟨2 * ((i 0).val / 512) + 1, lt_of_lt_of_eq (by omega) N_0.symm⟩
  have e : win0_5.index t = ![t.val / 2, 0] := by
    obtain ⟨-, -, -, -, -, e5⟩ := index_facts t
    exact e5
  have q0 : t.val / 2 = (i 0).val / 512 := by show (2 * ((i 0).val / 512) + 1) / 2 = (i 0).val / 512; omega
  rw [q0] at e
  refine ⟨t, (flush0_5 t).mpr (by show (2 * ((i 0).val / 512) + 1) % 2 = 1; omega), ?_⟩
  show i ∈ ((View.whole main_v4).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [e]; show (i 0).val / 512 * 512 ≤ (i 0).val ∧ (i 0).val < (i 0).val / 512 * 512 + 512; omega
  | ⟨1, _⟩ =>
    show win0_5.index t 1 * 1024 ≤ (i 1).val ∧ (i 1).val < win0_5.index t 1 * 1024 + 1024
    rw [e]; show 0 * 1024 ≤ (i 1).val ∧ (i 1).val < 0 * 1024 + 1024; omega

theorem final_array (c : Dev nD) : (dats m 0 c).arrAt 5 cfg0.N = final m c :=
  (dats m 0 c).arrAt_eq_of_cover 5 _ (fun t hf => flushed m c t hf) cover

/-- The run: the result ends holding the layer, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_array m c), (h c).2⟩) (Value.run_blocks m ρ)

end Cert.SwigluBlock

end
-- ==== Proof.SwigluClaim.lean ====
/-
  The gated feed-forward layer: the reference's array is the layer at every entry, which the kernel's array holds too.
-/
module

public import proofs.«01_k».proof.Defs
public import proofs.«01_k».proof.Proof.SwigluBlock
public import proofs.«01_k».proof.Proof.Gen.SwigluRefIdeal.Run

@[expose] public section

noncomputable section

namespace Cert.SwigluClaim

open Idealize.ShloMosaic Idealize.ShloMosaic.TcCoe Idealize.SL.Sem
open Idealize.ShloMosaic.Pointwise
open Cert.SwigluRefIdeal Cert.SwigluRefIdeal.Gen
open Cert.SwigluBlock (layer gated)
open Cert.Rows (rms)

/-- The rows after the RMS normalization, as the reference writes them. -/
def normed (x : FVec Ideal S16384x1024 .f32) (g : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem normed_apply (x : FVec Ideal S16384x1024 .f32) (g : FVec Ideal S1024 .f32) (p : Fin 16384) (j : Fin 1024) :
    normed x g (ix2 p j) = rms (fun l => x (ix2 p l)) (fun l => g (ix1 l)) j := by
  pointwise [normed]
  rfl

/-- The rows times a weight. -/
def hidden (n : FVec Ideal S16384x1024 .f32) (w : FVec Ideal S1024x2816 .f32) : FVec Ideal S16384x2816 .f32 :=
  Host.dotGeneral dot_S16384x1024_S1024x2816_S16384x2816_1_0_0_1_n_n none n w

theorem hidden_apply (n : FVec Ideal S16384x1024 .f32) (w : FVec Ideal S1024x2816 .f32) (p : Fin 16384) (f : Fin 2816) :
    hidden n w (ix2 p f) = ∑ k : Fin 1024, n (ix2 p k) * w (ix2 k f) := by
  pointwise [hidden]

/-- The gated hidden columns; the activation is the number times one over one plus the exponential of its negation. -/
def active (u v : FVec Ideal S16384x2816 .f32) (one : FVec Ideal S_ .f32) : FVec Ideal S16384x2816 .f32 :=
  mulf (mulf u (Host.divf (broadcastInDim S16384x2816 ![] bcast_S_S16384x2816 one)
    (addf (broadcastInDim S16384x2816 ![] bcast_S_S16384x2816 one) (Host.exp (Host.negf u))))) v

theorem active_apply (u v : FVec Ideal S16384x2816 .f32) (one : FVec Ideal S_ .f32) (p : Fin 16384) (f : Fin 2816) :
    active u v one (ix2 p f) = u (ix2 p f) * Ideal.div (one ix0) (one ix0 + Ideal.exp (-u (ix2 p f))) * v (ix2 p f) := by
  pointwise [active]

/-- The down product. -/
def down (h : FVec Ideal S16384x2816 .f32) (w : FVec Ideal S2816x1024 .f32) : FVec Ideal S16384x1024 .f32 :=
  Host.dotGeneral dot_S16384x2816_S2816x1024_S16384x1024_1_0_0_1_n_n none h w

theorem down_apply (h : FVec Ideal S16384x2816 .f32) (w : FVec Ideal S2816x1024 .f32) (p : Fin 16384) (j : Fin 1024) :
    down h w (ix2 p j) = ∑ f : Fin 2816, h (ix2 p f) * w (ix2 f j) := by
  pointwise [down]

theorem one_word : Ideal.ofBits FTy.f32 1065353216#32 = 1 := by
  simp [Ideal.ofBits, Ideal.ieee, -EReal.coe_mul]
  norm_num

/-- The whole reference. -/
def result (x : FVec Ideal S16384x1024 .f32) (g : FVec Ideal S1024 .f32) (u v : FVec Ideal S1024x2816 .f32) (w : FVec Ideal S2816x1024 .f32) : FVec Ideal S16384x1024 .f32 :=
  addf x (down (active (hidden (normed x g) u) (hidden (normed x g) v) (constant S_ .f32 0x3F800000#32)) w)

theorem result_eq (x : FVec Ideal S16384x1024 .f32) (g : FVec Ideal S1024 .f32) (u v : FVec Ideal S1024x2816 .f32) (w : FVec Ideal S2816x1024 .f32) :
    result x g u v w = layer x g u v w := by
  funext i
  obtain ⟨p, j, rfl⟩ : ∃ (p : Fin 16384) (j : Fin 1024), i = ix2 p j := ⟨i 0, i 1, by funext a; match a with | ⟨0, _⟩ => rfl | ⟨1, _⟩ => rfl⟩
  have e : (constant S_ .f32 0x3F800000#32 : FVec Ideal S_ .f32) ix0 = (1 : EReal) := one_word
  refine congrArg (x (ix2 p j) + ·) ?_
  rw [down_apply]
  simp only [active_apply, hidden_apply, normed_apply, e]
  rfl

/-- The reference: its result is the layer of its arguments. -/
theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v18)
        = layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ⟨(h c).1.trans ?_, (h c).2⟩) (Value.run m ρ)
  exact result_eq _ _ _ _ _

theorem equal : Cert.algebraic_SwigluIdeal_SwigluRefIdeal := by
  intro m ρ m' ρ' _ hagree
  refine ⟨fun c => Cert.SwigluBlock.final m c, Cert.SwigluBlock.run m ρ, ?_⟩
  refine (θ_run defs _ _).mono (fun _ h c => ⟨(h c).1.trans ?_, (h c).2⟩) (reference m' ρ')
  obtain ⟨h0, h1, h2, h3, h4⟩ := hagree c
  rw [h0, h1, h2, h3, h4]

end Cert.SwigluClaim

end
-- ==== Proof.NormBlock.lean ====
/-
  The last normalization: what one grid point of the kernel writes, and what its result array holds after the run. A point
  takes 1024 rows and writes the RMS normalization of each.
-/
module

public import proofs.«01_k».proof.Proof.Rows
public import proofs.«01_k».proof.Proof.Gen.NormIdeal.Value
public import Idealize.ShloMosaic.Lib.StableHlo.ReadAt

@[expose] public section

noncomputable section

namespace Cert.NormBlock

open Idealize.ShloMosaic Idealize.ShloMosaic.TcCoe Idealize.SL.Sem Cert.NormIdeal Cert.NormIdeal.Gen
open Idealize.ShloMosaic.Pointwise
open Cert.Rows (rms)

variable (m : (ℓ : Loc nD τ sig) → Buf (Elt Ideal) ℓ)

theorem hz : (![0, 0] : Fin 2 → Nat) = fun _ => 0 := funext fun a => by fin_cases a <;> rfl

/-- The normalized rows: row `p` of the 16384 is row `p % 4096` of the batch's entry `p / 4096`. -/
def normed (x : S4x4096x1024.Idx → EReal) (g : S1024.Idx → EReal) : S16384x1024.Idx → EReal :=
  fun i => rms (fun l => x (ix3 ⟨(i 0).val / 4096, by have h : (i 0).val < 16384 := (i 0).isLt; omega⟩ ⟨(i 0).val % 4096, by omega⟩ l)) (fun l => g (ix1 l)) (i 1)

/-- A point's result is the normalization of its rows. -/
theorem block (x : Vec Ideal S1024x1024 .f32) (g : Vec Ideal S1x1024 .f32) : out0_2 x g = k0_pay1 x g := by
  unfold out0_2
  rw [View.canon_unit_zero hz, View.ld_unit_zero (S := S1024x1024) hz, View.ld_unit_zero (S := S1x1024) hz]

theorem block_apply (x : Vec Ideal S1024x1024 .f32) (g : Vec Ideal S1x1024 .f32) (r j : Fin 1024) :
    k0_pay1 x g (ix2 r j) = rms (fun l => x (ix2 r l)) (fun l => g (ix2 0 l)) j := by
  pointwise [k0_pay1]
  rfl

theorem rows_apply (c : Dev nD) (p : Fin 16384) (j : Fin 1024) :
    (V m c main_v0 : S16384x1024.Idx → EReal) (ix2 p j)
      = m ((c : Thread nD τ).loc main_arg0) (ix3 ⟨p.val / 4096, by omega⟩ ⟨p.val % 4096, by omega⟩ j) := by
  unfold V
  after_reads_at

theorem gain_apply (c : Dev nD) (j : Fin 1024) :
    (V m c main_v1 : S1x1024.Idx → EReal) (ix2 0 j) = m ((c : Thread nD τ).loc main_arg1) (ix1 j) := by
  unfold V
  after_reads_at

/-- Point `t` takes and writes the rows `1024 t` to `1024 t + 1023`; the gain is taken whole. -/
theorem index_facts : ∀ t : Fin cfg0.N, win0_0.index t = ![t.val, 0] ∧ win0_1.index t = ![0, 0] ∧ win0_2.index t = ![t.val, 0] :=
  (by decide +kernel : ∀ t : Fin grid0.N, _)

theorem rows_block (c : Dev nD) (t : Fin cfg0.N) (r j : Fin 1024) (p : Fin 16384) (hp : p.val = 1024 * t.val + r.val) :
    (iblk m c 0 t : S1024x1024.Idx → EReal) (ix2 r j) = m ((c : Thread nD τ).loc main_arg0) (ix3 ⟨p.val / 4096, by omega⟩ ⟨p.val % 4096, by omega⟩ j) := by
  refine Eq.trans ?_ (rows_apply m c p j)
  obtain ⟨e, -⟩ := index_facts t
  show V m c main_v0 _ = V m c main_v0 _
  congr 1
  funext a
  apply Fin.ext
  match a with
  | ⟨0, _⟩ => show win0_0.index t 0 * 1024 + 1 * r.val = p.val; rw [e, hp]; simp; ring
  | ⟨1, _⟩ => show win0_0.index t 1 * 1024 + 1 * j.val = j.val; rw [e]; simp

theorem gain_block (c : Dev nD) (t : Fin cfg0.N) (j : Fin 1024) :
    (iblk m c 1 t : S1x1024.Idx → EReal) (ix2 0 j) = m ((c : Thread nD τ).loc main_arg1) (ix1 j) := by
  refine Eq.trans ?_ (gain_apply m c j)
  obtain ⟨-, e, -⟩ := index_facts t
  show V m c main_v1 _ = V m c main_v1 _
  congr 1
  funext a
  apply Fin.ext
  match a with
  | ⟨0, _⟩ => show win0_1.index t 0 * 1 + 1 * 0 = 0; rw [e]; simp
  | ⟨1, _⟩ => show win0_1.index t 1 * 1024 + 1 * j.val = j.val; rw [e]; simp

abbrev final (c : Dev nD) : S16384x1024.Idx → EReal :=
  normed (m ((c : Thread nD τ).loc main_arg0)) (m ((c : Thread nD τ).loc main_arg1))

theorem flushed (c : Dev nD) (t : Fin cfg0.N) :
    (dats m 0 c).flushed 2 t = ((cfg0.win 2).blk t).view.read (Elt Ideal) (final m c) := by
  obtain ⟨-, -, e⟩ := index_facts t
  have ht : t.val < 16 := lt_of_lt_of_eq t.isLt N_0
  rw [Value.flushed2, block]
  funext y
  obtain ⟨r, j, rfl⟩ : ∃ (r j : Fin 1024), y = ix2 r j := ⟨y 0, y 1, by funext a; match a with | ⟨0, _⟩ => rfl | ⟨1, _⟩ => rfl⟩
  have hp : 1024 * t.val + r.val < 16384 := by omega
  have hi : (((cfg0.win 2).blk t).view.emb (ix2 r j) : S16384x1024.Idx) = ix2 ⟨1024 * t.val + r.val, hp⟩ j := by
    funext a
    apply Fin.ext
    match a with
    | ⟨0, _⟩ => show win0_2.index t 0 * 1024 + 1 * r.val = 1024 * t.val + r.val; rw [e]; simp; ring
    | ⟨1, _⟩ => show win0_2.index t 1 * 1024 + 1 * j.val = j.val; rw [e]; simp
  show k0_pay1 (iblk m c 0 t) (iblk m c 1 t) (ix2 r j) = final m c (((cfg0.win 2).blk t).view.emb (ix2 r j))
  refine Eq.trans ?_ (congrArg (final m c) hi).symm
  rw [block_apply]
  simp only [rows_block m c t r _ ⟨1024 * t.val + r.val, hp⟩ rfl, gain_block m c t]
  rfl

theorem cover (i : S16384x1024.Idx) : ∃ t : Fin cfg0.N, (cfg0.win 2).flush t = true ∧ i ∈ ((cfg0.win 2).blk t).view.set := by
  have h0 : (i 0).val < 16384 := (i 0).isLt
  have h1 : (i 1).val < 1024 := (i 1).isLt
  let t : Fin cfg0.N := ⟨(i 0).val / 1024, lt_of_lt_of_eq (by omega) N_0.symm⟩
  obtain ⟨-, -, e⟩ := index_facts t
  refine ⟨t, (by decide +kernel : ∀ t : Fin grid0.N, win0_2.flush t = true) t, ?_⟩
  show i ∈ ((View.whole main_v2).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [e]; show (i 0).val / 1024 * 1024 ≤ (i 0).val ∧ (i 0).val < (i 0).val / 1024 * 1024 + 1024; omega
  | ⟨1, _⟩ =>
    show win0_2.index t 1 * 1024 ≤ (i 1).val ∧ (i 1).val < win0_2.index t 1 * 1024 + 1024
    rw [e]; show 0 * 1024 ≤ (i 1).val ∧ (i 1).val < 0 * 1024 + 1024; omega

/-- The run: the result ends holding the normalized rows, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = final m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed m c t) cover), (h c).2⟩)
    (Value.run_blocks m ρ)

end Cert.NormBlock

end
-- ==== Proof.NormClaim.lean ====
/-
  The last normalization: the reference's array is the normalized rows, which the kernel's array holds too.
-/
module

public import proofs.«01_k».proof.Defs
public import proofs.«01_k».proof.Proof.NormBlock
public import proofs.«01_k».proof.Proof.Gen.NormRefIdeal.Run

@[expose] public section

noncomputable section

namespace Cert.NormClaim

open Idealize.ShloMosaic Idealize.ShloMosaic.TcCoe Idealize.SL.Sem
open Idealize.ShloMosaic.Pointwise
open Cert.NormRefIdeal Cert.NormRefIdeal.Gen
open Cert.NormBlock (normed)

/-- The normalization as the reference writes it, laid out as rows. -/
def result (x : FVec Ideal S4x4096x1024 .f32) (g : FVec Ideal S1024 .f32) : FVec Ideal S16384x1024 .f32 :=
  shapeCast _ (mulf (mulf x (broadcastInDim S4x4096x1024 ![0, 1, 2] bcast_S4x4096x1_S4x4096x1024_0_1_2
    (Host.rsqrt (addf (Host.divf (broadcastInDim S4x4096x1 ![0, 1] bcast_S4x4096_S4x4096x1_0_1
      (Host.reduceAdd (mulf x x) (constant S_ .f32 0x00000000#32) reducesTo_S4x4096x1024_S4x4096_d2 h_S_))
      (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g)))
    shapeCasts_S4x4096x1024_S16384x1024

theorem result_eq (x : FVec Ideal S4x4096x1024 .f32) (g : FVec Ideal S1024 .f32) : result x g = normed x g := by
  funext i
  obtain ⟨p, j, rfl⟩ : ∃ (p : Fin 16384) (j : Fin 1024), i = ix2 p j := ⟨i 0, i 1, by funext a; match a with | ⟨0, _⟩ => rfl | ⟨1, _⟩ => rfl⟩
  pointwise [result]
  rfl

theorem equal : Cert.algebraic_NormIdeal_NormRefIdeal := by
  intro m ρ m' ρ' _ hagree
  refine ⟨fun c => Cert.NormBlock.final m c, Cert.NormBlock.run m ρ, ?_⟩
  refine (θ_run defs _ _).mono (fun _ h c => ⟨(h c).1.trans ?_, (h c).2⟩) (Value.run m' ρ')
  obtain ⟨h0, h1⟩ := hagree c
  refine Eq.trans ?_ (result_eq _ _)
  rw [h0, h1]
  rfl

end Cert.NormClaim

end
-- ==== Proof.ExpertsKit.lean ====
/-
  The experts' call: its launch set-up. @main rounds the three weights to bf16 and enters one region with two prefetched tables (the expert of each row block and
  the number of row blocks in use), read off the launch memory; the windows' blocks at a grid point; the memrefs the
  body is called on; and the claim that the arguments end unchanged, from any proof data's run.
-/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsCall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

/-- The result window is written back at the second point of each row block. -/
theorem flush0_4 (a : (pcfg0 (F := F)).Adm) : ∀ t : Fin (cfg0 a).N, ((cfg0 a).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s buffers when the region is entered: after the roundings of the three weights. -/
abbrev V (c : Dev nD) (b : Ref sig .tc) : Buf (Elt F) ((c : Thread nD τ).loc b) := StableHlo.after hostOps0 (fun b => m (c, b)) b

theorem roundings_fresh : (hostOps0 : List (HloOp τ sig (Elt F))).Forall fun op => op.fresh = ∅ := by
  simp only [List.Forall]; repeat' constructor

set_option maxHeartbeats 800000 in
/-- @main up to the region: the roundings, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub roundings_fresh main_chain

/-- The roundings write none of the arguments. -/
theorem V_kept (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) := V_kept m c _ (by decide) (by decide) (by decide)
theorem V_main_arg1 (c : Dev nD) : V m c main_arg1 = m ((c : Thread nD τ).loc main_arg1) := V_kept m c _ (by decide) (by decide) (by decide)
theorem V_main_arg2 (c : Dev nD) : V m c main_arg2 = m ((c : Thread nD τ).loc main_arg2) := V_kept m c _ (by decide) (by decide) (by decide)
theorem V_main_arg3 (c : Dev nD) : V m c main_arg3 = m ((c : Thread nD τ).loc main_arg3) := V_kept m c _ (by decide) (by decide) (by decide)
theorem V_main_arg4 (c : Dev nD) : V m c main_arg4 = m ((c : Thread nD τ).loc main_arg4) := V_kept m c _ (by decide) (by decide) (by decide)
theorem V_main_arg5 (c : Dev nD) : V m c main_arg5 = m ((c : Thread nD τ).loc main_arg5) := V_kept m c _ (by decide) (by decide) (by decide)

/-! ## The prefetched tables, read off the launch memory -/

/-- The tables' contents when the region is entered : as launched, on the one device. -/
def tbl : pre0.Contents (Elt F) := fun j => m (((0 : Dev nD) : Thread nD τ).loc (pre0.ref j))
/-- On every device the tables hold those contents (there is one device). -/
theorem V_pre (c : Dev nD) (j : Fin 2) : V m c (pre0.ref j) = tbl m j := by
  obtain rfl : c = 0 := Subsingleton.elim _ _
  match j with
  | ⟨0, _⟩ => exact V_main_arg1 m 0
  | ⟨1, _⟩ => exact V_main_arg2 m 0
/-- Every window whose index map reads a table has its block inside the array at every point. -/
abbrev Ok : Prop := ok0 (F := F) (tbl m)
/-- The tables as contents the pipeline admits, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S72 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table's buffer on core `c`, and it held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- What the region hands the body of the tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, for any proof data over the launched arrays whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over the launched arrays whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over the launched arrays whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over the launched arrays whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end unchanged, from any run of proof data over the launched arrays. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-- Each window's current staging memref at point `t`, spelled as the pipeline passes it (`bodyAt0`), and its wholeness. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x1792 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x1792 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1792x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .f32 := spec0_4.stage ((cfgM m hO).slots t 4)
abbrev hs0_4 (hO : Ok m) (t : Fin (cfgM m hO).N) : (ms0_4 m hO t).IsWhole := hstage0_4 (((cfgM m hO).slots t 4).cast nbuf0_4)

/-- The scratch operands: whole scoped buffers of the kernel's own, passed beside the windows. -/
abbrev scM0_0 : Memref sig .tc .vmem S512x1024 .bf16 := Memref.whole cc0_scratch0
abbrev scM0_1 : Memref sig .tc .vmem S512x1024 .f32 := Memref.whole cc0_scratch1
/-- The scratch buffers at any contents and the generator register at any state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.ExpertsCall

end
-- ==== Proof.ExpertsRuns.lean ====
/-
  The experts' call: one grid point's body, in its three cases. In a row block in use, the first point keeps the rows and
  starts the sum; the second adds to it and stores it. In a row block not in use both points store zeros.
-/
module

public import proofs.«01_k».proof.Proof.ExpertsKit
public import Idealize.ShloMosaic.Lib.Pipeline.Value

@[expose] public section

set_option maxRecDepth 16384

noncomputable section

namespace Cert.ExpertsCall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The number of row blocks in use, as the body reads it from its table. -/
abbrev count {c : Dev nD} (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

/-- The point is the first of its row block. -/
abbrev first (i : grid0.Coords) : Prop := (Scalar.cmpi .ne (Scalar.extui (Scalar.cmpi .eq (BitVec.ofNat 32 (i 1).val) 0#32)) 0#32) = 1#1

set_option maxHeartbeats 1000000 in
/-- A row block in use, its first point: the rows are kept, and the sum starts from the first half of the hidden columns. -/
theorem run_first (c : Dev nD) (i : grid0.Coords) (a4 : Memref sig .tc .vmem S512x1024 .f32) (h4 : a4.IsWhole) (a5 : Memref sig .tc .vmem S1x1x1024x1792 .bf16) (h5 : a5.IsWhole) (a6 : Memref sig .tc .vmem S1x1x1024x1792 .bf16) (h6 : a6.IsWhole) (a7 : Memref sig .tc .vmem S1x1x1792x1024 .bf16) (h7 : a7.IsWhole) (a8 : Memref sig .tc .vmem S512x1024 .f32) (h8 : a8.IsWhole) (a9 : Memref sig .tc .vmem S512x1024 .bf16) (h9 : a9.IsWhole) (a10 : Memref sig .tc .vmem S512x1024 .f32) (h10 : a10.IsWhole)
    (x : Vec F S512x1024 .f32) (g u : Vec F S1x1x1024x1792 .bf16) (w : Vec F S1x1x1792x1024 .bf16) (d : Vec F S512x1024 .f32) (xt0 : TbBuf0 (F := F) c tbM0_0) (xt1 : TbBuf0 (F := F) c tbM0_1)
    (hu : k0_cond1 i (count xt1) = 1#1) (hf : first i) (hl : ¬k0_cond3 i = 1#1) (hz : ¬k0_cond4 i (count xt1) = 1#1) (E : Set ℕ) (K : PUnit → sProp 𝕄) :
    iprop(owns (c : Thread nD τ) a4 fullShare x ∗ owns (c : Thread nD τ) a5 fullShare g ∗ owns (c : Thread nD τ) a6 fullShare u ∗ owns (c : Thread nD τ) a7 fullShare w ∗ owns (c : Thread nD τ) a8 fullShare d ∗ (∃ d, owns (c : Thread nD τ) a9 fullShare d) ∗ (∃ d, owns (c : Thread nD τ) a10 fullShare d) ∗ tbPt0 c tbM0_0 xt0 ∗ tbPt0 c tbM0_1 xt1
        ∗ (iprop(owns (c : Thread nD τ) a4 fullShare x ∗ owns (c : Thread nD τ) a5 fullShare g ∗ owns (c : Thread nD τ) a6 fullShare u ∗ owns (c : Thread nD τ) a7 fullShare w ∗ owns (c : Thread nD τ) a8 fullShare d ∗ owns (c : Thread nD τ) a9 fullShare (k0_pay1 x) ∗ owns (c : Thread nD τ) a10 fullShare (k0_pay3 (k0_pay1 x) g u k0_pay2 w) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 a4 h4 a5 h5 a6 h6 a7 h7 a8 h8 a9 h9 a10 h10) K := by
  simp only [cc0_moe_experts_eq_skeleton]; unfold cc0_moe_experts_skel
  unfold owns
  iintro ⟨⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, HT0, HT1, Hk⟩
  obtain rfl := h4.eq_unread e4; obtain rfl := h5.eq_unread e5; obtain rfl := h6.eq_unread e6; obtain rfl := h7.eq_unread e7; obtain rfl := h8.eq_unread e8
  sl_exec (disch := first | sl_exact hu | sl_exact hf | sl_exact hl | sl_exact hz)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr
    swap; · iexact H9
    ipureintro
    rw [View.read_writes_eq_canon _ _ _ (View.cover_of_tiledL _ S512x1024.size (by sl_kernel_rfl))]
    sl_unfold_words
    rw [View.canon_unit_zero hz2]
    simp only [View.readCov_unit_zero (S := S512x1024) _ hz2, View.readAt_eq_ld, h4.read_unread, h5.read_unread, h6.read_unread, h7.read_unread, h9.read_unread, h10.read_unread, View.ld_unit_zero (S := S512x1024) hz2, View.ld_unit_zero (S := S1x1x1024x1792) hz4, View.ld_unit_zero (S := S1x1x1792x1024) hz4]
  isplitl [H10]
  · iexists _; isplitr
    swap; · iexact H10
    ipureintro
    rw [View.read_writes_eq_canon _ _ _ (View.cover_of_tiledL _ S512x1024.size (by sl_kernel_rfl))]
    sl_unfold_words
    rw [View.canon_cons_unit_zero (S := S512x1024) hz2]
    simp only [View.readCov_unit_zero (S := S512x1024) _ hz2, View.readAt_eq_ld, h4.read_unread, h5.read_unread, h6.read_unread, h7.read_unread, h9.read_unread, h10.read_unread, View.ld_unit_zero (S := S512x1024) hz2, View.ld_unit_zero (S := S1x1x1024x1792) hz4, View.ld_unit_zero (S := S1x1x1792x1024) hz4]
  isplitl [HT0]; · iexact HT0
  iexact HT1

set_option maxHeartbeats 1000000 in
/-- A row block in use, its second point: the second half of the hidden columns is added and the sum stored. -/
theorem run_second (c : Dev nD) (i : grid0.Coords) (a4 : Memref sig .tc .vmem S512x1024 .f32) (h4 : a4.IsWhole) (a5 : Memref sig .tc .vmem S1x1x1024x1792 .bf16) (h5 : a5.IsWhole) (a6 : Memref sig .tc .vmem S1x1x1024x1792 .bf16) (h6 : a6.IsWhole) (a7 : Memref sig .tc .vmem S1x1x1792x1024 .bf16) (h7 : a7.IsWhole) (a8 : Memref sig .tc .vmem S512x1024 .f32) (h8 : a8.IsWhole) (a9 : Memref sig .tc .vmem S512x1024 .bf16) (h9 : a9.IsWhole) (a10 : Memref sig .tc .vmem S512x1024 .f32) (h10 : a10.IsWhole)
    (x : Vec F S512x1024 .f32) (g u : Vec F S1x1x1024x1792 .bf16) (w : Vec F S1x1x1792x1024 .bf16) (p : Vec F S512x1024 .bf16) (s : Vec F S512x1024 .f32) (xt0 : TbBuf0 (F := F) c tbM0_0) (xt1 : TbBuf0 (F := F) c tbM0_1)
    (hu : k0_cond1 i (count xt1) = 1#1) (hf : ¬first i) (hl : k0_cond3 i = 1#1) (hz : ¬k0_cond4 i (count xt1) = 1#1) (E : Set ℕ) (K : PUnit → sProp 𝕄) :
    iprop(owns (c : Thread nD τ) a4 fullShare x ∗ owns (c : Thread nD τ) a5 fullShare g ∗ owns (c : Thread nD τ) a6 fullShare u ∗ owns (c : Thread nD τ) a7 fullShare w ∗ (∃ d, owns (c : Thread nD τ) a8 fullShare d) ∗ owns (c : Thread nD τ) a9 fullShare p ∗ owns (c : Thread nD τ) a10 fullShare s ∗ tbPt0 c tbM0_0 xt0 ∗ tbPt0 c tbM0_1 xt1
        ∗ (iprop(owns (c : Thread nD τ) a4 fullShare x ∗ owns (c : Thread nD τ) a5 fullShare g ∗ owns (c : Thread nD τ) a6 fullShare u ∗ owns (c : Thread nD τ) a7 fullShare w ∗ owns (c : Thread nD τ) a8 fullShare (k0_pay3 p g u s w) ∗ owns (c : Thread nD τ) a9 fullShare p ∗ owns (c : Thread nD τ) a10 fullShare (k0_pay3 p g u s w) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 a4 h4 a5 h5 a6 h6 a7 h7 a8 h8 a9 h9 a10 h10) K := by
  simp only [cc0_moe_experts_eq_skeleton]; unfold cc0_moe_experts_skel
  unfold owns
  iintro ⟨⟨%f4, %e4, H4⟩, ⟨%f5, %e5, H5⟩, ⟨%f6, %e6, H6⟩, ⟨%f7, %e7, H7⟩, ⟨%d8, %f8, -, H8⟩, ⟨%f9, %e9, H9⟩, ⟨%f10, %e10, H10⟩, HT0, HT1, Hk⟩
  obtain rfl := h4.eq_unread e4; obtain rfl := h5.eq_unread e5; obtain rfl := h6.eq_unread e6; obtain rfl := h7.eq_unread e7; obtain rfl := h9.eq_unread e9; obtain rfl := h10.eq_unread e10
  sl_exec (disch := first | sl_exact hu | sl_exact hf | sl_exact hl | sl_exact hz)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    rw [View.read_writes_eq_canon _ _ _ (View.cover_of_tiledL _ S512x1024.size (by sl_kernel_rfl))]
    sl_unfold_words
    rw [View.canon_unit_zero hz2]
    simp only [View.readCov_unit_zero (S := S512x1024) _ hz2, View.readAt_eq_ld, h4.read_unread, h5.read_unread, h6.read_unread, h7.read_unread, h9.read_unread, h10.read_unread, View.ld_unit_zero (S := S512x1024) hz2, View.ld_unit_zero (S := S1x1x1024x1792) hz4, View.ld_unit_zero (S := S1x1x1792x1024) hz4]
  isplitl [H9]
  · iexists _; isplitr; · ipureintro; exact h9.read_unread _
    iexact H9
  isplitl [H10]
  · iexists _; isplitr
    swap; · iexact H10
    ipureintro
    rw [View.read_writes_eq_canon _ _ _ (View.cover_of_tiledL _ S512x1024.size (by sl_kernel_rfl))]
    sl_unfold_words
    rw [View.canon_unit_zero hz2]
    simp only [View.readCov_unit_zero (S := S512x1024) _ hz2, View.readAt_eq_ld, h4.read_unread, h5.read_unread, h6.read_unread, h7.read_unread, h9.read_unread, h10.read_unread, View.ld_unit_zero (S := S512x1024) hz2, View.ld_unit_zero (S := S1x1x1024x1792) hz4, View.ld_unit_zero (S := S1x1x1792x1024) hz4]
  isplitl [HT0]; · iexact HT0
  iexact HT1

set_option maxHeartbeats 1000000 in
/-- A row block not in use: zeros are stored. -/
theorem run_unused (c : Dev nD) (i : grid0.Coords) (a4 : Memref sig .tc .vmem S512x1024 .f32) (h4 : a4.IsWhole) (a5 : Memref sig .tc .vmem S1x1x1024x1792 .bf16) (h5 : a5.IsWhole) (a6 : Memref sig .tc .vmem S1x1x1024x1792 .bf16) (h6 : a6.IsWhole) (a7 : Memref sig .tc .vmem S1x1x1792x1024 .bf16) (h7 : a7.IsWhole) (a8 : Memref sig .tc .vmem S512x1024 .f32) (h8 : a8.IsWhole) (a9 : Memref sig .tc .vmem S512x1024 .bf16) (h9 : a9.IsWhole) (a10 : Memref sig .tc .vmem S512x1024 .f32) (h10 : a10.IsWhole)
    (x : Vec F S512x1024 .f32) (g u : Vec F S1x1x1024x1792 .bf16) (w : Vec F S1x1x1792x1024 .bf16) (p : Vec F S512x1024 .bf16) (s : Vec F S512x1024 .f32) (xt0 : TbBuf0 (F := F) c tbM0_0) (xt1 : TbBuf0 (F := F) c tbM0_1)
    (hu : ¬k0_cond1 i (count xt1) = 1#1) (hz : k0_cond4 i (count xt1) = 1#1) (E : Set ℕ) (K : PUnit → sProp 𝕄) :
    iprop(owns (c : Thread nD τ) a4 fullShare x ∗ owns (c : Thread nD τ) a5 fullShare g ∗ owns (c : Thread nD τ) a6 fullShare u ∗ owns (c : Thread nD τ) a7 fullShare w ∗ (∃ d, owns (c : Thread nD τ) a8 fullShare d) ∗ owns (c : Thread nD τ) a9 fullShare p ∗ owns (c : Thread nD τ) a10 fullShare s ∗ tbPt0 c tbM0_0 xt0 ∗ tbPt0 c tbM0_1 xt1
        ∗ (iprop(owns (c : Thread nD τ) a4 fullShare x ∗ owns (c : Thread nD τ) a5 fullShare g ∗ owns (c : Thread nD τ) a6 fullShare u ∗ owns (c : Thread nD τ) a7 fullShare w ∗ owns (c : Thread nD τ) a8 fullShare k0_pay4 ∗ owns (c : Thread nD τ) a9 fullShare p ∗ owns (c : Thread nD τ) a10 fullShare s ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 a4 h4 a5 h5 a6 h6 a7 h7 a8 h8 a9 h9 a10 h10) K := by
  simp only [cc0_moe_experts_eq_skeleton]; unfold cc0_moe_experts_skel
  unfold owns
  iintro ⟨⟨%f4, %e4, H4⟩, ⟨%f5, %e5, H5⟩, ⟨%f6, %e6, H6⟩, ⟨%f7, %e7, H7⟩, ⟨%d8, %f8, -, H8⟩, ⟨%f9, %e9, H9⟩, ⟨%f10, %e10, H10⟩, HT0, HT1, Hk⟩
  obtain rfl := h4.eq_unread e4; obtain rfl := h5.eq_unread e5; obtain rfl := h6.eq_unread e6; obtain rfl := h7.eq_unread e7; obtain rfl := h9.eq_unread e9; obtain rfl := h10.eq_unread e10
  sl_exec (disch := first | sl_exact hu | sl_exact hz)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    rw [View.read_writes_eq_canon _ _ _ (View.cover_of_tiledL _ S512x1024.size (by sl_kernel_rfl))]
    sl_unfold_words
    rw [View.canon_unit_zero hz2]
  isplitl [H9]
  · iexists _; isplitr; · ipureintro; exact h9.read_unread _
    iexact H9
  isplitl [H10]
  · iexists _; isplitr; · ipureintro; exact h10.read_unread _
    iexact H10
  isplitl [HT0]; · iexact HT0
  iexact HT1

end Cert.ExpertsCall

end
-- ==== Proof.ExpertsFrame.lean ====
/-
  The experts' call: the whole run. What each point leaves in the result window's buffer and in the two scratch buffers,
  the proof data, each point's triple, and the run: it terminates, the arguments end unchanged, and the result array is
  what the points' blocks make it.
-/
module

public import proofs.«01_k».proof.Proof.ExpertsRuns
public import Idealize.ShloMosaic.Lib.Claim

@[expose] public section

set_option maxRecDepth 16384

noncomputable section

namespace Cert.ExpertsCall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

/-! ## The conditions over the grid -/

theorem first_iff : ∀ t : Fin grid0.N, first (grid0.coords t) ↔ t.val % 2 = 0 := fun t => by
  have ht : t.val < 144 := Nat.lt_of_lt_of_eq t.isLt N_0
  have e1 : (grid0.coords t 1).val = t.val / 1 % 2 := Pipeline.Grid.coords_val t 1 (by decide) rfl
  simp only [first, e1]
  word_cmp

theorem last_iff : ∀ t : Fin grid0.N, k0_cond3 (grid0.coords t) = 1#1 ↔ t.val % 2 = 1 := fun t => by
  have ht : t.val < 144 := Nat.lt_of_lt_of_eq t.isLt N_0
  have e1 : (grid0.coords t 1).val = t.val / 1 % 2 := Pipeline.Grid.coords_val t 1 (by decide) rfl
  simp only [k0_cond3, e1]
  word_cmp

/-- Zeros are stored exactly in the row blocks not in use. -/
theorem zeroed_iff (i : grid0.Coords) (v : BitVec 32) : k0_cond4 i v = 1#1 ↔ ¬k0_cond1 i v = 1#1 := by
  have key : ∀ a b : BitVec 32, Scalar.cmpi .sge a b = Scalar.cmpi .slt a b ^^^ 1#1 := fun a b => by
    simp only [Scalar.cmpi, IntOp.cmpi, BitVec.sle_eq_not_slt]
    cases BitVec.slt a b <;> rfl
  have two : ∀ b : BitVec 1, (Scalar.cmpi .ne (Scalar.extui (b ^^^ 1#1) : BitVec 32) 0#32 = 1#1) ↔ ¬(Scalar.cmpi .ne (Scalar.extui b : BitVec 32) 0#32 = 1#1) := by decide
  simp only [k0_cond4, k0_cond1, key]
  exact two _

variable (m : (ℓ : Loc nD τ sig) → Buf (Elt F) ℓ) (ρ : Dev nD → PrngReg)

/-- The number of row blocks in use, off the launch memory. -/
abbrev blocks (c : Dev nD) : BitVec 32 := count (F := F) (c := c) (tbl m 1)

/-- The row block of a grid point is in use. -/
abbrev InUse (c : Dev nD) (i : grid0.Coords) : Prop := k0_cond1 i (blocks m c) = 1#1

theorem blocks_eq (c : Dev nD) : (tbl m).atD 1 ![0] = blocks m c := by
  unfold Pipeline.Prefetch.Contents.atD
  rfl

theorem inUse_congr (c : Dev nD) {i j : grid0.Coords} (h : (i 0).val = (j 0).val) : InUse m c i ↔ InUse m c j := by
  simp only [InUse, k0_cond1, h]

/-! ## The result window's idle points -/

theorem idle_first (hO : Ok m) (c : Dev nD) (t : Fin (cfgM m hO).N) (hu : InUse m c (grid0.coords t)) (h : t.val % 2 = 0) :
    (cfgM m hO).idle 4 (grid0.coords t) = true := by
  show (!(k0_cond1 (grid0.coords t) ((tbl m).atD 1 ![0]) == 1#1 && k0_cond3 (grid0.coords t) == 1#1) && !(k0_cond4 (grid0.coords t) ((tbl m).atD 1 ![0]) == 1#1)) = true
  rw [blocks_eq m c]
  have h3 : ¬k0_cond3 (grid0.coords t) = 1#1 := fun e => by have := (last_iff t).mp e; omega
  have h4 : ¬k0_cond4 (grid0.coords t) (blocks m c) = 1#1 := fun e => (zeroed_iff _ _).mp e hu
  rw [beq_eq_false_iff_ne.mpr h3, beq_eq_false_iff_ne.mpr h4]
  simp

theorem live_second (hO : Ok m) (c : Dev nD) (t : Fin (cfgM m hO).N) (hu : InUse m c (grid0.coords t)) (h : t.val % 2 = 1) :
    (cfgM m hO).idle 4 (grid0.coords t) = false := by
  show (!(k0_cond1 (grid0.coords t) ((tbl m).atD 1 ![0]) == 1#1 && k0_cond3 (grid0.coords t) == 1#1) && !(k0_cond4 (grid0.coords t) ((tbl m).atD 1 ![0]) == 1#1)) = false
  rw [blocks_eq m c, beq_iff_eq.mpr hu, beq_iff_eq.mpr ((last_iff t).mpr h)]
  rfl

theorem live_unused (hO : Ok m) (c : Dev nD) (t : Fin (cfgM m hO).N) (hu : ¬InUse m c (grid0.coords t)) :
    (cfgM m hO).idle 4 (grid0.coords t) = false := by
  show (!(k0_cond1 (grid0.coords t) ((tbl m).atD 1 ![0]) == 1#1 && k0_cond3 (grid0.coords t) == 1#1) && !(k0_cond4 (grid0.coords t) ((tbl m).atD 1 ![0]) == 1#1)) = false
  rw [blocks_eq m c, beq_iff_eq.mpr ((zeroed_iff _ _).mpr hu)]
  simp

theorem not_flushed (hO : Ok m) (t : Fin (cfgM m hO).N) (h : t.val % 2 = 0) : ((cfgM m hO).win 4).flush t = false :=
  Bool.eq_false_iff.mpr fun e => by have := (flush0_4 (adm m hO) t).mp e; omega

/-! ## What the points leave -/

/-- The point before. -/
def before (hO : Ok m) (t : Fin (cfgM m hO).N) : Fin (cfgM m hO).N := ⟨t.val - 1, Nat.lt_of_le_of_lt (Nat.sub_le _ _) t.isLt⟩

theorem pred_lt {n N : ℕ} (o : n % 2 = 1) (h : n ≤ N) : n - 1 < N := by omega

/-- The rows kept at a point. -/
def kept (hO : Ok m) (c : Dev nD) (t : Fin (cfgM m hO).N) : FVec F S512x1024 .bf16 := k0_pay1 (iblk m hO c 0 t)

/-- The sum the first point of a row block leaves. -/
def half (hO : Ok m) (c : Dev nD) (t : Fin (cfgM m hO).N) : FVec F S512x1024 .f32 :=
  k0_pay3 (kept m hO c t) (iblk m hO c 1 t) (iblk m hO c 2 t) k0_pay2 (iblk m hO c 3 t)

/-- The sum the second point of a row block leaves. -/
def full (hO : Ok m) (c : Dev nD) (t : Fin (cfgM m hO).N) : FVec F S512x1024 .f32 :=
  k0_pay3 (kept m hO c (before m hO t)) (iblk m hO c 1 t) (iblk m hO c 2 t) (half m hO c (before m hO t)) (iblk m hO c 3 t)

/-- The result window's block: the sum in a row block in use, zeros otherwise. -/
def block (hO : Ok m) (c : Dev nD) (t : Fin (cfgM m hO).N) : FVec F S512x1024 .f32 :=
  if InUse m c (grid0.coords t) then full m hO c t else k0_pay4

/-- What the scratch buffers hold before point `n`, where the point before was the first of a row block in use. -/
def Carried (hO : Ok m) (c : Dev nD) (n : ℕ) (hn : n ≤ (cfgM m hO).N) (p : FVec F S512x1024 .bf16) (s : FVec F S512x1024 .f32) : Prop :=
  ∀ o : n % 2 = 1, InUse m c (grid0.coords (⟨n - 1, pred_lt o hn⟩ : Fin (cfgM m hO).N)) → p = kept m hO c ⟨n - 1, pred_lt o hn⟩ ∧ s = half m hO c ⟨n - 1, pred_lt o hn⟩

theorem carried_first (hO : Ok m) (c : Dev nD) (t : Fin (cfgM m hO).N) :
    Carried m hO c (t.val + 1) t.isLt (kept m hO c t) (half m hO c t) := fun _ _ => ⟨rfl, rfl⟩

theorem carried_even (hO : Ok m) (c : Dev nD) (n : ℕ) (hn : n ≤ (cfgM m hO).N) (e : n % 2 = 0) (p : FVec F S512x1024 .bf16) (s : FVec F S512x1024 .f32) :
    Carried m hO c n hn p s := fun o => absurd o (by rw [e]; decide)

theorem carried_unused (hO : Ok m) (c : Dev nD) (t : Fin (cfgM m hO).N) (hu : ¬InUse m c (grid0.coords t)) (p : FVec F S512x1024 .bf16) (s : FVec F S512x1024 .f32) :
    Carried m hO c (t.val + 1) t.isLt p s := fun _ e => absurd e hu

theorem inUse_before (hO : Ok m) (c : Dev nD) (t : Fin (cfgM m hO).N) (h : t.val % 2 = 1) (hu : InUse m c (grid0.coords t)) :
    InUse m c (grid0.coords (⟨t.val - 1, pred_lt h (Nat.le_of_lt t.isLt)⟩ : Fin (cfgM m hO).N)) := by
  have ht : t.val < 144 := lt_of_lt_of_eq t.isLt (show (cfgM m hO).N = 144 from N_0)
  have e0 : (grid0.coords (t : Fin grid0.N) 0).val = t.val / 2 % 72 := Pipeline.Grid.coords_val (t : Fin grid0.N) 0 (show grid0.stride 0 = 2 by decide) rfl
  have e1 : (grid0.coords (⟨t.val - 1, pred_lt h (Nat.le_of_lt t.isLt)⟩ : Fin grid0.N) 0).val = (t.val - 1) / 2 % 72 :=
    Pipeline.Grid.coords_val (⟨t.val - 1, pred_lt h (Nat.le_of_lt t.isLt)⟩ : Fin grid0.N) 0 (by decide) rfl
  exact (inUse_congr m c (by rw [e0, e1]; omega)).mp hu

/-- The invariant before point `n`. -/
def Inv (hO : Ok m) (c : Dev nD) (n : ℕ) (hn : n ≤ (cfgM m hO).N) : sProp 𝕄 :=
  iprop(iprop((∃ p s, iprop(⌜Carried m hO c n hn p s⌝ ∗ owns (c : Thread nD τ) scM0_0 fullShare p ∗ owns (c : Thread nD τ) scM0_1 fullShare s)) ∗ (∃ r, prngReg c r)) ∗ Pipeline.ΦT pre0 (tbl m) c)

/-- The proof data: the arrays as launched, the inputs' blocks left in place, the result's `block`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => block m hO c t
  Φ t := Inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem inv_castSucc (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = block m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body at a point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)) ∗ (∃ d, owns (c : Thread nD τ) (ms0_3 m hO t) fullShare ((dats m hO 0 c).before 3 t d)) ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t) ∗ owns (c : Thread nD τ) (ms0_3 m hO t) fullShare ((dats m hO 0 c).after 3 t) ∗ (dats m hO 0 c).leavesExact 4 t)

set_option maxHeartbeats 4800000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3]
  rw [show (dats m hO 0 c).Φ t.succ = Inv m hO c (t.val + 1) t.isLt from rfl, inv_castSucc]
  unfold Inv
  rw [PhiT0_eq]
  have hN : t.val < 144 := lt_of_lt_of_eq t.isLt (show (cfgM m hO).N = 144 from N_0)
  by_cases hu : InUse m c (grid0.coords t)
  · have h4 : ¬k0_cond4 (grid0.coords t) (blocks m c) = 1#1 := fun e => (zeroed_iff _ _).mp e hu
    by_cases h : t.val % 2 = 0
    · rw [Dat.leavesExact_idle (dats m hO 0 c) 4 t (idle_first m hO c t hu h) (not_flushed m hO t h)]
      have h3 : ¬k0_cond3 (grid0.coords t) = 1#1 := fun e => by have := (last_iff t).mp e; omega
      iintro ⟨⟨⟨⟨%p, %s, %hC, HS0, HS1⟩, Hg⟩, ⟨HT0, HT1⟩⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ (iblk m hO c 0 t) (iblk m hO c 1 t) (iblk m hO c 2 t) (iblk m hO c 3 t) _ (tbl m 0) (tbl m 1) hu ((first_iff t).mpr h) h3 h4 Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1 Hg]
        · isplitl [HS0 HS1]
          · iexists _; iexists _; isplitr
            swap
            · isplitl [HS0]; · iexact HS0
              iexact HS1
            ipureintro; exact carried_first m hO c t
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · have h' : t.val % 2 = 1 := by omega
      unfold Dat.leavesExact; rw [live_second m hO c t hu h', after0_4]
      unfold block; rw [if_pos hu]
      have hb : InUse m c (grid0.coords (⟨t.val - 1, pred_lt h' (Nat.le_of_lt t.isLt)⟩ : Fin (cfgM m hO).N)) := inUse_before m hO c t h' hu
      iintro ⟨⟨⟨⟨%p, %s, %hC, HS0, HS1⟩, Hg⟩, ⟨HT0, HT1⟩⟩, Ho, ⟨%d0, H0⟩, ⟨%d1, H1⟩, ⟨%d2, H2⟩, ⟨%d3, H3⟩, ⟨%d4, H4⟩⟩
      obtain ⟨rfl, rfl⟩ := hC h' hb
      iapply (run_second c (grid0.coords t) _ _ _ _ _ _ _ _ _ _ _ _ _ _ (iblk m hO c 0 t) (iblk m hO c 1 t) (iblk m hO c 2 t) (iblk m hO c 3 t) _ _ (tbl m 0) (tbl m 1) hu (fun e => h ((first_iff t).mp e)) ((last_iff t).mpr h') h4 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1 Hg]
        · isplitl [HS0 HS1]
          · iexists _; iexists _; isplitr
            swap
            · isplitl [HS0]; · iexact HS0
              iexact HS1
            ipureintro; exact carried_even m hO c _ _ (by omega) _ _
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
  · unfold Dat.leavesExact; rw [live_unused m hO c t hu, after0_4]
    unfold block; rw [if_neg hu]
    iintro ⟨⟨⟨⟨%p, %s, %hC, HS0, HS1⟩, Hg⟩, ⟨HT0, HT1⟩⟩, Ho, ⟨%d0, H0⟩, ⟨%d1, H1⟩, ⟨%d2, H2⟩, ⟨%d3, H3⟩, ⟨%d4, H4⟩⟩
    iapply (run_unused c (grid0.coords t) _ _ _ _ _ _ _ _ _ _ _ _ _ _ (iblk m hO c 0 t) (iblk m hO c 1 t) (iblk m hO c 2 t) (iblk m hO c 3 t) _ _ (tbl m 0) (tbl m 1) hu ((zeroed_iff _ _).mpr hu) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HT0]; · iexact HT0
    isplitl [HT1]; · iexact HT1
    iintro ⟨H0, H1, H2, H3, H4, HS0, HS1, HT0, HT1⟩
    isplitl [HS0 HS1 Hg HT0 HT1]
    · isplitl [HS0 HS1 Hg]
      · isplitl [HS0 HS1]
        · iexists _; iexists _; isplitr
          swap
          · isplitl [HS0]; · iexact HS0
            iexact HS1
          ipureintro; exact carried_unused m hO c t hu _ _
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, PhiA0_eq]
  unfold Inv
  iintro ⟨⟨⟨⟨%p, HS0⟩, ⟨%s, HS1⟩⟩, Hg⟩, HT⟩
  isplitl [HS0 HS1 Hg]
  · isplitl [HS0 HS1]
    · iexists _; iexists _; isplitr
      swap
      · isplitl [HS0]; · iexact HS0
        iexact HS1
      ipureintro; exact carried_even m hO c 0 _ rfl _ _
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = Inv m hO c (Fin.last (cfgM m hO).N).val (Nat.le_of_lt_succ (Fin.last (cfgM m hO).N).isLt) from rfl, PhiA0_eq]
  unfold Inv
  iintro ⟨⟨⟨%p, %s, -, HS0, HS1⟩, Hg⟩, -⟩
  isplitl [HS0 HS1]
  · isplitl [HS0]
    · iexists _; iexact HS0
    iexists _; iexact HS1
  iexact Hg

/-! ## The run -/

set_option backward.isDefEq.respectTransparency.types false in
/-- The run: every array of the pipeline at what the points' blocks make it, every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) ((θ_run defs _ _).mono (fun _ h => h.1) (run_main m ρ hO)))
    ((θ_run defs _ _).mono (fun _ h => h.2) (run_main m ρ hO))

end Cert.ExpertsCall

end
-- ==== Proof.ExpertsRange.lean ====
/-
  The experts' call: the range its two tables are in. The precondition, decoded word by word: the expert of a row block is
  at most 7, and between 1 and 72 row blocks are in use. From it the block every window takes at a grid point, as natural
  numbers, and that those blocks are inside their arrays.
-/
module

public import proofs.«01_k».proof.Proof.ExpertsKit
public import proofs.«01_k».proof.Proof.Gen.Pre_in_range
public import Idealize.ShloMosaic.Lib.Pointwise
public import Idealize.ShloMosaic.Lib.ReduceAll
public import Idealize.ShloMosaic.Lib.WordArith

@[expose] public section

noncomputable section

namespace Cert.ExpertsCall

open Idealize.ShloMosaic Idealize.ShloMosaic.TcCoe Idealize.SL.Sem
open Idealize.ShloMosaic.Pointwise
open Cert.ExpertsIdeal Cert.ExpertsIdeal.Gen

variable {F : FTy → Type} [FloatOps F]

/-- A word between two natural numbers, read signed, is so read unsigned. -/
theorem word_bounds (v : BitVec 32) (a b : ℕ) (hb : b < 2 ^ 31) (h0 : (a : Int) ≤ v.toInt) (h1 : v.toInt ≤ (b : Int)) : a ≤ v.toNat ∧ v.toNat ≤ b := by
  have h : v.toNat < 2 ^ 32 := v.isLt
  rw [BitVec.toInt_eq_toNat_cond] at h0 h1
  split_ifs at h0 h1 <;> omega

/-- The precondition of the two tables. -/
theorem decode (x : FVec F S36864x1024 .f32) (e : IVec S72 32) (n : IVec S1 32) (g u : FVec F S2x8x1024x3584 .f32) (d : FVec F S2x8x3584x1024 .f32)
    (h : Cert.Pre_in_range.fn (F := F) x e n g u d = fun _ => 1#1) :
    (∀ b : Fin 72, (e (ix1 b)).toNat ≤ 7) ∧ 1 ≤ (n (ix1 0)).toNat ∧ (n (ix1 0)).toNat ≤ 72 := by
  have h' := congrFun h ix0
  simp only [Cert.Pre_in_range.fn] at h'
  obtain ⟨he, hn⟩ := IntOp.andi_eq_one.mp h'
  refine ⟨fun b => ?_, ?_⟩
  · obtain ⟨p, q⟩ := IntOp.andi_eq_one.mp (Host.reduce_andi_all _ _ _ _ _ he (ix1 b))
    exact (word_bounds _ 0 7 (by decide) (IntOp.cmpi_sge.mp p) (IntOp.cmpi_sle.mp q)).2
  · obtain ⟨p, q⟩ := IntOp.andi_eq_one.mp (Host.reduce_andi_all _ _ _ _ _ hn (ix1 0))
    exact word_bounds _ 1 72 (by decide) (IntOp.cmpi_sge.mp p) (IntOp.cmpi_sle.mp q)

/-! ## The words a grid point reads -/

variable (pf : pre0.Contents (Elt F))

/-- The expert of a row block, -/
abbrev expertOf (b : Fin 72) : ℕ := ((pf 0 : S72.Idx → BitVec 32) (ix1 b)).toNat
/-- and the number of row blocks in use. -/
abbrev inUse : ℕ := ((pf 1 : S1.Idx → BitVec 32) (ix1 0)).toNat

/-- The two tables are in range. -/
def InRange : Prop := (∀ b : Fin 72, expertOf pf b ≤ 7) ∧ 1 ≤ inUse pf ∧ inUse pf ≤ 72

theorem row_block_lt (i : grid0.Coords) : (i 0).val < 72 := (i 0).isLt
theorem half_lt (i : grid0.Coords) : (i 1).val < 2 := (i 1).isLt

theorem read_count : pf.at 1 (Rect.unit (s := S1) ![0] S1.size inb_S1_S1_0) numel1_S1 = (pf 1 : S1.Idx → BitVec 32) (ix1 0) :=
  congrArg (pf 1 : S1.Idx → BitVec 32) (by
    funext a; apply Fin.ext
    match a with
    | ⟨0, _⟩ => rfl)

theorem read_expert (i : grid0.Coords) :
    pf.at 0 (Rect.unit (s := S72) ![(Scalar.indexCast (BitVec.ofNat 32 (i 0).val) : Index).toNat] S1.size (k0_off1_inb i)) numel1_S1
      = (pf 0 : S72.Idx → BitVec 32) (ix1 (i 0)) :=
  congrArg (pf 0 : S72.Idx → BitVec 32) (by
    funext a; apply Fin.ext
    match a with
    | ⟨0, _⟩ =>
      show (BitVec.ofNat 32 (i 0).val).toNat + 1 * 0 = (i 0).val
      have := row_block_lt i
      rw [BitVec.toNat_ofNat]; omega)

/-- The comparison of a row block with the number in use. -/
theorem slt_count (b : ℕ) (hb : b < 72) (v : BitVec 32) (hv : v.toNat ≤ 72) : Scalar.cmpi .slt (BitVec.ofNat 32 b) v = 1#1 ↔ b < v.toNat := by
  have e : v = BitVec.ofNat 32 v.toNat := by simp
  rw [e]
  generalize v.toNat = n at hv ⊢
  have : (BitVec.ofNat 32 n).toNat = n := by rw [BitVec.toNat_ofNat]; omega
  rw [this]
  word_cmp

theorem select_toNat (c : BitVec 1) (a b : BitVec 32) : (Scalar.select c a b).toNat = if c = 1#1 then a.toNat else b.toNat := by
  unfold Scalar.select
  split_ifs <;> first | rfl | simp_all

theorem sub_one_toNat (v : BitVec 32) (h : 1 ≤ v.toNat) : (Scalar.subi v 1#32).toNat = v.toNat - 1 := by
  have hv : v.toNat < 2 ^ 32 := v.isLt
  show (v - 1#32).toNat = _
  rw [BitVec.toNat_sub]
  show (2 ^ 32 - 1 + v.toNat) % 2 ^ 32 = _
  omega

/-! ## The block a window takes at a point -/

theorem map0 (h : InRange pf) (i : grid0.Coords) :
    cc0_transform_0 inb_S1_S1_0 numel1_S1 pf i = ![min (i 0).val (inUse pf - 1), 0] := by
  obtain ⟨-, h1, h2⟩ := h
  have hb := row_block_lt i
  unfold cc0_transform_0
  dsimp only
  rw [read_count]
  have e : (Scalar.minsi (BitVec.ofNat 32 (i 0).val) (Scalar.subi ((pf 1 : S1.Idx → BitVec 32) (ix1 0)) 1#32)).toNat = min (i 0).val (inUse pf - 1) := by
    unfold Scalar.minsi
    have s : (Scalar.subi ((pf 1 : S1.Idx → BitVec 32) (ix1 0)) 1#32).toNat = inUse pf - 1 := sub_one_toNat _ h1
    have o : (BitVec.ofNat 32 (i 0).val).toNat = (i 0).val := by rw [BitVec.toNat_ofNat]; omega
    rw [WordArith.toNat_minsi_of_lt _ _ (by rw [o]; omega) (by rw [s]; omega), o, s]
  rw [e]
  rfl

theorem half_toNat (h : InRange pf) (i : grid0.Coords) :
    (Scalar.select (Scalar.cmpi .slt (BitVec.ofNat 32 (i 0).val) ((pf 1 : S1.Idx → BitVec 32) (ix1 0))) (BitVec.ofNat 32 (i 1).val) 1#32).toNat
      = if (i 0).val < inUse pf then (i 1).val else 1 := by
  have hl := half_lt i
  rw [select_toNat]
  simp only [slt_count _ (row_block_lt i) _ h.2.2]
  have o : (BitVec.ofNat 32 (i 1).val).toNat = (i 1).val := by rw [BitVec.toNat_ofNat]; omega
  rw [o]
  rfl

theorem map1 (h : InRange pf) (i : grid0.Coords) :
    cc0_transform_1 k0_off1_inb numel1_S1 inb_S1_S1_0 pf i = ![0, expertOf pf (i 0), 0, if (i 0).val < inUse pf then (i 1).val else 1] := by
  unfold cc0_transform_1
  dsimp only
  rw [read_count, read_expert, half_toNat pf h i]
  rfl

theorem map2 (h : InRange pf) (i : grid0.Coords) :
    cc0_transform_2 k0_off1_inb numel1_S1 inb_S1_S1_0 pf i = ![0, expertOf pf (i 0), 0, if (i 0).val < inUse pf then (i 1).val else 1] := by
  unfold cc0_transform_2
  dsimp only
  rw [read_count, read_expert, half_toNat pf h i]
  rfl

theorem map3 (h : InRange pf) (i : grid0.Coords) :
    cc0_transform_3 k0_off1_inb numel1_S1 inb_S1_S1_0 pf i = ![0, expertOf pf (i 0), if (i 0).val < inUse pf then (i 1).val else 1, 0] := by
  unfold cc0_transform_3
  dsimp only
  rw [read_count, read_expert, half_toNat pf h i]
  rfl

/-- In range, the half of the hidden columns taken is one of the two. -/
theorem half_le (i : grid0.Coords) : (if (i 0).val < inUse pf then (i 1).val else 1) ≤ 1 := by
  have := half_lt i
  split_ifs <;> omega

/-- Every window's block is inside its array, and whole words of it. -/
theorem inside (h : InRange pf) : ok0 (F := F) pf := by
  refine ⟨fun i => ?_, fun i => ?_, fun i => ?_, fun i => ?_⟩
  · have hb := row_block_lt i
    refine ⟨fun a => ?_, Or.inl rfl⟩
    rw [map0 pf h i]
    match a with
    | ⟨0, _⟩ => show (min (i 0).val (inUse pf - 1) + 1) * 512 ≤ 36864; omega
    | ⟨1, _⟩ => show (0 + 1) * 1024 ≤ 1024; omega
  · have he := h.1 (i 0)
    have hl := half_le pf i
    refine ⟨fun a => ?_, Or.inr (Or.inr ⟨by decide, rfl, ?_, rfl⟩)⟩
    · rw [map1 pf h i]
      match a with
      | ⟨0, _⟩ => show (0 + 1) * 1 ≤ 2; omega
      | ⟨1, _⟩ => show (expertOf pf (i 0) + 1) * 1 ≤ 8; omega
      | ⟨2, _⟩ => show (0 + 1) * 1024 ≤ 1024; omega
      | ⟨3, _⟩ => show ((if (i 0).val < inUse pf then (i 1).val else 1) + 1) * 1792 ≤ 3584; omega
    · show cc0_transform_1 k0_off1_inb numel1_S1 inb_S1_S1_0 pf i 2 * 1024 = 0
      rw [map1 pf h i]; rfl
  · have he := h.1 (i 0)
    have hl := half_le pf i
    refine ⟨fun a => ?_, Or.inr (Or.inr ⟨by decide, rfl, ?_, rfl⟩)⟩
    · rw [map2 pf h i]
      match a with
      | ⟨0, _⟩ => show (0 + 1) * 1 ≤ 2; omega
      | ⟨1, _⟩ => show (expertOf pf (i 0) + 1) * 1 ≤ 8; omega
      | ⟨2, _⟩ => show (0 + 1) * 1024 ≤ 1024; omega
      | ⟨3, _⟩ => show ((if (i 0).val < inUse pf then (i 1).val else 1) + 1) * 1792 ≤ 3584; omega
    · show cc0_transform_2 k0_off1_inb numel1_S1 inb_S1_S1_0 pf i 2 * 1024 = 0
      rw [map2 pf h i]; rfl
  · have he := h.1 (i 0)
    have hl := half_le pf i
    have hbnd : ∀ a, (cc0_transform_3 k0_off1_inb numel1_S1 inb_S1_S1_0 pf i a + 1) * S1x1x1792x1024.size a ≤ S2x8x3584x1024.size a := fun a => by
      rw [map3 pf h i]
      match a with
      | ⟨0, _⟩ => show (0 + 1) * 1 ≤ 2; omega
      | ⟨1, _⟩ => show (expertOf pf (i 0) + 1) * 1 ≤ 8; omega
      | ⟨2, _⟩ => show ((if (i 0).val < inUse pf then (i 1).val else 1) + 1) * 1792 ≤ 3584; omega
      | ⟨3, _⟩ => show (0 + 1) * 1024 ≤ 1024; omega
    refine ⟨hbnd, Or.inr (Or.inl (Or.inr ⟨by decide, rfl, Or.inl ⟨?_, ⟨896, rfl⟩⟩⟩))⟩
    exact Dvd.dvd.mul_left (⟨896, rfl⟩ : 2 ∣ 1792) _

variable (m : (ℓ : Loc nD τ sig) → Buf (Elt F) ℓ)

/-- The tables of a memory the precondition holds of are in range. -/
theorem inRange_of (h : ∀ c : Dev nD, Cert.Pre_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : InRange (tbl m) :=
  decode _ _ _ _ _ _ (h 0)

end Cert.ExpertsCall

end
-- ==== Proof.ExpertsBlock.lean ====
/-
  The experts' call: what its result array holds after the run. A row block in use holds the gated feed-forward of its 512
  rows under the weights of its own expert, added up over the two halves of the 3584 hidden columns; every other row block
  holds zeros.
-/
module

public import proofs.«01_k».proof.Proof.SwigluBlock
public import proofs.«01_k».proof.Proof.ExpertsFrame
public import proofs.«01_k».proof.Proof.ExpertsRange

@[expose] public section

noncomputable section

namespace Cert.ExpertsCall

open Idealize.ShloMosaic Idealize.ShloMosaic.TcCoe Idealize.SL.Sem
open Idealize.ShloMosaic.Pointwise
open Cert.ExpertsIdeal Cert.ExpertsIdeal.Gen
open Cert.SwigluBlock (gated)

/-! ## The layer -/

/-- What hidden column `f` adds to row `p` and column `j` of the gated feed-forward under expert `e` of layer 0. -/
def term (x : S36864x1024.Idx → EReal) (g u : S2x8x1024x3584.Idx → EReal) (d : S2x8x3584x1024.Idx → EReal) (e : Fin 8) (p : Fin 36864) (j : Fin 1024) (f : Fin 3584) : EReal :=
  gated (∑ k : Fin 1024, x (ix2 p k) * g (ix4 0 e k f)) (∑ k : Fin 1024, x (ix2 p k) * u (ix4 0 e k f)) * d (ix4 0 e f j)

/-- Row `p` and column `j` of the gated feed-forward under expert `e` of layer 0. -/
def entry (x : S36864x1024.Idx → EReal) (g u : S2x8x1024x3584.Idx → EReal) (d : S2x8x3584x1024.Idx → EReal) (e : Fin 8) (p : Fin 36864) (j : Fin 1024) : EReal :=
  ∑ f : Fin 3584, term x g u d e p j f

/-- The expert a word names. -/
def expert (v : BitVec 32) : Fin 8 := ⟨v.toNat % 8, Nat.mod_lt _ (by decide)⟩

/-- The row block of a row. -/
def rowBlock (p : Fin 36864) : Fin 72 := ⟨p.val / 512, by omega⟩

/-- The call's result: row `p` through the expert of its row block where that is in use, zero elsewhere. -/
def layer (x : S36864x1024.Idx → EReal) (be : S72.Idx → BitVec 32) (nb : S1.Idx → BitVec 32) (g u : S2x8x1024x3584.Idx → EReal) (d : S2x8x3584x1024.Idx → EReal) :
    S36864x1024.Idx → EReal := fun i =>
  if (i 0).val / 512 < (nb (ix1 0)).toNat then entry x g u d (expert (be (ix1 (rowBlock (i 0))))) (i 0) (i 1) else 0

/-! ## What a point leaves, at an index -/

theorem kept_at (x : Vec Ideal S512x1024 .f32) (r : Fin 512) (j : Fin 1024) : k0_pay1 x (ix2 r j) = x (ix2 r j) := by
  pointwise [k0_pay1]

theorem start_at (r : Fin 512) (j : Fin 1024) : (k0_pay2 : FVec Ideal S512x1024 .f32) (ix2 r j) = 0 := by
  pointwise [k0_pay2]

theorem zero_at (r : Fin 512) (j : Fin 1024) : (k0_pay4 : FVec Ideal S512x1024 .f32) (ix2 r j) = 0 := by
  pointwise [k0_pay4]

theorem sum_at (n : Vec Ideal S512x1024 .bf16) (u v : Vec Ideal S1x1x1024x1792 .bf16) (s : Vec Ideal S512x1024 .f32) (w : Vec Ideal S1x1x1792x1024 .bf16) (r : Fin 512) (j : Fin 1024) :
    k0_pay3 n u v s w (ix2 r j)
      = s (ix2 r j) + ∑ f : Fin 1792, gated (∑ k : Fin 1024, n (ix2 r k) * u (ix4 0 0 k f)) (∑ k : Fin 1024, n (ix2 r k) * v (ix4 0 0 k f)) * w (ix4 0 0 f j) := by
  pointwise [k0_pay3]
  rfl

variable (m : (ℓ : Loc nD τ sig) → Buf (Elt Ideal) ℓ)

/-! ## The blocks, cut from the arguments -/

theorem row_block (hO : Ok m) (t : Fin (cfgM m hO).N) : (grid0.coords t 0).val = t.val / 2 := by
  have ht : t.val < 144 := lt_of_lt_of_eq t.isLt (show (cfgM m hO).N = 144 from N_0)
  have e : (grid0.coords (t : Fin grid0.N) 0).val = t.val / 2 % 72 := Pipeline.Grid.coords_val (t : Fin grid0.N) 0 (show grid0.stride 0 = 2 by decide) rfl
  exact e.trans (by omega)

theorem hidden_half (hO : Ok m) (t : Fin (cfgM m hO).N) : (grid0.coords t 1).val = t.val % 2 := by
  have e : (grid0.coords (t : Fin grid0.N) 1).val = t.val / 1 % 2 := Pipeline.Grid.coords_val (t : Fin grid0.N) 1 (show grid0.stride 1 = 1 by decide) rfl
  exact e.trans (by rw [Nat.div_one])

/-- The expert of a point's row block. -/
def expertAt (t : Fin grid0.N) : Fin 8 := expert ((tbl m 0 : S72.Idx → BitVec 32) (ix1 (grid0.coords t 0)))

theorem expertAt_val (hr : InRange (tbl m)) (t : Fin grid0.N) : (expertAt m t).val = expertOf (tbl m) (grid0.coords t 0) :=
  Nat.mod_eq_of_lt (Nat.lt_succ_of_le (hr.1 (grid0.coords t 0)))

/-- Over the extended reals the rounded weights are the weights. -/
theorem gate_rounded (c : Dev nD) : (V m c main_v0 : S2x8x1024x3584.Idx → EReal) = (m ((c : Thread nD τ).loc main_arg3) : S2x8x1024x3584.Idx → EReal) := by
  after_reads_at
  rfl

theorem up_rounded (c : Dev nD) : (V m c main_v1 : S2x8x1024x3584.Idx → EReal) = (m ((c : Thread nD τ).loc main_arg4) : S2x8x1024x3584.Idx → EReal) := by
  after_reads_at
  rfl

theorem down_rounded (c : Dev nD) : (V m c main_v2 : S2x8x3584x1024.Idx → EReal) = (m ((c : Thread nD τ).loc main_arg5) : S2x8x3584x1024.Idx → EReal) := by
  after_reads_at
  rfl

theorem rows_block (hO : Ok m) (hr : InRange (tbl m)) (c : Dev nD) (t : Fin (cfgM m hO).N) (hu : t.val / 2 < inUse (tbl m)) (r : Fin 512) (j : Fin 1024) (p : Fin 36864) (hp : p.val = t.val / 2 * 512 + r.val) :
    (iblk m hO c 0 t : S512x1024.Idx → EReal) (ix2 r j) = (m ((c : Thread nD τ).loc main_arg0) : S36864x1024.Idx → EReal) (ix2 p j) := by
  refine (congrFun (V_main_arg0 m c) _).trans ?_
  congr 1
  funext a
  apply Fin.ext
  have e := map0 (tbl m) hr (grid0.coords t)
  have hi := row_block m hO t
  match a with
  | ⟨0, _⟩ =>
    show cc0_transform_0 inb_S1_S1_0 numel1_S1 (tbl m) (grid0.coords t) 0 * 512 + 1 * r.val = p.val
    rw [e, hp]
    show min (grid0.coords t 0).val (inUse (tbl m) - 1) * 512 + 1 * r.val = _
    rw [hi, Nat.min_eq_left (Nat.le_sub_one_of_lt hu), one_mul]
  | ⟨1, _⟩ => show cc0_transform_0 inb_S1_S1_0 numel1_S1 (tbl m) (grid0.coords t) 1 * 1024 + 1 * j.val = j.val; rw [e]; simp

theorem gate_block (hO : Ok m) (hr : InRange (tbl m)) (c : Dev nD) (t : Fin (cfgM m hO).N) (hu : t.val / 2 < inUse (tbl m)) (k : Fin 1024) (f : Fin 1792) (q : Fin 3584) (hq : q.val = t.val % 2 * 1792 + f.val) :
    (iblk m hO c 1 t : S1x1x1024x1792.Idx → EReal) (ix4 0 0 k f) = (m ((c : Thread nD τ).loc main_arg3) : S2x8x1024x3584.Idx → EReal) (ix4 0 (expertAt m t) k q) := by
  refine (congrFun (gate_rounded m c) _).trans ?_
  congr 1
  funext a
  apply Fin.ext
  have e := map1 (tbl m) hr (grid0.coords t)
  have hi := row_block m hO t
  match a with
  | ⟨0, _⟩ => show cc0_transform_1 k0_off1_inb numel1_S1 inb_S1_S1_0 (tbl m) (grid0.coords t) 0 * 1 + 1 * 0 = 0; rw [e]; simp
  | ⟨1, _⟩ => show cc0_transform_1 k0_off1_inb numel1_S1 inb_S1_S1_0 (tbl m) (grid0.coords t) 1 * 1 + 1 * 0 = (expertAt m t).val; rw [e, expertAt_val m hr t]; simp
  | ⟨2, _⟩ => show cc0_transform_1 k0_off1_inb numel1_S1 inb_S1_S1_0 (tbl m) (grid0.coords t) 2 * 1024 + 1 * k.val = k.val; rw [e]; simp
  | ⟨3, _⟩ =>
    show cc0_transform_1 k0_off1_inb numel1_S1 inb_S1_S1_0 (tbl m) (grid0.coords t) 3 * 1792 + 1 * f.val = q.val
    rw [e, hq]
    show (if (grid0.coords t 0).val < inUse (tbl m) then (grid0.coords t 1).val else 1) * 1792 + 1 * f.val = _
    rw [if_pos (by rw [hi]; exact hu), hidden_half m hO t, one_mul]

theorem up_block (hO : Ok m) (hr : InRange (tbl m)) (c : Dev nD) (t : Fin (cfgM m hO).N) (hu : t.val / 2 < inUse (tbl m)) (k : Fin 1024) (f : Fin 1792) (q : Fin 3584) (hq : q.val = t.val % 2 * 1792 + f.val) :
    (iblk m hO c 2 t : S1x1x1024x1792.Idx → EReal) (ix4 0 0 k f) = (m ((c : Thread nD τ).loc main_arg4) : S2x8x1024x3584.Idx → EReal) (ix4 0 (expertAt m t) k q) := by
  refine (congrFun (up_rounded m c) _).trans ?_
  congr 1
  funext a
  apply Fin.ext
  have e := map2 (tbl m) hr (grid0.coords t)
  have hi := row_block m hO t
  match a with
  | ⟨0, _⟩ => show cc0_transform_2 k0_off1_inb numel1_S1 inb_S1_S1_0 (tbl m) (grid0.coords t) 0 * 1 + 1 * 0 = 0; rw [e]; simp
  | ⟨1, _⟩ => show cc0_transform_2 k0_off1_inb numel1_S1 inb_S1_S1_0 (tbl m) (grid0.coords t) 1 * 1 + 1 * 0 = (expertAt m t).val; rw [e, expertAt_val m hr t]; simp
  | ⟨2, _⟩ => show cc0_transform_2 k0_off1_inb numel1_S1 inb_S1_S1_0 (tbl m) (grid0.coords t) 2 * 1024 + 1 * k.val = k.val; rw [e]; simp
  | ⟨3, _⟩ =>
    show cc0_transform_2 k0_off1_inb numel1_S1 inb_S1_S1_0 (tbl m) (grid0.coords t) 3 * 1792 + 1 * f.val = q.val
    rw [e, hq]
    show (if (grid0.coords t 0).val < inUse (tbl m) then (grid0.coords t 1).val else 1) * 1792 + 1 * f.val = _
    rw [if_pos (by rw [hi]; exact hu), hidden_half m hO t, one_mul]

theorem down_block (hO : Ok m) (hr : InRange (tbl m)) (c : Dev nD) (t : Fin (cfgM m hO).N) (hu : t.val / 2 < inUse (tbl m)) (f : Fin 1792) (j : Fin 1024) (q : Fin 3584) (hq : q.val = t.val % 2 * 1792 + f.val) :
    (iblk m hO c 3 t : S1x1x1792x1024.Idx → EReal) (ix4 0 0 f j) = (m ((c : Thread nD τ).loc main_arg5) : S2x8x3584x1024.Idx → EReal) (ix4 0 (expertAt m t) q j) := by
  refine (congrFun (down_rounded m c) _).trans ?_
  congr 1
  funext a
  apply Fin.ext
  have e := map3 (tbl m) hr (grid0.coords t)
  have hi := row_block m hO t
  match a with
  | ⟨0, _⟩ => show cc0_transform_3 k0_off1_inb numel1_S1 inb_S1_S1_0 (tbl m) (grid0.coords t) 0 * 1 + 1 * 0 = 0; rw [e]; simp
  | ⟨1, _⟩ => show cc0_transform_3 k0_off1_inb numel1_S1 inb_S1_S1_0 (tbl m) (grid0.coords t) 1 * 1 + 1 * 0 = (expertAt m t).val; rw [e, expertAt_val m hr t]; simp
  | ⟨2, _⟩ =>
    show cc0_transform_3 k0_off1_inb numel1_S1 inb_S1_S1_0 (tbl m) (grid0.coords t) 2 * 1792 + 1 * f.val = q.val
    rw [e, hq]
    show (if (grid0.coords t 0).val < inUse (tbl m) then (grid0.coords t 1).val else 1) * 1792 + 1 * f.val = _
    rw [if_pos (by rw [hi]; exact hu), hidden_half m hO t, one_mul]
  | ⟨3, _⟩ => show cc0_transform_3 k0_off1_inb numel1_S1 inb_S1_S1_0 (tbl m) (grid0.coords t) 3 * 1024 + 1 * j.val = j.val; rw [e]; simp

/-! ## What a row block's second point writes is its block of the layer -/

/-- Two halves of 1792 columns make the 3584. -/
theorem halves (f : Fin 3584 → EReal) :
    (0 + ∑ i : Fin 1792, f ⟨i.val, by omega⟩) + ∑ i : Fin 1792, f ⟨1792 + i.val, by omega⟩ = ∑ i, f i := by
  rw [zero_add]
  exact (Fin.sum_univ_add (a := 1792) (b := 1792) f).symm

/-- The row block of a point is in use when its number is below the number in use. -/
theorem inUse_iff (hO : Ok m) (hr : InRange (tbl m)) (c : Dev nD) (t : Fin (cfgM m hO).N) : InUse m c (grid0.coords t) ↔ t.val / 2 < inUse (tbl m) := by
  have hb := row_block m hO t
  have ht : t.val < 144 := lt_of_lt_of_eq t.isLt (show (cfgM m hO).N = 144 from N_0)
  have two : ∀ b : BitVec 1, (Scalar.cmpi .ne (Scalar.extui b : BitVec 32) 0#32 = 1#1) ↔ b = 1#1 := by decide
  have hc : blocks m c = (tbl m 1 : S1.Idx → BitVec 32) (ix1 0) := by
    rw [← blocks_eq m c]
    unfold Pipeline.Prefetch.Contents.atD
    rw [dif_pos (fun a => by match a with | ⟨0, _⟩ => exact Nat.le_refl 1)]
    exact congrArg (tbl m 1 : S1.Idx → BitVec 32) (by funext a; match a with | ⟨0, _⟩ => rfl)
  unfold InUse k0_cond1
  dsimp only
  rw [two, hc, slt_count _ (by omega) _ hr.2.2, hb]

/-- The result array after the run. -/
abbrev final (c : Dev nD) : S36864x1024.Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The sum of both points of a row block in use, at an index. -/
theorem full_at (hO : Ok m) (hr : InRange (tbl m)) (c : Dev nD) (t : Fin (cfgM m hO).N) (h1 : t.val % 2 = 1) (hu : t.val / 2 < inUse (tbl m)) (r : Fin 512) (j : Fin 1024)
    (p : Fin 36864) (hp : p.val = t.val / 2 * 512 + r.val) :
    full m hO c t (ix2 r j) = entry (m ((c : Thread nD τ).loc main_arg0)) (m ((c : Thread nD τ).loc main_arg3)) (m ((c : Thread nD τ).loc main_arg4))
      (m ((c : Thread nD τ).loc main_arg5)) (expertAt m t) p j := by
  have hb : (before m hO t).val = t.val - 1 := rfl
  have hu' : (before m hO t).val / 2 < inUse (tbl m) := by rw [hb]; omega
  have hp' : p.val = (before m hO t).val / 2 * 512 + r.val := by rw [hb]; omega
  have hq0 : ∀ f : Fin 1792, f.val = (before m hO t).val % 2 * 1792 + f.val := fun f => by rw [hb]; omega
  have hq1 : ∀ f : Fin 1792, 1792 + f.val = t.val % 2 * 1792 + f.val := fun f => by omega
  have he : expertAt m (before m hO t) = expertAt m t := by
    unfold expertAt
    rw [show grid0.coords (before m hO t) 0 = grid0.coords t 0 from Fin.ext (by rw [row_block m hO, row_block m hO, hb]; omega)]
  refine (sum_at (kept m hO c (before m hO t)) (iblk m hO c 1 t) (iblk m hO c 2 t) (half m hO c (before m hO t)) (iblk m hO c 3 t) r j).trans ?_
  have hh : half m hO c (before m hO t) (ix2 r j) = _ :=
    sum_at (kept m hO c (before m hO t)) (iblk m hO c 1 (before m hO t)) (iblk m hO c 2 (before m hO t)) (k0_pay2 (F := Ideal)) (iblk m hO c 3 (before m hO t)) r j
  have hk : ∀ k : Fin 1024, kept m hO c (before m hO t) (ix2 r k) = (m ((c : Thread nD τ).loc main_arg0) : S36864x1024.Idx → EReal) (ix2 p k) := fun k =>
    (kept_at (iblk m hO c 0 (before m hO t)) r k).trans (rows_block m hO hr c (before m hO t) hu' r k p hp')
  rw [hh, start_at]
  simp only [hk,
    fun k f => gate_block m hO hr c t hu k f ⟨1792 + f.val, by omega⟩ (hq1 f), fun k f => gate_block m hO hr c (before m hO t) hu' k f ⟨f.val, by omega⟩ (hq0 f),
    fun k f => up_block m hO hr c t hu k f ⟨1792 + f.val, by omega⟩ (hq1 f), fun k f => up_block m hO hr c (before m hO t) hu' k f ⟨f.val, by omega⟩ (hq0 f),
    fun f j => down_block m hO hr c t hu f j ⟨1792 + f.val, by omega⟩ (hq1 f), fun f j => down_block m hO hr c (before m hO t) hu' f j ⟨f.val, by omega⟩ (hq0 f), he]
  exact halves (term (m ((c : Thread nD τ).loc main_arg0)) (m ((c : Thread nD τ).loc main_arg3)) (m ((c : Thread nD τ).loc main_arg4))
    (m ((c : Thread nD τ).loc main_arg5)) (expertAt m t) p j)

/-- Each block written back is its block of the layer. -/
theorem block_at (hO : Ok m) (hr : InRange (tbl m)) (c : Dev nD) (t : Fin (cfgM m hO).N) (h1 : t.val % 2 = 1) (r : Fin 512) (j : Fin 1024)
    (p : Fin 36864) (hp : p.val = t.val / 2 * 512 + r.val) :
    block m hO c t (ix2 r j) = final m c (ix2 p j) := by
  obtain rfl : c = 0 := Subsingleton.elim _ _
  have hd : p.val / 512 = t.val / 2 := by omega
  have hb : rowBlock p = grid0.coords t 0 := Fin.ext (hd.trans (row_block m hO t).symm)
  unfold block final layer
  by_cases hu : t.val / 2 < inUse (tbl m)
  · rw [if_pos ((inUse_iff m hO hr 0 t).mpr hu)]
    have hc : ((ix2 p j : S36864x1024.Idx) 0).val / 512 < ((m (((0 : Dev nD) : Thread nD τ).loc main_arg2) : S1.Idx → BitVec 32) (ix1 0)).toNat := lt_of_eq_of_lt hd hu
    rw [if_pos hc, full_at m hO hr 0 t h1 hu r j p hp]
    show entry _ _ _ _ (expertAt m t) p j = entry _ _ _ _ (expert ((m (((0 : Dev nD) : Thread nD τ).loc main_arg1) : S72.Idx → BitVec 32) (ix1 (rowBlock p)))) p j
    rw [hb]
    rfl
  · rw [if_neg fun e => hu ((inUse_iff m hO hr 0 t).mp e)]
    have hc : ¬((ix2 p j : S36864x1024.Idx) 0).val / 512 < ((m (((0 : Dev nD) : Thread nD τ).loc main_arg2) : S1.Idx → BitVec 32) (ix1 0)).toNat := fun e => hu (lt_of_eq_of_lt hd.symm e)
    rw [if_neg hc]
    exact zero_at r j

theorem written_block (t : Fin grid0.N) (ht : t.val < 144) : cc0_transform_4 (grid0.coords t) = ![t.val / 2, 0] := by
  have e : (grid0.coords t 0).val = t.val / 2 % 72 := Pipeline.Grid.coords_val t 0 (show grid0.stride 0 = 2 by decide) rfl
  unfold cc0_transform_4
  dsimp only
  rw [e]
  have : (BitVec.ofNat 32 (t.val / 2 % 72)).toNat = t.val / 2 := by rw [BitVec.toNat_ofNat]; omega
  rw [this]
  rfl

theorem cover (hO : Ok m) (i : S36864x1024.Idx) : ∃ t : Fin (cfgM m hO).N, ((cfgM m hO).win 4).flush t = true ∧ i ∈ (((cfgM m hO).win 4).blk t).view.set := by
  have h0 : (i 0).val < 36864 := (i 0).isLt
  have h1 : (i 1).val < 1024 := (i 1).isLt
  have hl : 2 * ((i 0).val / 512) + 1 < 144 := by omega
  let t : Fin (cfgM m hO).N := ⟨2 * ((i 0).val / 512) + 1, lt_of_lt_of_eq hl (show 144 = (cfgM m hO).N from N_0.symm)⟩
  have e := written_block t hl
  have q0 : t.val / 2 = (i 0).val / 512 := by show (2 * ((i 0).val / 512) + 1) / 2 = (i 0).val / 512; omega
  rw [q0] at e
  refine ⟨t, (flush0_4 (adm m hO) t).mpr (by show (2 * ((i 0).val / 512) + 1) % 2 = 1; omega), ?_⟩
  show i ∈ ((View.whole main_v3).slice (((cfgM m hO).win 4).rect t)).set
  refine (iff_of_eq (congrArg (i ∈ ·) (View.set_slice_whole main_v3 (((cfgM m hO).win 4).rect t)))).mpr ?_
  refine (Rect.mem_set_unit (s := S36864x1024)).mpr ?_
  intro a
  match a with
  | ⟨0, _⟩ =>
    show cc0_transform_4 (grid0.coords t) 0 * 512 ≤ (i 0).val ∧ (i 0).val < cc0_transform_4 (grid0.coords t) 0 * 512 + 512
    rw [e]; show (i 0).val / 512 * 512 ≤ (i 0).val ∧ (i 0).val < (i 0).val / 512 * 512 + 512; omega
  | ⟨1, _⟩ =>
    show cc0_transform_4 (grid0.coords t) 1 * 1024 ≤ (i 1).val ∧ (i 1).val < cc0_transform_4 (grid0.coords t) 1 * 1024 + 1024
    rw [e]; show 0 * 1024 ≤ (i 1).val ∧ (i 1).val < 0 * 1024 + 1024; omega

theorem two_axes (y : S512x1024.Idx) : ∃ (r : Fin 512) (j : Fin 1024), y = ix2 r j :=
  ⟨y 0, y 1, by funext a; match a with | ⟨0, _⟩ => rfl | ⟨1, _⟩ => rfl⟩

theorem flushed (hO : Ok m) (hr : InRange (tbl m)) (c : Dev nD) (t : Fin (cfgM m hO).N) (hf : ((cfgM m hO).win 4).flush t = true) :
    (dats m hO 0 c).flushed 4 t = (((cfgM m hO).win 4).blk t).view.read (Elt Ideal) (final m c) := by
  have h1 : t.val % 2 = 1 := (flush0_4 (adm m hO) t).mp hf
  have ht : t.val < 144 := lt_of_lt_of_eq t.isLt (show (cfgM m hO).N = 144 from N_0)
  have e := written_block t ht
  funext y
  obtain ⟨r, j, rfl⟩ : ∃ (r : Fin 512) (j : Fin 1024), y = ix2 r j := two_axes y
  have hp : t.val / 2 * 512 + r.val < 36864 := by omega
  have hi : ((((cfgM m hO).win 4).blk t).view.emb (ix2 r j) : S36864x1024.Idx) = ix2 ⟨t.val / 2 * 512 + r.val, hp⟩ j := by
    funext a
    apply Fin.ext
    match a with
    | ⟨0, _⟩ => show cc0_transform_4 (grid0.coords t) 0 * 512 + 1 * r.val = t.val / 2 * 512 + r.val; rw [e]; simp
    | ⟨1, _⟩ => show cc0_transform_4 (grid0.coords t) 1 * 1024 + 1 * j.val = j.val; rw [e]; simp
  show block m hO c t (ix2 r j) = final m c ((((cfgM m hO).win 4).blk t).view.emb (ix2 r j))
  rw [block_at m hO hr c t h1 r j ⟨t.val / 2 * 512 + r.val, hp⟩ rfl]
  exact (congrArg (final m c) hi).symm

theorem final_array (hO : Ok m) (hr : InRange (tbl m)) (c : Dev nD) : (dats m hO 0 c).arrAt 4 (cfgM m hO).N = final m c :=
  (dats m hO 0 c).arrAt_eq_of_cover 4 _ (fun t hf => flushed m hO hr c t hf) (cover m hO)

/-- The run, with the tables in range: the result ends holding the layer, the arguments are unchanged. -/
theorem run (hr : InRange (tbl m)) (ρ : Dev nD → PrngReg) : θ_run defs (onTc (τ := τ) (main (F := Ideal))) ⟨m, fun _ => 0, ρ⟩ fun r => ∀ c : Dev nD,
      r.2.mem ((c.tc : Thread nD τ).loc main_v3) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 4).trans (final_array m (inside _ hr) hr c), h.2.1 c⟩)
    (θ_run_and ((θ_run defs _ _).mono (fun _ h => h.1) (run_main m ρ (inside _ hr))) (frame m ρ (inside _ hr)))

end Cert.ExpertsCall

end
-- ==== Proof.ExpertsClaim.lean ====
/-
  The experts' call: the reference's array is the layer at every entry, which the kernel's array holds too. The reference
  picks each row block's weights by a product with a row that is one at the block's expert and zero elsewhere.
-/
module

public import proofs.«01_k».proof.Defs
public import proofs.«01_k».proof.Proof.ExpertsBlock
public import proofs.«01_k».proof.Proof.SwigluClaim
public import proofs.«01_k».proof.Proof.Gen.ExpertsRefIdeal.Run
public import Idealize.ShloMosaic.Lib.StableHlo.Predicate

@[expose] public section

noncomputable section

namespace Cert.ExpertsClaim

open Idealize.ShloMosaic Idealize.ShloMosaic.TcCoe Idealize.SL.Sem
open Idealize.ShloMosaic.Pointwise
open Cert.ExpertsRefIdeal Cert.ExpertsRefIdeal.Gen
open Cert.ExpertsCall (layer entry term expert rowBlock)
open Cert.SwigluBlock (gated)

/-! ## The selecting rows -/

/-- The row that is one at the block's expert and zero elsewhere. -/
def chosen (be : IVec S72 32) : FVec Ideal S72x8 .f32 :=
  uitofp .f32 (cmpi .eq (broadcastInDim S72x8 ![0, 1] bcast_S72x1_S72x8_0_1 (broadcastInDim S72x1 ![0] bcast_S72_S72x1_0 be))
    (broadcastInDim S72x8 ![0, 1] bcast_S1x8_S72x8_0_1 (broadcastInDim S1x8 ![1] bcast_S8_S1x8_1 (iotaInDim S8 32 0))))

theorem chosen_word (be : IVec S72 32) (b : Fin 72) (e : Fin 8) :
    chosen be (ix2 b e) = FloatOps.uitofp (F := Ideal) .f32 (IntOp.cmpi .eq (be (ix1 b)) (BitVec.ofNat 32 e.val)) := by
  pointwise [chosen]

theorem one_bit : FloatOps.uitofp (F := Ideal) .f32 1#1 = (1 : EReal) := by
  show (((1#1 : BitVec 1).toNat : ℝ) : EReal) = 1
  simp

theorem zero_bit : FloatOps.uitofp (F := Ideal) .f32 0#1 = (0 : EReal) := by
  show (((0#1 : BitVec 1).toNat : ℝ) : EReal) = 0
  simp

theorem bit_zero {c : BitVec 1} (h : ¬ c = 1#1) : c = 0#1 := by
  revert h
  revert c
  decide

theorem chosen_apply (be : IVec S72 32) (h : ∀ b : Fin 72, (be (ix1 b)).toNat ≤ 7) (b : Fin 72) (e : Fin 8) :
    chosen be (ix2 b e) = if e = expert (be (ix1 b)) then 1 else 0 := by
  rw [chosen_word]
  have hb := h b
  by_cases c : e = expert (be (ix1 b))
  · rw [if_pos c]
    have w : be (ix1 b) = BitVec.ofNat 32 e.val := by
      apply BitVec.eq_of_toNat_eq
      have := congrArg Fin.val c
      simp only [expert] at this
      rw [BitVec.toNat_ofNat]
      omega
    rw [show IntOp.cmpi .eq (be (ix1 b)) (BitVec.ofNat 32 e.val) = 1#1 from StableHlo.Predicate.cmpi_eq_iff.2 w]
    exact one_bit
  · rw [if_neg c]
    have w : ¬ IntOp.cmpi .eq (be (ix1 b)) (BitVec.ofNat 32 e.val) = 1#1 := fun q => c <| Fin.ext <| by
      have := congrArg BitVec.toNat (StableHlo.Predicate.cmpi_eq_iff.1 q)
      rw [BitVec.toNat_ofNat] at this
      show e.val = (be (ix1 b)).toNat % 8
      omega
    rw [bit_zero w]
    exact zero_bit

/-- The weights of layer 0 under each row block's expert. -/
def picked (be : IVec S72 32) (w : FVec Ideal S2x8x1024x3584 .f32) : FVec Ideal S72x1024x3584 .f32 :=
  Host.dotGeneral dot_S72x8_S8x1024x3584_S72x1024x3584_1_0_0_12_n_n none (chosen be)
    (shapeCast _ (extractStridedSlice S1x8x1024x3584 ![0, 0, 0, 0] w slices_S2x8x1024x3584_S1x8x1024x3584_0_0_0_0) shapeCasts_S1x8x1024x3584_S8x1024x3584)

theorem picked_sum (be : IVec S72 32) (w : FVec Ideal S2x8x1024x3584 .f32) (b : Fin 72) (k : Fin 1024) (f : Fin 3584) :
    picked be w (ix3 b k f) = ∑ e : Fin 8, chosen be (ix2 b e) * w (ix4 0 e k f) := by
  pointwise [picked]

/-- The down weights of layer 0 under each row block's expert. -/
def pickedDown (be : IVec S72 32) (w : FVec Ideal S2x8x3584x1024 .f32) : FVec Ideal S72x3584x1024 .f32 :=
  Host.dotGeneral dot_S72x8_S8x3584x1024_S72x3584x1024_1_0_0_12_n_n none (chosen be)
    (shapeCast _ (extractStridedSlice S1x8x3584x1024 ![0, 0, 0, 0] w slices_S2x8x3584x1024_S1x8x3584x1024_0_0_0_0) shapeCasts_S1x8x3584x1024_S8x3584x1024)

theorem pickedDown_sum (be : IVec S72 32) (w : FVec Ideal S2x8x3584x1024 .f32) (b : Fin 72) (f : Fin 3584) (j : Fin 1024) :
    pickedDown be w (ix3 b f j) = ∑ e : Fin 8, chosen be (ix2 b e) * w (ix4 0 e f j) := by
  pointwise [pickedDown]

/-- A sum over the experts against a selecting row is the selected expert's entry. -/
theorem select_sum (v : Fin 8 → EReal) (a : Fin 8) (s : Fin 8 → EReal) (h : ∀ e, s e = if e = a then 1 else 0) : ∑ e, s e * v e = v a := by
  have : ∀ e, s e * v e = if e = a then v e else 0 := fun e => by
    rw [h e]
    by_cases c : e = a
    · rw [if_pos c, if_pos c, one_mul]
    · rw [if_neg c, if_neg c, zero_mul]
  rw [Finset.sum_congr rfl fun e _ => this e, Finset.sum_ite_eq' Finset.univ a v, if_pos (Finset.mem_univ a)]

theorem zero_word : Ideal.ofBits FTy.f32 0#32 = 0 := by
  simp [Ideal.ofBits, Ideal.ieee, -EReal.coe_mul]

/-! ## The layer in row blocks -/

/-- The rows of each block times its weights. -/
def hidden (x : FVec Ideal S36864x1024 .f32) (w : FVec Ideal S72x1024x3584 .f32) : FVec Ideal S72x512x3584 .f32 :=
  Host.dotGeneral dot_S72x512x1024_S72x1024x3584_S72x512x3584_2_1_1_2_0_0 none (shapeCast _ x shapeCasts_S36864x1024_S72x512x1024) w

/-- Row `r` of row block `b`. -/
def row (b : Fin 72) (r : Fin 512) : Fin 36864 := ⟨b.val * 512 + r.val, by omega⟩

theorem hidden_apply (x : FVec Ideal S36864x1024 .f32) (w : FVec Ideal S72x1024x3584 .f32) (b : Fin 72) (r : Fin 512) (f : Fin 3584) :
    hidden x w (ix3 b r f) = ∑ k : Fin 1024, x (ix2 (row b r) k) * w (ix3 b k f) := by
  pointwise [hidden]
  rfl

/-- The gated hidden columns; the activation is the number times one over one plus the exponential of its negation. -/
def active (u v : FVec Ideal S72x512x3584 .f32) (one : FVec Ideal S_ .f32) : FVec Ideal S72x512x3584 .f32 :=
  mulf (mulf u (Host.divf (broadcastInDim S72x512x3584 ![] bcast_S_S72x512x3584 one)
    (addf (broadcastInDim S72x512x3584 ![] bcast_S_S72x512x3584 one) (Host.exp (Host.negf u))))) v

theorem active_apply (u v : FVec Ideal S72x512x3584 .f32) (one : FVec Ideal S_ .f32) (b : Fin 72) (r : Fin 512) (f : Fin 3584) :
    active u v one (ix3 b r f) = u (ix3 b r f) * Ideal.div (one ix0) (one ix0 + Ideal.exp (-u (ix3 b r f))) * v (ix3 b r f) := by
  pointwise [active]

/-- The down product, block by block. -/
def down (h : FVec Ideal S72x512x3584 .f32) (w : FVec Ideal S72x3584x1024 .f32) : FVec Ideal S72x512x1024 .f32 :=
  Host.dotGeneral dot_S72x512x3584_S72x3584x1024_S72x512x1024_2_1_1_2_0_0 none h w

theorem down_apply (h : FVec Ideal S72x512x3584 .f32) (w : FVec Ideal S72x3584x1024 .f32) (b : Fin 72) (r : Fin 512) (j : Fin 1024) :
    down h w (ix3 b r j) = ∑ f : Fin 3584, h (ix3 b r f) * w (ix3 b f j) := by
  pointwise [down]

/-- Which rows lie in a row block in use. -/
def live (nb : IVec S1 32) (n : IVec S_ 32) : IVec S36864x1024 1 :=
  broadcastInDim S36864x1024 ![0, 1] bcast_S36864x1_S36864x1024_0_1 (cmpi .slt (broadcastInDim S36864x1 ![0] bcast_S36864_S36864x1_0 (iotaInDim S36864 32 0))
    (broadcastInDim S36864x1 ![0, 1] bcast_S1x1_S36864x1_0_1 (broadcastInDim S1x1 ![1] bcast_S1_S1x1_1 (muli nb (broadcastInDim S1 ![] bcast_S_S1 n)))))

theorem live_apply (nb : IVec S1 32) (n : IVec S_ 32) (p : Fin 36864) (j : Fin 1024) :
    live nb n (ix2 p j) = IntOp.cmpi .slt (BitVec.ofNat 32 p.val) (IntOp.muli (nb (ix1 0)) (n ix0)) := by
  pointwise [live]

/-- The blocks laid out as rows, with zeros out of use. -/
def kept (c : IVec S36864x1024 1) (y : FVec Ideal S72x512x1024 .f32) (z : FVec Ideal S_ .f32) : FVec Ideal S36864x1024 .f32 :=
  select c (shapeCast _ y shapeCasts_S72x512x1024_S36864x1024) (broadcastInDim S36864x1024 ![] bcast_S_S36864x1024 (id z))

/-- The row of a row within its block. -/
def within (p : Fin 36864) : Fin 512 := ⟨p.val % 512, Nat.mod_lt _ (by decide)⟩

theorem kept_apply (c : IVec S36864x1024 1) (y : FVec Ideal S72x512x1024 .f32) (z : FVec Ideal S_ .f32) (p : Fin 36864) (j : Fin 1024) :
    kept c y z (ix2 p j) = if c (ix2 p j) = 1#1 then y (ix3 (rowBlock p) (within p) j) else z ix0 := by
  pointwise [kept]
  by_cases e : c (ix2 p j) = 1#1
  · rw [if_pos e, e]
    rfl
  · rw [if_neg e, bit_zero e]
    rfl

theorem live_iff (nb : IVec S1 32) (n : IVec S_ 32) (hn : n ix0 = 512#32) (h : (nb (ix1 0)).toNat ≤ 72) (p : Fin 36864) (j : Fin 1024) :
    live nb n (ix2 p j) = 1#1 ↔ p.val / 512 < (nb (ix1 0)).toNat := by
  have hp := p.isLt
  have e : (IntOp.muli (nb (ix1 0)) (n ix0)).toNat = (nb (ix1 0)).toNat * 512 := by
    rw [hn]
    show ((nb (ix1 0)) * 512#32).toNat = _
    rw [BitVec.toNat_mul, show (512#32 : BitVec 32).toNat = 512 from rfl]
    omega
  have hv : (BitVec.ofNat 32 p.val).toNat = p.val := by
    rw [BitVec.toNat_ofNat]
    omega
  rw [live_apply]
  refine (StableHlo.Predicate.slt_iff_toNat (by omega) (by omega)).trans ?_
  rw [e, hv]
  omega

/-! ## The whole -/

/-- The whole reference. -/
def result (x : FVec Ideal S36864x1024 .f32) (be : IVec S72 32) (nb : IVec S1 32) (g u : FVec Ideal S2x8x1024x3584 .f32) (d : FVec Ideal S2x8x3584x1024 .f32) :
    FVec Ideal S36864x1024 .f32 :=
  kept (live nb (constantI S_ 32 512#32))
    (down (active (hidden x (picked be g)) (hidden x (picked be u)) (constant S_ .f32 0x3F800000#32)) (pickedDown be d)) (constant S_ .f32 0x00000000#32)

theorem row_within (p : Fin 36864) : row (rowBlock p) (within p) = p :=
  Fin.ext (show p.val / 512 * 512 + p.val % 512 = p.val by omega)

/-- A block's row through the reference, at one hidden column. -/
theorem active_term (x : FVec Ideal S36864x1024 .f32) (be : IVec S72 32) (g u : FVec Ideal S2x8x1024x3584 .f32) (d : FVec Ideal S2x8x3584x1024 .f32)
    (one : FVec Ideal S_ .f32) (h1 : one ix0 = (1 : EReal)) (h : ∀ b : Fin 72, (be (ix1 b)).toNat ≤ 7) (p : Fin 36864) (j : Fin 1024) (f : Fin 3584) :
    active (hidden x (picked be g)) (hidden x (picked be u)) one (ix3 (rowBlock p) (within p) f) * pickedDown be d (ix3 (rowBlock p) f j)
      = term x g u d (expert (be (ix1 (rowBlock p)))) p j f := by
  have sel : ∀ (w : FVec Ideal S2x8x1024x3584 .f32) (k : Fin 1024), picked be w (ix3 (rowBlock p) k f) = w (ix4 0 (expert (be (ix1 (rowBlock p)))) k f) := fun w k =>
    (picked_sum be w _ k f).trans (select_sum (fun e => w (ix4 0 e k f)) _ _ (chosen_apply be h _))
  have selD : pickedDown be d (ix3 (rowBlock p) f j) = d (ix4 0 (expert (be (ix1 (rowBlock p)))) f j) :=
    (pickedDown_sum be d _ f j).trans (select_sum (fun e => d (ix4 0 e f j)) _ _ (chosen_apply be h _))
  rw [active_apply, selD]
  simp only [hidden_apply, row_within, sel, h1]
  rfl

theorem result_eq (x : FVec Ideal S36864x1024 .f32) (be : IVec S72 32) (nb : IVec S1 32) (g u : FVec Ideal S2x8x1024x3584 .f32) (d : FVec Ideal S2x8x3584x1024 .f32)
    (h : ∀ b : Fin 72, (be (ix1 b)).toNat ≤ 7) (hn : (nb (ix1 0)).toNat ≤ 72) : result x be nb g u d = layer x be nb g u d := by
  funext i
  obtain ⟨p, j, rfl⟩ : ∃ (p : Fin 36864) (j : Fin 1024), i = ix2 p j := ⟨i 0, i 1, by funext a; match a with | ⟨0, _⟩ => rfl | ⟨1, _⟩ => rfl⟩
  have e1 : (constant S_ .f32 0x3F800000#32 : FVec Ideal S_ .f32) ix0 = (1 : EReal) := Cert.SwigluClaim.one_word
  have e0 : (constant S_ .f32 0x00000000#32 : FVec Ideal S_ .f32) ix0 = (0 : EReal) := zero_word
  have hl := live_iff nb (constantI S_ 32 512#32) rfl hn p j
  refine (kept_apply _ _ _ p j).trans ?_
  show _ = if p.val / 512 < (nb (ix1 0)).toNat then entry x g u d (expert (be (ix1 (rowBlock p)))) p j else 0
  by_cases c : p.val / 512 < (nb (ix1 0)).toNat
  · rw [if_pos c, if_pos (hl.2 c), down_apply]
    exact Finset.sum_congr rfl fun f _ => active_term x be g u d _ e1 h p j f
  · rw [if_neg c, if_neg fun q => c (hl.1 q)]
    exact e0

/-- The reference: its result is the layer of its arguments, where the two integer arguments are in range. -/
theorem reference (m : (ℓ : Loc nD τ sig) → Buf (Elt Ideal) ℓ) (ρ : Dev nD → PrngReg)
    (h : ∀ (c : Dev nD) (b : Fin 72), ((m ((c : Thread nD τ).loc main_arg1) : S72.Idx → BitVec 32) (ix1 b)).toNat ≤ 7)
    (hn : ∀ c : Dev nD, ((m ((c : Thread nD τ).loc main_arg2) : S1.Idx → BitVec 32) (ix1 0)).toNat ≤ 72) :
    θ_run defs (onTc (τ := τ) (main (F := Ideal))) ⟨m, fun _ => 0, ρ⟩ fun r => ∀ c : Dev nD,
      r.2.mem ((c : Thread nD τ).loc main_v30)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun _ q c => ⟨(q c).1.trans ?_, (q c).2⟩) (Value.run m ρ)
  exact result_eq _ _ _ _ _ _ (h c) (hn c)

theorem equal : Cert.algebraic_ExpertsIdeal_ExpertsRefIdeal := by
  intro m ρ m' ρ' hp hagree
  have hr := Cert.ExpertsCall.inRange_of m hp
  have range : ∀ c : Dev nD, (∀ b : Fin 72, ((m ((c : Thread Cert.ExpertsIdeal.nD Cert.ExpertsIdeal.τ).loc Cert.ExpertsIdeal.main_arg1) : S72.Idx → BitVec 32) (ix1 b)).toNat ≤ 7)
      ∧ 1 ≤ ((m ((c : Thread Cert.ExpertsIdeal.nD Cert.ExpertsIdeal.τ).loc Cert.ExpertsIdeal.main_arg2) : S1.Idx → BitVec 32) (ix1 0)).toNat
      ∧ ((m ((c : Thread Cert.ExpertsIdeal.nD Cert.ExpertsIdeal.τ).loc Cert.ExpertsIdeal.main_arg2) : S1.Idx → BitVec 32) (ix1 0)).toNat ≤ 72 :=
    fun c => Cert.ExpertsCall.decode (F := Ideal) _ _ _ _ _ _ (hp c)
  refine ⟨fun c => Cert.ExpertsCall.final m c, Cert.ExpertsCall.run m hr ρ, ?_⟩
  have hb : ∀ (c : Dev nD) (b : Fin 72), ((m' ((c : Thread nD τ).loc main_arg1) : S72.Idx → BitVec 32) (ix1 b)).toNat ≤ 7 := fun c b => by
    have h := (range c).1 b
    obtain ⟨_, h1, _⟩ := hagree c
    exact h1 ▸ h
  have hn : ∀ c : Dev nD, ((m' ((c : Thread nD τ).loc main_arg2) : S1.Idx → BitVec 32) (ix1 0)).toNat ≤ 72 := fun c => by
    have h := (range c).2.2
    obtain ⟨_, _, h2, _⟩ := hagree c
    exact h2 ▸ h
  refine (θ_run defs _ _).mono (fun _ h c => ⟨(h c).1.trans ?_, (h c).2⟩) (reference m' ρ' hb hn)
  obtain ⟨h0, h1, h2, h3, h4, h5⟩ := hagree c
  rw [h0, h1, h2, h3, h4, h5]

end Cert.ExpertsClaim

end
-- ==== Proof.LatentKit.lean ====
/-
  The latent attention's call: its launch set-up. @main scales the queries, rounds the queries, keys and values to bf16 and
  enters one region over 36 points, one per pair of a query block and a key block it may see, in the order of the query
  blocks. Three constant tables list the pairs: the query block, the key block and the flags of each point.
-/
module

public import proofs.«01_k».proof.Proof.Gen.LatentIdeal.Launch
public import proofs.«01_k».proof.Proof.Gen.LatentIdeal.Skeleton
public import Idealize.ShloMosaic.Lib.Pipeline.Kit
public import Idealize.ShloMosaic.Lib.Pipeline.FrameBody
public import Idealize.ShloMosaic.Lib.Pointwise
public import Idealize.ShloMosaic.Lib.Affine
public import Idealize.ShloMosaic.Lib.Ring
public import Idealize.ShloMosaic.Lib.Tactic
public import Idealize.ShloMosaic.Lib.StableHlo.ReadAt
public import Idealize.ShloMosaic.Lib.WordCmp

@[expose] public section

set_option maxRecDepth 16384

noncomputable section

namespace Cert.LatentCall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LatentIdeal Cert.LatentIdeal.Gen

variable {F : FTy → Type} [FloatOps F] [Named F]

local notation "𝕄" => MT nD τ sig Unit (Elt F) ℕ (UR sig nD τ) ℕ

/-! ## The points -/

/-- The query block of a point, -/
def qw (n : Fin 36) : BitVec 32 := lit0 (S36.rowMajor (ix1 n))
/-- its key block -/
def kw (n : Fin 36) : BitVec 32 := lit1 (S36.rowMajor (ix1 n))
/-- and its flags. -/
def fw (n : Fin 36) : BitVec 32 := lit2 (S36.rowMajor (ix1 n))

/-- The flags' bits: the first point of a query block, -/
abbrev first (v : BitVec 32) : Prop := Scalar.cmpi .ne (Scalar.extui (Scalar.cmpi .ne (Scalar.andi v 1#32) 0#32) : BitVec 32) 0#32 = 1#1
/-- a point on the diagonal, -/
abbrev masked (v : BitVec 32) : Prop := Scalar.cmpi .ne (Scalar.extui (Scalar.cmpi .ne (Scalar.andi v 4#32) 0#32) : BitVec 32) 0#32 = 1#1
/-- a point below it, -/
abbrev below (v : BitVec 32) : Prop := Scalar.cmpi .ne (Scalar.extui (Scalar.cmpi .eq (Scalar.andi v 4#32) 0#32) : BitVec 32) 0#32 = 1#1
/-- the last point of a query block. -/
abbrev last (v : BitVec 32) : Prop := k0_cond4 v = 1#1

theorem qw_le : ∀ n, (qw n).toNat ≤ 7 := by decide +kernel
theorem kw_le : ∀ n, (kw n).toNat ≤ (qw n).toNat := by decide +kernel
theorem first_iff : ∀ n, first (fw n) ↔ (kw n).toNat = 0 := by decide +kernel
theorem masked_iff : ∀ n, masked (fw n) ↔ (kw n).toNat = (qw n).toNat := by decide +kernel
theorem below_iff : ∀ n, below (fw n) ↔ (kw n).toNat ≠ (qw n).toNat := by decide +kernel
theorem last_iff : ∀ n, last (fw n) ↔ (kw n).toNat = (qw n).toNat := by decide +kernel
/-- The point before one that is not the first of its query block takes the key block before. -/
theorem before_word : ∀ n : Fin 36, (kw n).toNat ≠ 0 → 0 < n.val ∧ (qw (⟨n.val - 1, by omega⟩ : Fin 36)).toNat = (qw n).toNat ∧ (kw (⟨n.val - 1, by omega⟩ : Fin 36)).toNat + 1 = (kw n).toNat := by decide +kernel
/-- The point of a query block and a key block. -/
theorem point_word : ∀ i : Fin 8, ∀ j : Fin 8, j.val ≤ i.val → ∃ h : i.val * (i.val + 1) / 2 + j.val < 36, (qw ⟨i.val * (i.val + 1) / 2 + j.val, h⟩).toNat = i.val ∧ (kw ⟨i.val * (i.val + 1) / 2 + j.val, h⟩).toNat = j.val := by decide +kernel

/-- The grid's second coordinate is the point itself. -/
theorem coord_point : ∀ t : Fin grid0.N, (grid0.coords t 1).val = t.val := by decide +kernel
theorem coord_zero (i : grid0.Coords) : (i 0).val = 0 := by have : (i 0).val < 1 := (i 0).isLt; omega
theorem coord_lt (i : grid0.Coords) : (i 1).val < 36 := (i 1).isLt

/-- The tables' contents. -/
def tbl : pre0.Contents (Elt F) := fun
  | ⟨0, _⟩ => (fun i => lit0 (S36.rowMajor i) : S36.Idx → BitVec 32)
  | ⟨1, _⟩ => (fun i => lit1 (S36.rowMajor i) : S36.Idx → BitVec 32)
  | ⟨2, _⟩ => (fun i => lit2 (S36.rowMajor i) : S36.Idx → BitVec 32)

theorem off1_idx (i : grid0.Coords) : (Rect.unit (s := S36) (k0_off1 i) S1.size (k0_off1_inb i)).emb (Shape.Idx.first (numel1_S1.symm ▸ Nat.one_pos)) = (ix1 (i 1) : S36.Idx) := by
  funext a; apply Fin.ext
  match a with
  | ⟨0, _⟩ =>
    show k0_off1 i 0 + 1 * 0 = (i 1).val
    rw [k0_off1_eq]; rfl

theorem off_read (i : grid0.Coords) (x : S36.Idx → BitVec 32) (h : ∀ a, (![(Scalar.indexCast (BitVec.ofNat 32 (i 1).val) : Index).toNat] : Fin 1 → ℕ) a + S1.size a ≤ S36.size a) :
    x ((Rect.unit (s := S36) ![(Scalar.indexCast (BitVec.ofNat 32 (i 1).val) : Index).toNat] S1.size h).emb (Shape.Idx.first (numel1_S1.symm ▸ Nat.one_pos))) = x (ix1 (i 1)) :=
  congrArg x (by
    funext a; apply Fin.ext
    match a with
    | ⟨0, _⟩ =>
      show (BitVec.ofNat 32 (i 1).val).toNat + 1 * 0 = (i 1).val
      have := coord_lt i
      rw [BitVec.toNat_ofNat]; omega)

theorem read0 (i : grid0.Coords) : (tbl (F := F)).at 0 (Rect.unit (s := S36) ![(Scalar.indexCast (BitVec.ofNat 32 (i 1).val) : Index).toNat] S1.size (k0_off1_inb i)) numel1_S1 = qw (i 1) :=
  off_read i (fun i => lit0 (S36.rowMajor i)) _
theorem read1 (i : grid0.Coords) : (tbl (F := F)).at 1 (Rect.unit (s := S36) ![(Scalar.indexCast (BitVec.ofNat 32 (i 1).val) : Index).toNat] S1.size (k0_off1_inb i)) numel1_S1 = kw (i 1) :=
  off_read i (fun i => lit1 (S36.rowMajor i)) _
theorem zero_toNat (i : grid0.Coords) : (BitVec.ofNat 32 (i 0).val).toNat = 0 := by rw [coord_zero]; rfl

/-! ## The block a window takes at a point -/

theorem map0 (i : grid0.Coords) : cc0_transform_0 k0_off1_inb numel1_S1 (tbl (F := F)) i = ![0, 0, (qw (i 1)).toNat, 0] := by
  unfold cc0_transform_0; dsimp only; rw [read0, zero_toNat]; rfl
theorem map1 (i : grid0.Coords) : cc0_transform_1 k0_off1_inb numel1_S1 (tbl (F := F)) i = ![0, (kw (i 1)).toNat, 0] := by
  unfold cc0_transform_1; dsimp only; rw [read1, zero_toNat]; rfl
theorem map2 (i : grid0.Coords) : cc0_transform_2 k0_off1_inb numel1_S1 (tbl (F := F)) i = ![0, 0, (kw (i 1)).toNat] := by
  unfold cc0_transform_2; dsimp only; rw [read1, zero_toNat]; rfl
theorem map3 (i : grid0.Coords) : cc0_transform_3 k0_off1_inb numel1_S1 (tbl (F := F)) i = ![0, (qw (i 1)).toNat, 0] := by
  unfold cc0_transform_3; dsimp only; rw [read0, zero_toNat]; rfl

/-- Every window's block lies inside its array at every point. -/
theorem inside : ok0 (F := F) tbl := by
  have q := qw_le
  have k := fun n => (kw_le n).trans (qw_le n)
  refine ⟨fun i => ⟨fun a => ?_, .inr (Affine.block_words_dvd (s := S16x1x4096x96) (p := EltTy.packing .bf16) (by decide) (by decide))⟩,
    fun i => ⟨fun a => ?_, .inr (Affine.block_words_dvd (s := S16x4096x96) (p := EltTy.packing .bf16) (by decide) (by decide))⟩,
    fun i => ⟨fun a => ?_, .inr (Affine.block_words_dvd (s := S16x64x4096) (p := EltTy.packing .bf16) (by decide) (by decide))⟩,
    fun i => ⟨fun a => ?_, .inr (Affine.block_words_dvd (s := S4x4096x256) (p := EltTy.packing .bf16) (by decide) (by decide))⟩⟩
  · rw [map0]
    match a with
    | ⟨0, _⟩ => exact (by decide : (0 + 1) * 16 ≤ 16)
    | ⟨1, _⟩ => exact (by decide : (0 + 1) * 1 ≤ 1)
    | ⟨2, _⟩ => have := q (i 1); show ((qw (i 1)).toNat + 1) * 512 ≤ 4096; omega
    | ⟨3, _⟩ => exact (by decide : (0 + 1) * 96 ≤ 96)
  · rw [map1]
    match a with
    | ⟨0, _⟩ => exact (by decide : (0 + 1) * 16 ≤ 16)
    | ⟨1, _⟩ => have := k (i 1); show ((kw (i 1)).toNat + 1) * 512 ≤ 4096; omega
    | ⟨2, _⟩ => exact (by decide : (0 + 1) * 96 ≤ 96)
  · rw [map2]
    match a with
    | ⟨0, _⟩ => exact (by decide : (0 + 1) * 16 ≤ 16)
    | ⟨1, _⟩ => exact (by decide : (0 + 1) * 64 ≤ 64)
    | ⟨2, _⟩ => have := k (i 1); show ((kw (i 1)).toNat + 1) * 512 ≤ 4096; omega
  · rw [map3]
    match a with
    | ⟨0, _⟩ => exact (by decide : (0 + 1) * 4 ≤ 4)
    | ⟨1, _⟩ => have := q (i 1); show ((qw (i 1)).toNat + 1) * 512 ≤ 4096; omega
    | ⟨2, _⟩ => exact (by decide : (0 + 1) * 256 ≤ 256)

/-- The tables as contents the pipeline admits, and the pipeline at them. -/
abbrev adm : (pcfg0 (F := F)).Adm := ⟨tbl, inside⟩
abbrev cfgM : Pipeline.Cfg sig Λ₀ := cfg0 (adm (F := F))

/-- A point as a number below 36. -/
abbrev pt (t : Fin (cfgM (F := F)).N) : Fin 36 := grid0.coords t 1
theorem pt_val (t : Fin (cfgM (F := F)).N) : (pt t).val = t.val := coord_point t

theorem flushes : ∀ t : Fin grid0.N, Pipeline.Window.flushOf grid0 true (fun i => (![0, (qw (i 1)).toNat, 0] : Fin 3 → ℕ)) t = true ↔ (kw (grid0.coords t 1)).toNat = (qw (grid0.coords t 1)).toNat := by decide +kernel

/-- The result window is written back at the last point of each query block. -/
theorem flush0_3 (t : Fin (cfgM (F := F)).N) : ((cfgM (F := F)).win 3).flush t = true ↔ (kw (pt t)).toNat = (qw (pt t)).toNat := by
  rw [show ((cfgM (F := F)).win 3).flush t = Pipeline.Window.flushOf grid0 true (cc0_transform_3 k0_off1_inb numel1_S1 (tbl (F := F))) t from rfl,
    show cc0_transform_3 k0_off1_inb numel1_S1 (tbl (F := F)) = fun i => ![0, (qw (i 1)).toNat, 0] from funext map3]
  exact flushes t

/-- The kernel body at point `t`, on what the pipeline calls it with (`defs₀`'s row at the slots). -/
abbrev bodyAt0 (t : Fin (cfgM (F := F)).N) : Prog (TpuEff nD τ sig (Elt F) Λ₀ .tc) PUnit :=
  cc0_flash_mla (grid0.coords t) (Memref.whole main_c) (Memref.isWhole_whole _) (Memref.whole main_c_0) (Memref.isWhole_whole _) (Memref.whole main_c_1) (Memref.isWhole_whole _) (spec0_0.stage ((cfgM (F := F)).slots t 0)) (hstage0_0 (((cfgM (F := F)).slots t 0).cast nbuf0_0)) (spec0_1.stage ((cfgM (F := F)).slots t 1)) (hstage0_1 (((cfgM (F := F)).slots t 1).cast nbuf0_1)) (spec0_2.stage ((cfgM (F := F)).slots t 2)) (hstage0_2 (((cfgM (F := F)).slots t 2).cast nbuf0_2)) (spec0_3.stage ((cfgM (F := F)).slots t 3)) (hstage0_3 (((cfgM (F := F)).slots t 3).cast nbuf0_3)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s buffers when the region is entered: after the host operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The host operations write none of the arguments. -/
theorem V_kept (c : Dev nD) (b : Ref sig .tc) (h : ∀ r ∈ [main_c, main_c_0, main_c_1, main_cst, main_v0, main_cst_2, main_v1, main_v2, main_cst_3, main_v3, main_v4, main_v5, main_v6, main_v7, main_v8, main_v9, main_v10, main_v11, main_v12], b ≠ r) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide)), StableHlo.devRef_ne_of_ne (h _ (by decide))⟩))
theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)

set_option maxHeartbeats 1600000 in
/-- On every device the tables hold those contents. -/
theorem V_pre (c : Dev nD) (j : Fin 3) : V m c (pre0.ref j) = tbl j := by
  match j with
  | ⟨0, _⟩ => show V m c main_c = _; after_reads_at; rfl
  | ⟨1, _⟩ => show V m c main_c_0 = _; after_reads_at; rfl
  | ⟨2, _⟩ => show V m c main_c_1 = _; after_reads_at; rfl

abbrev tbM0_0 : Memref sig .tc .smem S36 .i32 := Memref.whole main_c
abbrev htbM0_0 : tbM0_0.IsWhole := Memref.isWhole_whole _
abbrev tbM0_1 : Memref sig .tc .smem S36 .i32 := Memref.whole main_c_0
abbrev htbM0_1 : tbM0_1.IsWhole := Memref.isWhole_whole _
abbrev tbM0_2 : Memref sig .tc .smem S36 .i32 := Memref.whole main_c_1
abbrev htbM0_2 : tbM0_2.IsWhole := Memref.isWhole_whole _

/-- A table's buffer on core `c`, and it held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- What the region hands the body of the tables, one by one. -/
theorem PhiT0_eq (c : Dev nD) : (Pipeline.ΦT pre0 (tbl (F := F)) c : sProp 𝕄) = iprop(tbPt0 c tbM0_0 (tbl 0) ∗ tbPt0 c tbM0_1 (tbl 1) ∗ tbPt0 c tbM0_2 (tbl 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it. -/
def iblk (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V m c (Pipeline.arrRef spec0 w))

/-- Input window 0's staging buffer holds its block at every point, for any proof data over the launched arrays whose body leaves the block in place. -/
theorem before0_0_of {c : Dev nD} (dat : Dat τ (Elt F) Unit ℕ (UR sig nD τ) ℕ (cfgM (F := F)) c) (hA : dat.A 0 = V m c (Pipeline.arrRef spec0 0))
    (hafter : ∀ t, dat.after 0 t = iblk m c 0 t) (t : Fin (cfgM (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over the launched arrays whose body leaves the block in place. -/
theorem before0_1_of {c : Dev nD} (dat : Dat τ (Elt F) Unit ℕ (UR sig nD τ) ℕ (cfgM (F := F)) c) (hA : dat.A 1 = V m c (Pipeline.arrRef spec0 1))
    (hafter : ∀ t, dat.after 1 t = iblk m c 1 t) (t : Fin (cfgM (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over the launched arrays whose body leaves the block in place. -/
theorem before0_2_of {c : Dev nD} (dat : Dat τ (Elt F) Unit ℕ (UR sig nD τ) ℕ (cfgM (F := F)) c) (hA : dat.A 2 = V m c (Pipeline.arrRef spec0 2))
    (hafter : ∀ t, dat.after 2 t = iblk m c 2 t) (t : Fin (cfgM (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, from any run of proof data over the launched arrays. -/
theorem frame_of (dats : (p : Fin 1) → (c : Dev nD) → Dat τ (Elt F) Unit ℕ (UR sig nD τ) ℕ ((Pipeline.pin pcfgs fun _ => adm (F := F)) p) c)
    (h : θ_run defs (onTc (τ := τ) (main (F := F))) (s₀ m ρ) (Pipeline.FramePost (Pipeline.pin pcfgs fun _ => adm (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-- Each window's current staging memref at point `t`, and its wholeness. -/
abbrev ms0_0 (t : Fin (cfgM (F := F)).N) : Memref sig .tc .vmem S16x1x512x96 .bf16 := spec0_0.stage ((cfgM (F := F)).slots t 0)
abbrev hs0_0 (t : Fin (cfgM (F := F)).N) : (ms0_0 t).IsWhole := hstage0_0 (((cfgM (F := F)).slots t 0).cast nbuf0_0)
abbrev ms0_1 (t : Fin (cfgM (F := F)).N) : Memref sig .tc .vmem S16x512x96 .bf16 := spec0_1.stage ((cfgM (F := F)).slots t 1)
abbrev hs0_1 (t : Fin (cfgM (F := F)).N) : (ms0_1 t).IsWhole := hstage0_1 (((cfgM (F := F)).slots t 1).cast nbuf0_1)
abbrev ms0_2 (t : Fin (cfgM (F := F)).N) : Memref sig .tc .vmem S16x64x512 .bf16 := spec0_2.stage ((cfgM (F := F)).slots t 2)
abbrev hs0_2 (t : Fin (cfgM (F := F)).N) : (ms0_2 t).IsWhole := hstage0_2 (((cfgM (F := F)).slots t 2).cast nbuf0_2)
abbrev ms0_3 (t : Fin (cfgM (F := F)).N) : Memref sig .tc .vmem S4x512x256 .bf16 := spec0_3.stage ((cfgM (F := F)).slots t 3)
abbrev hs0_3 (t : Fin (cfgM (F := F)).N) : (ms0_3 t).IsWhole := hstage0_3 (((cfgM (F := F)).slots t 3).cast nbuf0_3)

/-- The scratch operands: the running maximum, and the running sums. -/
abbrev scM0_0 : Memref sig .tc .vmem S16x1x512 .f32 := Memref.whole cc0_scratch0
abbrev scM0_1 : Memref sig .tc .vmem S16x80x512 .f32 := Memref.whole cc0_scratch1
/-- The scratch buffers at any contents and the generator register at any state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.LatentCall

end
-- ==== Proof.LatentRuns.lean ====
/-
  The latent attention's call: one grid point's body, in its four cases. The first point of a query block starts the running
  maximum and sums; every point takes its key block into them, under the causal mask on the diagonal and without it below;
  the diagonal point, the last of its query block, divides the sums and stores the block.
-/
module

public import proofs.«01_k».proof.Proof.LatentKit
public import Idealize.ShloMosaic.Lib.Pipeline.Value

@[expose] public section

set_option maxRecDepth 16384

noncomputable section

namespace Cert.LatentCall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LatentIdeal Cert.LatentIdeal.Gen

variable {F : FTy → Type} [FloatOps F] [Named F]

local notation "𝕄" => MT nD τ sig Unit (Elt F) ℕ (UR sig nD τ) ℕ

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What a load reads after a last store of the whole buffer: that store's contents. -/
theorem readCov_full {S : Shape} {e : EltTy} {Val : EltTy → Type} [∀ e, Nonempty (Val e)] {κ : Kind} {sp : Space} (v : View sig κ sp S e) {off : Fin S.rank → Nat} (h : off = fun _ => 0)
    (inb : ∀ a, off a + S.size a ≤ S.size a) (w : S.Idx → Val e) (L : List (View.Piece Val S e)) (r : Rect S) :
    v.readCov ((⟨Rect.unit off S.size inb, w⟩ : View.Piece Val S e) :: L) r.toLoadRect = View.ld w r := by
  rw [View.readCov_eq_canon_ld _ _ _ (fun y => ⟨_, List.mem_cons_self, View.mem_set_unit_zero h inb y⟩), View.canon_cons_unit_zero h]

/-- The words of its point, as the body reads them from the three tables. -/
abbrev fAt {c : Dev nD} (i : grid0.Coords) (xt2 : TbBuf0 (F := F) c tbM0_2) : BitVec 32 :=
  tbM0_2.view.readAt (Elt F) (Rect.unit (s := S36) (k0_off1 i) S1.size (k0_off1_inb i)).toLoadRect xt2 (Shape.Idx.first (numel1_S1.symm ▸ Nat.one_pos))
abbrev qAt {c : Dev nD} (i : grid0.Coords) (xt0 : TbBuf0 (F := F) c tbM0_0) : BitVec 32 :=
  tbM0_0.view.readAt (Elt F) (Rect.unit (s := S36) (k0_off2 i) S1.size (k0_off2_inb i)).toLoadRect xt0 (Shape.Idx.first (numel1_S1.symm ▸ Nat.one_pos))
abbrev kAt {c : Dev nD} (i : grid0.Coords) (xt1 : TbBuf0 (F := F) c tbM0_1) : BitVec 32 :=
  tbM0_1.view.readAt (Elt F) (Rect.unit (s := S36) (k0_off2 i) S1.size (k0_off2_inb i)).toLoadRect xt1 (Shape.Idx.first (numel1_S1.symm ▸ Nat.one_pos))

/-- The sums after a point on the diagonal, -/
def sumsOn (q : Vec F S16x1x512x96 .bf16) (k : Vec F S16x512x96 .bf16) (v : Vec F S16x64x512 .bf16) (a b : BitVec 32) (x : Vec F S16x1x512 .f32) (s : Vec F S16x80x512 .f32) : FVec F S16x80x512 .f32 :=
  k0_pay3 (k0_pay16 q k a b x) (k0_pay17 q k a b x) (k0_pay18 v) s
/-- and the maximum. -/
def maxOn (q : Vec F S16x1x512x96 .bf16) (k : Vec F S16x512x96 .bf16) (a b : BitVec 32) (x : Vec F S16x1x512 .f32) : FVec F S16x1x512 .f32 :=
  k0_pay4 (k0_pay15 q k a b x)

/-- The denominators and the numerators among the sums, -/
abbrev lower (s : Vec F S16x80x512 .f32) : Vec F S16x1x512 .f32 := View.ld s (Rect.unit (s := S16x80x512) ![0, 64, 0] S16x1x512.size inb_S16x80x512_S16x1x512_0_64_0)
abbrev upper (s : Vec F S16x80x512 .f32) : Vec F S16x64x512 .f32 := View.ld s (Rect.unit (s := S16x80x512) ![0, 0, 0] S16x64x512.size inb_S16x80x512_S16x64x512_0_0_0)
/-- and the block stored from them, one batch at a time. -/
def stored (s : Vec F S16x80x512 .f32) : Vec F S4x512x256 .bf16 :=
  View.canon (Val := Elt F) (s := S4x512x256) (e := .bf16)
    [⟨Rect.unit (s := S4x512x256) ![3, 0, 0] S1x512x256.size inb_S4x512x256_S1x512x256_3_0_0, k0_pay13 (lower s) (upper s)⟩,
     ⟨Rect.unit (s := S4x512x256) ![2, 0, 0] S1x512x256.size inb_S4x512x256_S1x512x256_2_0_0, k0_pay12 (lower s) (upper s)⟩,
     ⟨Rect.unit (s := S4x512x256) ![1, 0, 0] S1x512x256.size inb_S4x512x256_S1x512x256_1_0_0, k0_pay11 (lower s) (upper s)⟩,
     ⟨Rect.unit (s := S4x512x256) ![0, 0, 0] S1x512x256.size inb_S4x512x256_S1x512x256_0_0_0, k0_pay10 (lower s) (upper s)⟩]

set_option maxHeartbeats 2000000 in
/-- The first point of a query block, below the diagonal: maximum and sums start. -/
theorem run_first_below (c : Dev nD) (i : grid0.Coords) (a5 : Memref sig .tc .vmem S16x1x512x96 .bf16) (h5 : a5.IsWhole) (a6 : Memref sig .tc .vmem S16x512x96 .bf16) (h6 : a6.IsWhole) (a7 : Memref sig .tc .vmem S16x64x512 .bf16) (h7 : a7.IsWhole) (a8 : Memref sig .tc .vmem S4x512x256 .bf16) (h8 : a8.IsWhole) (a9 : Memref sig .tc .vmem S16x1x512 .f32) (h9 : a9.IsWhole) (a10 : Memref sig .tc .vmem S16x80x512 .f32) (h10 : a10.IsWhole)
    (q : Vec F S16x1x512x96 .bf16) (k : Vec F S16x512x96 .bf16) (v : Vec F S16x64x512 .bf16) (d : Vec F S4x512x256 .bf16) (xt0 : TbBuf0 (F := F) c tbM0_0) (xt1 : TbBuf0 (F := F) c tbM0_1) (xt2 : TbBuf0 (F := F) c tbM0_2)
    (hf : first (fAt i xt2)) (hm : ¬masked (fAt i xt2)) (hb : below (fAt i xt2)) (hl : ¬last (fAt i xt2)) (E : Set ℕ) (K : PUnit → sProp 𝕄) :
    iprop(owns (c : Thread nD τ) a5 fullShare q ∗ owns (c : Thread nD τ) a6 fullShare k ∗ owns (c : Thread nD τ) a7 fullShare v ∗ owns (c : Thread nD τ) a8 fullShare d ∗ (∃ d, owns (c : Thread nD τ) a9 fullShare d) ∗ (∃ d, owns (c : Thread nD τ) a10 fullShare d) ∗ tbPt0 c tbM0_0 xt0 ∗ tbPt0 c tbM0_1 xt1 ∗ tbPt0 c tbM0_2 xt2
        ∗ (iprop(owns (c : Thread nD τ) a5 fullShare q ∗ owns (c : Thread nD τ) a6 fullShare k ∗ owns (c : Thread nD τ) a7 fullShare v ∗ owns (c : Thread nD τ) a8 fullShare d ∗ owns (c : Thread nD τ) a9 fullShare (k0_pay8 q k k0_pay1) ∗ owns (c : Thread nD τ) a10 fullShare (k0_pay7 q k k0_pay1 v k0_pay2) ∗ tbPt0 c tbM0_0 xt0 ∗ tbPt0 c tbM0_1 xt1 ∗ tbPt0 c tbM0_2 xt2) -∗ K ⟨⟩))
      ⊢ wp frame (wpE (defs₀ (F := F)) Variants.none c none) E (cc0_flash_mla i tbM0_0 htbM0_0 tbM0_1 htbM0_1 tbM0_2 htbM0_2 a5 h5 a6 h6 a7 h7 a8 h8 a9 h9 a10 h10) K := by
  simp only [cc0_flash_mla_eq_skeleton]; unfold cc0_flash_mla_skel
  unfold owns
  iintro ⟨⟨%f5, %e5, H5⟩, ⟨%f6, %e6, H6⟩, ⟨%f7, %e7, H7⟩, ⟨%f8, %e8, H8⟩, ⟨%d9, %f9, -, H9⟩, ⟨%d10, %f10, -, H10⟩, HT0, HT1, HT2, Hk⟩
  obtain rfl := h5.eq_unread e5; obtain rfl := h6.eq_unread e6; obtain rfl := h7.eq_unread e7; obtain rfl := h8.eq_unread e8
  sl_exec (disch := first | sl_exact hf | sl_exact hm | sl_exact hb | sl_exact hl)
  sl_step
  iapply Hk
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr
    swap; · iexact H9
    ipureintro
    rw [View.read_writes_eq_canon _ _ _ (View.cover_of_tiledL _ S16x1x512.size (by sl_kernel_rfl))]
    sl_unfold_words
    rw [View.canon_cons_unit_zero (S := S16x1x512) hz3]
    simp only [View.readCov_unit_zero (S := S16x1x512) _ hz3, View.readCov_unit_zero (S := S16x80x512) _ hz3, View.readAt_eq_ld, h5.read_unread, h6.read_unread, h7.read_unread, h8.read_unread, h9.read_unread, h10.read_unread, View.ld_unit_zero (S := S16x1x512) hz3, View.ld_unit_zero (S := S16x80x512) hz3, View.ld_unit_zero (S := S16x512x96) hz3, View.ld_unit_zero (S := S16x64x512) hz3, View.ld_unit_zero (S := S16x1x512x96) hz4]
    try rfl
  isplitl [H10]
  · iexists _; isplitr
    swap; · iexact H10
    ipureintro
    rw [View.read_writes_eq_canon _ _ _ (View.cover_of_tiledL _ S16x80x512.size (by sl_kernel_rfl))]
    sl_unfold_words
    rw [View.canon_cons_unit_zero (S := S16x80x512) hz3]
    simp only [View.readCov_unit_zero (S := S16x1x512) _ hz3, View.readCov_unit_zero (S := S16x80x512) _ hz3, View.readAt_eq_ld, h5.read_unread, h6.read_unread, h7.read_unread, h8.read_unread, h9.read_unread, h10.read_unread, View.ld_unit_zero (S := S16x1x512) hz3, View.ld_unit_zero (S := S16x80x512) hz3, View.ld_unit_zero (S := S16x512x96) hz3, View.ld_unit_zero (S := S16x64x512) hz3, View.ld_unit_zero (S := S16x1x512x96) hz4]
    try rfl
  isplitl [HT0]; · iexact HT0
  isplitl [HT1]; · iexact HT1
  iexact HT2

set_option maxHeartbeats 2000000 in
/-- A later point below the diagonal: its key block is taken in. -/
theorem run_below (c : Dev nD) (i : grid0.Coords) (a5 : Memref sig .tc .vmem S16x1x512x96 .bf16) (h5 : a5.IsWhole) (a6 : Memref sig .tc .vmem S16x512x96 .bf16) (h6 : a6.IsWhole) (a7 : Memref sig .tc .vmem S16x64x512 .bf16) (h7 : a7.IsWhole) (a8 : Memref sig .tc .vmem S4x512x256 .bf16) (h8 : a8.IsWhole) (a9 : Memref sig .tc .vmem S16x1x512 .f32) (h9 : a9.IsWhole) (a10 : Memref sig .tc .vmem S16x80x512 .f32) (h10 : a10.IsWhole)
    (q : Vec F S16x1x512x96 .bf16) (k : Vec F S16x512x96 .bf16) (v : Vec F S16x64x512 .bf16) (d : Vec F S4x512x256 .bf16) (x : Vec F S16x1x512 .f32) (s : Vec F S16x80x512 .f32) (xt0 : TbBuf0 (F := F) c tbM0_0) (xt1 : TbBuf0 (F := F) c tbM0_1) (xt2 : TbBuf0 (F := F) c tbM0_2)
    (hf : ¬first (fAt i xt2)) (hm : ¬masked (fAt i xt2)) (hb : below (fAt i xt2)) (hl : ¬last (fAt i xt2)) (E : Set ℕ) (K : PUnit → sProp 𝕄) :
    iprop(owns (c : Thread nD τ) a5 fullShare q ∗ owns (c : Thread nD τ) a6 fullShare k ∗ owns (c : Thread nD τ) a7 fullShare v ∗ owns (c : Thread nD τ) a8 fullShare d ∗ owns (c : Thread nD τ) a9 fullShare x ∗ owns (c : Thread nD τ) a10 fullShare s ∗ tbPt0 c tbM0_0 xt0 ∗ tbPt0 c tbM0_1 xt1 ∗ tbPt0 c tbM0_2 xt2
        ∗ (iprop(owns (c : Thread nD τ) a5 fullShare q ∗ owns (c : Thread nD τ) a6 fullShare k ∗ owns (c : Thread nD τ) a7 fullShare v ∗ owns (c : Thread nD τ) a8 fullShare d ∗ owns (c : Thread nD τ) a9 fullShare (k0_pay8 q k x) ∗ owns (c : Thread nD τ) a10 fullShare (k0_pay7 q k x v s) ∗ tbPt0 c tbM0_0 xt0 ∗ tbPt0 c tbM0_1 xt1 ∗ tbPt0 c tbM0_2 xt2) -∗ K ⟨⟩))
      ⊢ wp frame (wpE (defs₀ (F := F)) Variants.none c none) E (cc0_flash_mla i tbM0_0 htbM0_0 tbM0_1 htbM0_1 tbM0_2 htbM0_2 a5 h5 a6 h6 a7 h7 a8 h8 a9 h9 a10 h10) K := by
  simp only [cc0_flash_mla_eq_skeleton]; unfold cc0_flash_mla_skel
  unfold owns
  iintro ⟨⟨%f5, %e5, H5⟩, ⟨%f6, %e6, H6⟩, ⟨%f7, %e7, H7⟩, ⟨%f8, %e8, H8⟩, ⟨%f9, %e9, H9⟩, ⟨%f10, %e10, H10⟩, HT0, HT1, HT2, Hk⟩
  obtain rfl := h5.eq_unread e5; obtain rfl := h6.eq_unread e6; obtain rfl := h7.eq_unread e7; obtain rfl := h8.eq_unread e8; obtain rfl := h9.eq_unread e9; obtain rfl := h10.eq_unread e10
  sl_exec (disch := first | sl_exact hf | sl_exact hm | sl_exact hb | sl_exact hl)
  sl_step
  iapply Hk
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr
    swap; · iexact H9
    ipureintro
    rw [View.read_writes_eq_canon _ _ _ (View.cover_of_tiledL _ S16x1x512.size (by sl_kernel_rfl))]
    sl_unfold_words
    rw [View.canon_unit_zero (S := S16x1x512) hz3]
    simp only [View.readCov_unit_zero (S := S16x1x512) _ hz3, View.readCov_unit_zero (S := S16x80x512) _ hz3, View.readAt_eq_ld, h5.read_unread, h6.read_unread, h7.read_unread, h8.read_unread, h9.read_unread, h10.read_unread, View.ld_unit_zero (S := S16x1x512) hz3, View.ld_unit_zero (S := S16x80x512) hz3, View.ld_unit_zero (S := S16x512x96) hz3, View.ld_unit_zero (S := S16x64x512) hz3, View.ld_unit_zero (S := S16x1x512x96) hz4]
    try rfl
  isplitl [H10]
  · iexists _; isplitr
    swap; · iexact H10
    ipureintro
    rw [View.read_writes_eq_canon _ _ _ (View.cover_of_tiledL _ S16x80x512.size (by sl_kernel_rfl))]
    sl_unfold_words
    rw [View.canon_unit_zero (S := S16x80x512) hz3]
    simp only [View.readCov_unit_zero (S := S16x1x512) _ hz3, View.readCov_unit_zero (S := S16x80x512) _ hz3, View.readAt_eq_ld, h5.read_unread, h6.read_unread, h7.read_unread, h8.read_unread, h9.read_unread, h10.read_unread, View.ld_unit_zero (S := S16x1x512) hz3, View.ld_unit_zero (S := S16x80x512) hz3, View.ld_unit_zero (S := S16x512x96) hz3, View.ld_unit_zero (S := S16x64x512) hz3, View.ld_unit_zero (S := S16x1x512x96) hz4]
    try rfl
  isplitl [HT0]; · iexact HT0
  isplitl [HT1]; · iexact HT1
  iexact HT2

set_option maxHeartbeats 2000000 in
/-- The first point of a query block, on the diagonal: maximum and sums start, and the block is stored. -/
theorem run_first_on (c : Dev nD) (i : grid0.Coords) (a5 : Memref sig .tc .vmem S16x1x512x96 .bf16) (h5 : a5.IsWhole) (a6 : Memref sig .tc .vmem S16x512x96 .bf16) (h6 : a6.IsWhole) (a7 : Memref sig .tc .vmem S16x64x512 .bf16) (h7 : a7.IsWhole) (a8 : Memref sig .tc .vmem S4x512x256 .bf16) (h8 : a8.IsWhole) (a9 : Memref sig .tc .vmem S16x1x512 .f32) (h9 : a9.IsWhole) (a10 : Memref sig .tc .vmem S16x80x512 .f32) (h10 : a10.IsWhole)
    (q : Vec F S16x1x512x96 .bf16) (k : Vec F S16x512x96 .bf16) (v : Vec F S16x64x512 .bf16) (xt0 : TbBuf0 (F := F) c tbM0_0) (xt1 : TbBuf0 (F := F) c tbM0_1) (xt2 : TbBuf0 (F := F) c tbM0_2)
    (hf : first (fAt i xt2)) (hm : masked (fAt i xt2)) (hb : ¬below (fAt i xt2)) (hl : last (fAt i xt2)) (E : Set ℕ) (K : PUnit → sProp 𝕄) :
    iprop(owns (c : Thread nD τ) a5 fullShare q ∗ owns (c : Thread nD τ) a6 fullShare k ∗ owns (c : Thread nD τ) a7 fullShare v ∗ (∃ d, owns (c : Thread nD τ) a8 fullShare d) ∗ (∃ d, owns (c : Thread nD τ) a9 fullShare d) ∗ (∃ d, owns (c : Thread nD τ) a10 fullShare d) ∗ tbPt0 c tbM0_0 xt0 ∗ tbPt0 c tbM0_1 xt1 ∗ tbPt0 c tbM0_2 xt2
        ∗ (iprop(owns (c : Thread nD τ) a5 fullShare q ∗ owns (c : Thread nD τ) a6 fullShare k ∗ owns (c : Thread nD τ) a7 fullShare v ∗ owns (c : Thread nD τ) a8 fullShare (stored (sumsOn q k v (qAt i xt0) (kAt i xt1) k0_pay1 k0_pay2)) ∗ owns (c : Thread nD τ) a9 fullShare (maxOn q k (qAt i xt0) (kAt i xt1) k0_pay1) ∗ owns (c : Thread nD τ) a10 fullShare (sumsOn q k v (qAt i xt0) (kAt i xt1) k0_pay1 k0_pay2) ∗ tbPt0 c tbM0_0 xt0 ∗ tbPt0 c tbM0_1 xt1 ∗ tbPt0 c tbM0_2 xt2) -∗ K ⟨⟩))
      ⊢ wp frame (wpE (defs₀ (F := F)) Variants.none c none) E (cc0_flash_mla i tbM0_0 htbM0_0 tbM0_1 htbM0_1 tbM0_2 htbM0_2 a5 h5 a6 h6 a7 h7 a8 h8 a9 h9 a10 h10) K := by
  simp only [cc0_flash_mla_eq_skeleton]; unfold cc0_flash_mla_skel
  simp only [k0_part1_eq_skeleton]; unfold k0_part1_skel
  unfold owns
  iintro ⟨⟨%f5, %e5, H5⟩, ⟨%f6, %e6, H6⟩, ⟨%f7, %e7, H7⟩, ⟨%d8, %f8, -, H8⟩, ⟨%d9, %f9, -, H9⟩, ⟨%d10, %f10, -, H10⟩, HT0, HT1, HT2, Hk⟩
  obtain rfl := h5.eq_unread e5; obtain rfl := h6.eq_unread e6; obtain rfl := h7.eq_unread e7
  sl_exec (disch := first | sl_exact hf | sl_exact hm | sl_exact hb | sl_exact hl)
  sl_step
  iapply Hk
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    refine (View.read_writes_eq_canon a8.view f8 _ (View.cover_of_tiledL _ S1x512x256.size (by sl_kernel_rfl))).trans ?_
    sl_unfold_words
    unfold stored sumsOn
    simp only [readCov_full (S := S16x80x512) _ hz3, View.canon_unit_zero (S := S16x80x512) hz3, View.readCov_unit_zero (S := S16x1x512) _ hz3, View.readAt_eq_ld, h5.read_unread, h6.read_unread, h7.read_unread, h8.read_unread, h9.read_unread, h10.read_unread, View.ld_unit_zero (S := S16x1x512) hz3, View.ld_unit_zero (S := S16x80x512) hz3, View.ld_unit_zero (S := S16x512x96) hz3, View.ld_unit_zero (S := S16x64x512) hz3, View.ld_unit_zero (S := S16x1x512x96) hz4]
    rfl
  isplitl [H9]
  · iexists _; isplitr
    swap; · iexact H9
    ipureintro
    rw [View.read_writes_eq_canon _ _ _ (View.cover_of_tiledL _ S16x1x512.size (by sl_kernel_rfl))]
    sl_unfold_words
    unfold maxOn
    rw [View.canon_cons_unit_zero (S := S16x1x512) hz3]
    simp only [View.readCov_unit_zero (S := S16x1x512) _ hz3, View.readCov_unit_zero (S := S16x80x512) _ hz3, View.readAt_eq_ld, h5.read_unread, h6.read_unread, h7.read_unread, h8.read_unread, h9.read_unread, h10.read_unread, View.ld_unit_zero (S := S16x1x512) hz3, View.ld_unit_zero (S := S16x80x512) hz3, View.ld_unit_zero (S := S16x512x96) hz3, View.ld_unit_zero (S := S16x64x512) hz3, View.ld_unit_zero (S := S16x1x512x96) hz4]
    try rfl
  isplitl [H10]
  · iexists _; isplitr
    swap; · iexact H10
    ipureintro
    rw [View.read_writes_eq_canon _ _ _ (View.cover_of_tiledL _ S16x80x512.size (by sl_kernel_rfl))]
    sl_unfold_words
    unfold sumsOn
    rw [View.canon_cons_unit_zero (S := S16x80x512) hz3]
    simp only [View.readCov_unit_zero (S := S16x1x512) _ hz3, View.readCov_unit_zero (S := S16x80x512) _ hz3, View.readAt_eq_ld, h5.read_unread, h6.read_unread, h7.read_unread, h8.read_unread, h9.read_unread, h10.read_unread, View.ld_unit_zero (S := S16x1x512) hz3, View.ld_unit_zero (S := S16x80x512) hz3, View.ld_unit_zero (S := S16x512x96) hz3, View.ld_unit_zero (S := S16x64x512) hz3, View.ld_unit_zero (S := S16x1x512x96) hz4]
    try rfl
  isplitl [HT0]; · iexact HT0
  isplitl [HT1]; · iexact HT1
  iexact HT2

set_option maxHeartbeats 2000000 in
/-- A later point on the diagonal: its key block is taken in, and the block is stored. -/
theorem run_on (c : Dev nD) (i : grid0.Coords) (a5 : Memref sig .tc .vmem S16x1x512x96 .bf16) (h5 : a5.IsWhole) (a6 : Memref sig .tc .vmem S16x512x96 .bf16) (h6 : a6.IsWhole) (a7 : Memref sig .tc .vmem S16x64x512 .bf16) (h7 : a7.IsWhole) (a8 : Memref sig .tc .vmem S4x512x256 .bf16) (h8 : a8.IsWhole) (a9 : Memref sig .tc .vmem S16x1x512 .f32) (h9 : a9.IsWhole) (a10 : Memref sig .tc .vmem S16x80x512 .f32) (h10 : a10.IsWhole)
    (q : Vec F S16x1x512x96 .bf16) (k : Vec F S16x512x96 .bf16) (v : Vec F S16x64x512 .bf16) (x : Vec F S16x1x512 .f32) (s : Vec F S16x80x512 .f32) (xt0 : TbBuf0 (F := F) c tbM0_0) (xt1 : TbBuf0 (F := F) c tbM0_1) (xt2 : TbBuf0 (F := F) c tbM0_2)
    (hf : ¬first (fAt i xt2)) (hm : masked (fAt i xt2)) (hb : ¬below (fAt i xt2)) (hl : last (fAt i xt2)) (E : Set ℕ) (K : PUnit → sProp 𝕄) :
    iprop(owns (c : Thread nD τ) a5 fullShare q ∗ owns (c : Thread nD τ) a6 fullShare k ∗ owns (c : Thread nD τ) a7 fullShare v ∗ (∃ d, owns (c : Thread nD τ) a8 fullShare d) ∗ owns (c : Thread nD τ) a9 fullShare x ∗ owns (c : Thread nD τ) a10 fullShare s ∗ tbPt0 c tbM0_0 xt0 ∗ tbPt0 c tbM0_1 xt1 ∗ tbPt0 c tbM0_2 xt2
        ∗ (iprop(owns (c : Thread nD τ) a5 fullShare q ∗ owns (c : Thread nD τ) a6 fullShare k ∗ owns (c : Thread nD τ) a7 fullShare v ∗ owns (c : Thread nD τ) a8 fullShare (stored (sumsOn q k v (qAt i xt0) (kAt i xt1) x s)) ∗ owns (c : Thread nD τ) a9 fullShare (maxOn q k (qAt i xt0) (kAt i xt1) x) ∗ owns (c : Thread nD τ) a10 fullShare (sumsOn q k v (qAt i xt0) (kAt i xt1) x s) ∗ tbPt0 c tbM0_0 xt0 ∗ tbPt0 c tbM0_1 xt1 ∗ tbPt0 c tbM0_2 xt2) -∗ K ⟨⟩))
      ⊢ wp frame (wpE (defs₀ (F := F)) Variants.none c none) E (cc0_flash_mla i tbM0_0 htbM0_0 tbM0_1 htbM0_1 tbM0_2 htbM0_2 a5 h5 a6 h6 a7 h7 a8 h8 a9 h9 a10 h10) K := by
  simp only [cc0_flash_mla_eq_skeleton]; unfold cc0_flash_mla_skel
  simp only [k0_part1_eq_skeleton]; unfold k0_part1_skel
  unfold owns
  iintro ⟨⟨%f5, %e5, H5⟩, ⟨%f6, %e6, H6⟩, ⟨%f7, %e7, H7⟩, ⟨%d8, %f8, -, H8⟩, ⟨%f9, %e9, H9⟩, ⟨%f10, %e10, H10⟩, HT0, HT1, HT2, Hk⟩
  obtain rfl := h5.eq_unread e5; obtain rfl := h6.eq_unread e6; obtain rfl := h7.eq_unread e7; obtain rfl := h9.eq_unread e9; obtain rfl := h10.eq_unread e10
  sl_exec (disch := first | sl_exact hf | sl_exact hm | sl_exact hb | sl_exact hl)
  sl_step
  iapply Hk
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    refine (View.read_writes_eq_canon a8.view f8 _ (View.cover_of_tiledL _ S1x512x256.size (by sl_kernel_rfl))).trans ?_
    sl_unfold_words
    unfold stored sumsOn
    simp only [readCov_full (S := S16x80x512) _ hz3, View.canon_unit_zero (S := S16x80x512) hz3, View.readCov_unit_zero (S := S16x1x512) _ hz3, View.readAt_eq_ld, h5.read_unread, h6.read_unread, h7.read_unread, h8.read_unread, h9.read_unread, h10.read_unread, View.ld_unit_zero (S := S16x1x512) hz3, View.ld_unit_zero (S := S16x80x512) hz3, View.ld_unit_zero (S := S16x512x96) hz3, View.ld_unit_zero (S := S16x64x512) hz3, View.ld_unit_zero (S := S16x1x512x96) hz4]
    rfl
  isplitl [H9]
  · iexists _; isplitr
    swap; · iexact H9
    ipureintro
    rw [View.read_writes_eq_canon _ _ _ (View.cover_of_tiledL _ S16x1x512.size (by sl_kernel_rfl))]
    sl_unfold_words
    unfold maxOn
    rw [View.canon_unit_zero (S := S16x1x512) hz3]
    simp only [View.readCov_unit_zero (S := S16x1x512) _ hz3, View.readCov_unit_zero (S := S16x80x512) _ hz3, View.readAt_eq_ld, h5.read_unread, h6.read_unread, h7.read_unread, h8.read_unread, h9.read_unread, h10.read_unread, View.ld_unit_zero (S := S16x1x512) hz3, View.ld_unit_zero (S := S16x80x512) hz3, View.ld_unit_zero (S := S16x512x96) hz3, View.ld_unit_zero (S := S16x64x512) hz3, View.ld_unit_zero (S := S16x1x512x96) hz4]
    try rfl
  isplitl [H10]
  · iexists _; isplitr
    swap; · iexact H10
    ipureintro
    rw [View.read_writes_eq_canon _ _ _ (View.cover_of_tiledL _ S16x80x512.size (by sl_kernel_rfl))]
    sl_unfold_words
    unfold sumsOn
    rw [View.canon_unit_zero (S := S16x80x512) hz3]
    simp only [View.readCov_unit_zero (S := S16x1x512) _ hz3, View.readCov_unit_zero (S := S16x80x512) _ hz3, View.readAt_eq_ld, h5.read_unread, h6.read_unread, h7.read_unread, h8.read_unread, h9.read_unread, h10.read_unread, View.ld_unit_zero (S := S16x1x512) hz3, View.ld_unit_zero (S := S16x80x512) hz3, View.ld_unit_zero (S := S16x512x96) hz3, View.ld_unit_zero (S := S16x64x512) hz3, View.ld_unit_zero (S := S16x1x512x96) hz4]
    try rfl
  isplitl [HT0]; · iexact HT0
  isplitl [HT1]; · iexact HT1
  iexact HT2

end Cert.LatentCall

end
-- ==== Proof.LatentFrame.lean ====
/-
  The latent attention's call: the body at every point and the run of the grid. The scratch buffers carry the running maximum
  and sums of a query block from its first point to its last, the diagonal one, which divides the sums and stores the block.
-/
module

public import proofs.«01_k».proof.Proof.LatentRuns
public import Idealize.ShloMosaic.Lib.Claim

@[expose] public section

set_option maxRecDepth 16384

noncomputable section

namespace Cert.LatentCall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LatentIdeal Cert.LatentIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The words of a point -/

theorem off2_read (i : grid0.Coords) (x : S36.Idx → BitVec 32) :
    x ((Rect.unit (s := S36) (k0_off2 i) S1.size (k0_off2_inb i)).emb (Shape.Idx.first (numel1_S1.symm ▸ Nat.one_pos))) = x (ix1 (i 1)) :=
  congrArg x (by
    funext a; apply Fin.ext
    match a with
    | ⟨0, _⟩ =>
      show k0_off2 i 0 + 1 * 0 = (i 1).val
      rw [k0_off2_eq]; rfl)

theorem fAt_eq (c : Dev nD) (i : grid0.Coords) : fAt (F := F) (c := c) i (tbl 2) = fw (i 1) :=
  congrArg (fun i => lit2 (S36.rowMajor i)) (off1_idx i)
theorem qAt_eq (c : Dev nD) (i : grid0.Coords) : qAt (F := F) (c := c) i (tbl 0) = qw (i 1) := off2_read i (fun i => lit0 (S36.rowMajor i))
theorem kAt_eq (c : Dev nD) (i : grid0.Coords) : kAt (F := F) (c := c) i (tbl 1) = kw (i 1) := off2_read i (fun i => lit1 (S36.rowMajor i))

theorem flags_eq (i : grid0.Coords) : (tbl (F := F)).atD 2 (k0_off1 i) = fw (i 1) := by
  unfold Pipeline.Prefetch.Contents.atD
  split
  · exact congrArg (fun i => lit2 (S36.rowMajor i)) (off1_idx i)
  · rename_i h; exact (h fun a => by match a with | ⟨0, _⟩ => exact k0_off1_inb i 0).elim

/-- A point is the first of its query block, -/
abbrev IsFirst (t : Fin (cfgM (F := F)).N) : Prop := (kw (pt t)).toNat = 0
/-- or on the diagonal, the last of its query block. -/
abbrev IsOn (t : Fin (cfgM (F := F)).N) : Prop := (kw (pt t)).toNat = (qw (pt t)).toNat

/-! ## The result window's idle points -/

theorem idle_below (t : Fin (cfgM (F := F)).N) (h : ¬IsOn t) : (cfgM (F := F)).idle 3 (grid0.coords t) = true := by
  show (!(k0_cond4 ((tbl (F := F)).atD 2 (k0_off1 (grid0.coords t))) == 1#1)) = true
  rw [flags_eq, beq_eq_false_iff_ne.mpr (fun e => h ((last_iff _).mp e))]
  rfl

theorem live_on (t : Fin (cfgM (F := F)).N) (h : IsOn t) : (cfgM (F := F)).idle 3 (grid0.coords t) = false := by
  show (!(k0_cond4 ((tbl (F := F)).atD 2 (k0_off1 (grid0.coords t))) == 1#1)) = false
  rw [flags_eq, beq_iff_eq.mpr ((last_iff _).mpr h)]
  rfl

theorem not_flushed (t : Fin (cfgM (F := F)).N) (h : ¬IsOn t) : ((cfgM (F := F)).win 3).flush t = false :=
  Bool.eq_false_iff.mpr fun e => h ((flush0_3 t).mp e)

/-! ## What the points leave -/

/-- The maximum and the sums, -/
abbrev State : Type := FVec F S16x1x512 .f32 × FVec F S16x80x512 .f32

/-- as a point starts a query block with them, -/
def fresh : State (F := F) := (k0_pay1, k0_pay2)

/-- and after a point, from those before it. -/
def step (c : Dev nD) (t : Fin (cfgM (F := F)).N) (x : State (F := F)) : State (F := F) :=
  if IsOn t then (maxOn (iblk m c 0 t) (iblk m c 1 t) (qw (pt t)) (kw (pt t)) x.1, sumsOn (iblk m c 0 t) (iblk m c 1 t) (iblk m c 2 t) (qw (pt t)) (kw (pt t)) x.1 x.2)
  else (k0_pay8 (iblk m c 0 t) (iblk m c 1 t) x.1, k0_pay7 (iblk m c 0 t) (iblk m c 1 t) x.1 (iblk m c 2 t) x.2)

/-- After point `n`. -/
def leaves (c : Dev nD) : (n : ℕ) → n < (cfgM (F := F)).N → State (F := F)
  | 0, h => step m c ⟨0, h⟩ fresh
  | n + 1, h => step m c ⟨n + 1, h⟩ (if IsFirst (F := F) ⟨n + 1, h⟩ then fresh else leaves c n (Nat.lt_of_succ_lt h))

theorem zero_first (h : 0 < (cfgM (F := F)).N) : IsFirst (F := F) ⟨0, h⟩ := by
  unfold IsFirst
  rw [show pt (F := F) ⟨0, h⟩ = (0 : Fin 36) from Fin.ext (pt_val _)]
  decide

theorem leaves_first (c : Dev nD) (t : Fin (cfgM (F := F)).N) (h : IsFirst t) : leaves m c t.val t.isLt = step m c t fresh := by
  obtain ⟨n, hn⟩ := t
  cases n with
  | zero => rfl
  | succ n => simp only [leaves]; rw [if_pos h]

theorem leaves_later (c : Dev nD) (t : Fin (cfgM (F := F)).N) (h : ¬IsFirst t) :
    leaves m c t.val t.isLt = step m c t (leaves m c (t.val - 1) (Nat.lt_of_le_of_lt (Nat.sub_le _ _) t.isLt)) := by
  obtain ⟨n, hn⟩ := t
  cases n with
  | zero => exact absurd (zero_first hn) h
  | succ n => simp only [leaves]; rw [if_neg h]; rfl

/-- The result window's block. -/
def block (c : Dev nD) (t : Fin (cfgM (F := F)).N) : FVec F S4x512x256 .bf16 := stored (leaves m c t.val t.isLt).2

/-- What the scratch buffers hold before point `n`: what the point before leaves. -/
def Carried (c : Dev nD) (n : ℕ) (hn : n ≤ (cfgM (F := F)).N) (x : FVec F S16x1x512 .f32) (s : FVec F S16x80x512 .f32) : Prop :=
  ∀ h : 0 < n, (x, s) = leaves m c (n - 1) (Nat.lt_of_lt_of_le (Nat.sub_lt h Nat.one_pos) hn)

/-- The invariant before point `n`. -/
def Inv (c : Dev nD) (n : ℕ) (hn : n ≤ (cfgM (F := F)).N) : sProp 𝕄 :=
  iprop(iprop((∃ x s, iprop(⌜Carried m c n hn x s⌝ ∗ owns (c : Thread nD τ) scM0_0 fullShare x ∗ owns (c : Thread nD τ) scM0_1 fullShare s)) ∗ (∃ r, prngReg c r)) ∗ Pipeline.ΦT pre0 (tbl (F := F)) c)

/-- The proof data: the arrays as launched, the inputs' blocks left in place, the result's `block`. -/
def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => block m c t
  Φ t := Inv m c t.val (Nat.le_of_lt_succ t.isLt)
  q _ := fullShare
  owed _ := 0

theorem A_eq (c : Dev nD) (w : Fin (cfgM (F := F)).W) : (dats m 0 c).A w = V m c (Pipeline.arrRef spec0 w) := by
  dsimp only [dats]

theorem inv_castSucc (c : Dev nD) (t : Fin (cfgM (F := F)).N) :
    (dats m 0 c).Φ t.castSucc = Inv m c t.val (Nat.le_of_lt t.isLt) := by
  dsimp only [dats]; exact Pipeline.Dat.Φ_castSucc (Inv m c) t

theorem after0_0 (c : Dev nD) (t : Fin (cfgM (F := F)).N) : (dats m 0 c).after 0 t = iblk m c 0 t := by dsimp only [dats]; try rfl
theorem after0_1 (c : Dev nD) (t : Fin (cfgM (F := F)).N) : (dats m 0 c).after 1 t = iblk m c 1 t := by dsimp only [dats]; try rfl
theorem after0_2 (c : Dev nD) (t : Fin (cfgM (F := F)).N) : (dats m 0 c).after 2 t = iblk m c 2 t := by dsimp only [dats]; try rfl
theorem after0_3 (c : Dev nD) (t : Fin (cfgM (F := F)).N) : (dats m 0 c).after 3 t = block m c t := by dsimp only [dats]; try rfl

theorem before0_0 (c : Dev nD) (t : Fin (cfgM (F := F)).N) (d) : (dats m 0 c).before 0 t d = iblk m c 0 t :=
  before0_0_of m (dats m 0 c) (A_eq m c 0) (after0_0 m c) t d
theorem before0_1 (c : Dev nD) (t : Fin (cfgM (F := F)).N) (d) : (dats m 0 c).before 1 t d = iblk m c 1 t :=
  before0_1_of m (dats m 0 c) (A_eq m c 1) (after0_1 m c) t d
theorem before0_2 (c : Dev nD) (t : Fin (cfgM (F := F)).N) (d) : (dats m 0 c).before 2 t d = iblk m c 2 t :=
  before0_2_of m (dats m 0 c) (A_eq m c 2) (after0_2 m c) t d

/-! ## The body at a point -/

/-- What the body is called with at point `t`, -/
def bodyPre (c : Dev nD) (t : Fin (cfgM (F := F)).N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)))

/-- and what it returns. -/
def bodyPost (c : Dev nD) (t : Fin (cfgM (F := F)).N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ (dats m 0 c).leavesExact 3 t)

set_option maxHeartbeats 4800000 in
/-- The body at any point. -/
theorem sound_body (c : Dev nD) (t : Fin (cfgM (F := F)).N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2]
  rw [show (dats m 0 c).Φ t.succ = Inv m c (t.val + 1) t.isLt from rfl, inv_castSucc]
  unfold Inv
  rw [PhiT0_eq]
  have wf := fAt_eq (F := F) c (grid0.coords t)
  have wq := qAt_eq (F := F) c (grid0.coords t)
  have wk := kAt_eq (F := F) c (grid0.coords t)
  by_cases hf : IsFirst t
  · by_cases ho : IsOn t
    · unfold Dat.leavesExact; rw [live_on t ho, after0_3]
      have e := leaves_first m c t hf
      unfold step at e; rw [if_pos ho] at e
      unfold block; rw [e]
      iintro ⟨⟨⟨⟨%x, %s, %hC, HS0, HS1⟩, Hg⟩, ⟨HT0, HT1, HT2⟩⟩, Ho, ⟨%d0, H0⟩, ⟨%d1, H1⟩, ⟨%d2, H2⟩, ⟨%d3, H3⟩⟩
      have key := fun K => run_first_on (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (tbl 0) (tbl 1) (tbl 2)
        (by rw [wf]; exact (first_iff _).mpr hf) (by rw [wf]; exact (masked_iff _).mpr ho) (by rw [wf]; exact fun h => (below_iff _).mp h ho) (by rw [wf]; exact (last_iff _).mpr ho) Set.univ K
      rw [wq, wk] at key
      iapply key
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · iexists _; iexists _; isplitr
            swap
            · isplitl [HS0]; · iexact HS0
              iexact HS1
            ipureintro; exact fun _ => e.symm
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexact H3
    · rw [Dat.leavesExact_idle (dats m 0 c) 3 t (idle_below t ho) (not_flushed t ho)]
      have e := leaves_first m c t hf
      unfold step at e; rw [if_neg ho] at e
      iintro ⟨⟨⟨⟨%x, %s, %hC, HS0, HS1⟩, Hg⟩, ⟨HT0, HT1, HT2⟩⟩, Ho, ⟨%d0, H0⟩, ⟨%d1, H1⟩, ⟨%d2, H2⟩, ⟨%d3, H3⟩⟩
      have key := fun K => run_first_below (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) ((dats m 0 c).before 3 t d3) (tbl 0) (tbl 1) (tbl 2)
        (by rw [wf]; exact (first_iff _).mpr hf) (by rw [wf]; exact fun h => ho ((masked_iff _).mp h)) (by rw [wf]; exact (below_iff _).mpr ho) (by rw [wf]; exact fun h => ho ((last_iff _).mp h)) Set.univ K
      iapply key
      isplitl [H0]; · iexact H0
      isplitl [H1]; · iexact H1
      isplitl [H2]; · iexact H2
      isplitl [H3]; · iexact H3
      isplitl [HS0]; · iexists _; iexact HS0
      isplitl [HS1]; · iexists _; iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · iexists _; iexists _; isplitr
            swap
            · isplitl [HS0]; · iexact HS0
              iexact HS1
            ipureintro; exact fun _ => e.symm
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexists _; iexact H3
  · by_cases ho : IsOn t
    · unfold Dat.leavesExact; rw [live_on t ho, after0_3]
      have e := leaves_later m c t hf
      unfold step at e; rw [if_pos ho] at e
      unfold block; rw [e]
      iintro ⟨⟨⟨⟨%x, %s, %hC, HS0, HS1⟩, Hg⟩, ⟨HT0, HT1, HT2⟩⟩, Ho, ⟨%d0, H0⟩, ⟨%d1, H1⟩, ⟨%d2, H2⟩, ⟨%d3, H3⟩⟩
      have hx := hC (Nat.lt_of_le_of_lt (Nat.zero_le _) (show t.val - 1 < t.val by have := (before_word _ hf).1; rw [pt_val] at this; omega))
      rw [← hx] at e ⊢
      have key := fun K => run_on (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) x s (tbl 0) (tbl 1) (tbl 2)
        (by rw [wf]; exact fun h => hf ((first_iff _).mp h)) (by rw [wf]; exact (masked_iff _).mpr ho) (by rw [wf]; exact fun h => (below_iff _).mp h ho) (by rw [wf]; exact (last_iff _).mpr ho) Set.univ K
      rw [wq, wk] at key
      iapply key
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · iexists _; iexists _; isplitr
            swap
            · isplitl [HS0]; · iexact HS0
              iexact HS1
            ipureintro; exact fun _ => e.symm
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexact H3
    · rw [Dat.leavesExact_idle (dats m 0 c) 3 t (idle_below t ho) (not_flushed t ho)]
      have e := leaves_later m c t hf
      unfold step at e; rw [if_neg ho] at e
      iintro ⟨⟨⟨⟨%x, %s, %hC, HS0, HS1⟩, Hg⟩, ⟨HT0, HT1, HT2⟩⟩, Ho, ⟨%d0, H0⟩, ⟨%d1, H1⟩, ⟨%d2, H2⟩, ⟨%d3, H3⟩⟩
      have hx := hC (Nat.lt_of_le_of_lt (Nat.zero_le _) (show t.val - 1 < t.val by have := (before_word _ hf).1; rw [pt_val] at this; omega))
      rw [← hx] at e
      have key := fun K => run_below (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) ((dats m 0 c).before 3 t d3) x s (tbl 0) (tbl 1) (tbl 2)
        (by rw [wf]; exact fun h => hf ((first_iff _).mp h)) (by rw [wf]; exact fun h => ho ((masked_iff _).mp h)) (by rw [wf]; exact (below_iff _).mpr ho) (by rw [wf]; exact fun h => ho ((last_iff _).mp h)) Set.univ K
      iapply key
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · iexists _; iexists _; isplitr
            swap
            · isplitl [HS0]; · iexact HS0
              iexact HS1
            ipureintro; exact fun _ => e.symm
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexists _; iexact H3

theorem defs₀_row (t : Fin (cfgM (F := F)).N) :
    defs₀ (F := F) .tc (cfgM (F := F)).body ((cfgM (F := F)).bodyArgs t ((cfgM (F := F)).slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : iprop(Pipeline.ΦA spec0 c ∗ Pipeline.ΦT pre0 (tbl (F := F)) c) ⊢ (dats m 0 c).Φ 0 := by
  rw [show (dats m 0 c).Φ 0 = Inv m c 0 (Nat.zero_le _) from rfl, PhiA0_eq]
  unfold Inv
  iintro ⟨⟨⟨⟨%x, HS0⟩, ⟨%s, HS1⟩⟩, Hg⟩, HT⟩
  isplitl [HS0 HS1 Hg]
  · isplitl [HS0 HS1]
    · iexists _; iexists _; isplitr
      swap
      · isplitl [HS0]; · iexact HS0
        iexact HS1
      ipureintro; exact fun h => absurd h (Nat.lt_irrefl 0)
    iexact Hg
  iexact HT

theorem hout (c : Dev nD) : (dats m 0 c).Φ (Fin.last (cfgM (F := F)).N) ⊢ Pipeline.ΦA spec0 c := by
  rw [show (dats m 0 c).Φ (Fin.last (cfgM (F := F)).N) = Inv m c (Fin.last (cfgM (F := F)).N).val (Nat.le_of_lt_succ (Fin.last (cfgM (F := F)).N).isLt) from rfl, PhiA0_eq]
  unfold Inv
  iintro ⟨⟨⟨%x, %s, -, HS0, HS1⟩, Hg⟩, -⟩
  isplitl [HS0 HS1]
  · isplitl [HS0]
    · iexists _; iexact HS0
    iexists _; iexact HS1
  iexact Hg

/-! ## The run -/

set_option backward.isDefEq.respectTransparency.types false in
/-- The run: every array of the pipeline at what the points' blocks make it, every counter at zero. -/
theorem run_main : θ_run defs (onTc (τ := τ) (main (F := F))) (s₀ m ρ) (fun r => (Pipeline.FramePost (Pipeline.pin pcfgs fun _ => adm (F := F)) (dats m) 0 (V m)) r ∧ r.2.sem = fun _ => 0) :=
  Pipeline.θ_run_frameP_track (Q' := _) pcfgs (fun _ => adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) ((θ_run defs _ _).mono (fun _ h => h.1) (run_main m ρ)))
    ((θ_run defs _ _).mono (fun _ h => h.2) (run_main m ρ))

end Cert.LatentCall

end
-- ==== Proof.LatentRows.lean ====
/-
  The causal attention of one query, taken in a block of keys at a time. A query's scores come one after another; the
  running maximum and the running sums of the values weighted by powers of two relative to that maximum, rescaled when the
  maximum grows, end at the sums relative to the greatest score of all. Their quotient is the softmax of the scores in base e.
-/
module

public import proofs.«01_k».proof.Proof.Rows
public import Mathlib.Analysis.SpecialFunctions.Pow.Real

@[expose] public section

noncomputable section

namespace Cert.LatentRows

open Idealize.ShloMosaic

/-- The greatest of the first `n` scores. -/
def top (z : ℕ → EReal) (n : ℕ) : EReal := (Finset.range n).sup z

/-- The sum of the first `n` values, each times the power of two of its score relative to `M`. -/
def acc (z w : ℕ → EReal) (n : ℕ) (M : EReal) : EReal := ∑ k ∈ Finset.range n, w k * Ideal.exp2 (z k - M)

theorem exp2_coe (r : ℝ) : Ideal.exp2 (r : EReal) = ((Real.rpow 2 r : ℝ) : EReal) := rfl
theorem exp_coe (r : ℝ) : Ideal.exp (r : EReal) = ((Real.exp r : ℝ) : EReal) := rfl

theorem exp2_shift (x : EReal) (hx : x ≠ ⊤) (a b : ℝ) :
    Ideal.exp2 (x - (a : EReal)) * Ideal.exp2 ((a : EReal) - (b : EReal)) = Ideal.exp2 (x - (b : EReal)) := by
  induction x using EReal.rec with
  | bot =>
    rw [EReal.bot_sub, EReal.bot_sub]; exact zero_mul _
  | coe x =>
    rw [← EReal.coe_sub, ← EReal.coe_sub, ← EReal.coe_sub, exp2_coe, exp2_coe, exp2_coe, ← EReal.coe_mul]
    congr 1
    show (2 : ℝ) ^ (x - a) * (2 : ℝ) ^ (a - b) = (2 : ℝ) ^ (x - b)
    rw [← Real.rpow_add (by norm_num)]
    congr 1; ring
  | top => exact absurd rfl hx

theorem top_real (z : ℕ → EReal) (hz : ∀ k, z k ≠ ⊤) (h0 : z 0 ≠ ⊥) (n : ℕ) (hn : 0 < n) : ∃ a : ℝ, top z n = (a : EReal) := by
  have ht : top z n ≠ ⊤ := ne_of_lt ((Finset.sup_lt_iff bot_lt_top).mpr fun k _ => lt_top_iff_ne_top.mpr (hz k))
  have hb : top z n ≠ ⊥ := fun e => h0 (le_bot_iff.mp (e ▸ Finset.le_sup (f := z) (Finset.mem_range.mpr hn)))
  exact ⟨(top z n).toReal, (EReal.coe_toReal ht hb).symm⟩

theorem top_step (z : ℕ → EReal) (n b : ℕ) :
    max (top z n) (Finset.univ.fold max ⊥ (fun i : Fin b => z (n + i.val))) = top z (n + b) := by
  show max (top z n) ((Finset.univ : Finset (Fin b)).sup fun i => z (n + i.val)) = top z (n + b)
  refine le_antisymm (max_le ?_ ?_) (Finset.sup_le fun k hk => ?_)
  · exact Finset.sup_mono (Finset.range_mono (Nat.le_add_right n b))
  · exact Finset.sup_le fun i _ => Finset.le_sup (f := z) (Finset.mem_range.mpr (by omega))
  · have hk' := Finset.mem_range.mp hk
    by_cases h : k < n
    · exact le_max_of_le_left (Finset.le_sup (f := z) (Finset.mem_range.mpr h))
    · refine le_max_of_le_right ?_
      have e : z k = (fun i : Fin b => z (n + i.val)) ⟨k - n, by omega⟩ := congrArg z (by show k = n + (k - n); omega)
      rw [e]; exact Finset.le_sup (f := fun i : Fin b => z (n + i.val)) (Finset.mem_univ _)

theorem acc_step (z w : ℕ → EReal) (hz : ∀ k, z k ≠ ⊤) (h0 : z 0 ≠ ⊥) (n b : ℕ) (hb : 0 < b) :
    Ideal.exp2 (top z n - top z (n + b)) * acc z w n (top z n) + ∑ i : Fin b, w (n + i.val) * Ideal.exp2 (z (n + i.val) - top z (n + b))
      = acc z w (n + b) (top z (n + b)) := by
  unfold acc
  rw [Finset.sum_range_add, ← Finset.sum_range (fun i => w (n + i) * Ideal.exp2 (z (n + i) - top z (n + b)))]
  congr 1
  rcases Nat.eq_zero_or_pos n with rfl | hn
  · simp
  obtain ⟨A, hA⟩ := top_real z hz h0 n hn
  obtain ⟨B, hB⟩ := top_real z hz h0 (n + b) (by omega)
  rw [hA, hB, mul_comm, Rows.sum_mul_factor]
  · exact Finset.sum_congr rfl fun k _ => by rw [mul_assoc, exp2_shift _ (hz k)]
  · rw [← EReal.coe_sub, exp2_coe]; exact EReal.coe_nonneg.mpr (Real.rpow_nonneg (by norm_num) _)
  · rw [← EReal.coe_sub, exp2_coe]; exact EReal.coe_ne_top _

/-! ## From base two to base e -/

theorem base (x : EReal) (hx : x ≠ ⊤) (a : ℝ) :
    Ideal.exp2 (x * ((1 / Real.log 2 : ℝ) : EReal) - (a : EReal) * ((1 / Real.log 2 : ℝ) : EReal)) = Ideal.exp (x - (a : EReal)) := by
  have hl : 0 < Real.log 2 := Real.log_pos (by norm_num)
  have hc : 0 < (1 / Real.log 2 : ℝ) := by positivity
  induction x using EReal.rec with
  | bot =>
    rw [EReal.bot_mul_coe_of_pos hc, EReal.bot_sub, EReal.bot_sub]; rfl
  | coe x =>
    rw [← EReal.coe_mul, ← EReal.coe_mul, ← EReal.coe_sub, ← EReal.coe_sub, exp2_coe, exp_coe]
    congr 1
    show (2 : ℝ) ^ (x * (1 / Real.log 2) - a * (1 / Real.log 2)) = Real.exp (x - a)
    rw [Real.rpow_def_of_pos (by norm_num)]
    congr 1; field_simp
  | top => exact absurd rfl hx

theorem top_scaled (x : ℕ → EReal) (n : ℕ) (hn : 0 < n) {c : EReal} (hc : 0 ≤ c) : top (fun k => x k * c) n = top x n * c := by
  refine le_antisymm (Finset.sup_le fun k hk => ?_) ?_
  · exact mul_le_mul_of_nonneg_right (Finset.le_sup (f := x) hk) hc
  · obtain ⟨k, hk, e⟩ := Finset.exists_mem_eq_sup (Finset.range n) ⟨0, Finset.mem_range.mpr hn⟩ x
    unfold top
    rw [e]
    exact Finset.le_sup (f := fun k => x k * c) hk

theorem sum_coe {ι : Type*} (t : Finset ι) (f : ι → ℝ) : ∑ i ∈ t, (f i : EReal) = ((∑ i ∈ t, f i : ℝ) : EReal) := by
  classical
  induction t using Finset.induction_on with
  | empty => simp
  | insert a u ha ih => rw [Finset.sum_insert ha, Finset.sum_insert ha, ih, EReal.coe_add]

theorem exp_real (x : EReal) (hx : x ≠ ⊤) (a : ℝ) : ∃ e : ℝ, 0 ≤ e ∧ Ideal.exp (x - (a : EReal)) = (e : EReal) ∧ (x ≠ ⊥ → 0 < e) := by
  induction x using EReal.rec with
  | bot => exact ⟨0, le_refl _, by rw [EReal.bot_sub]; rfl, fun h => absurd rfl h⟩
  | coe x => exact ⟨Real.exp (x - a), (Real.exp_pos _).le, by rw [← EReal.coe_sub, exp_coe], fun _ => Real.exp_pos _⟩
  | top => exact absurd rfl hx

theorem top_masked (x : ℕ → EReal) (n N : ℕ) (hN : n ≤ N) (hm : ∀ k, n ≤ k → x k = ⊥) : top x N = top x n := by
  refine le_antisymm (Finset.sup_le fun k hk => ?_) (Finset.sup_mono (Finset.range_mono hN))
  by_cases h : k < n
  · exact Finset.le_sup (f := x) (Finset.mem_range.mpr h)
  · rw [hm k (by omega)]; exact bot_le

/-- The quotient of the sums in base two over the first `n` keys, past which every score is masked, is the attention by the
    softmax in base e over all `N`. -/
theorem quotient (x w : ℕ → EReal) (hx : ∀ k, x k ≠ ⊤) (h0 : x 0 ≠ ⊥) (n N : ℕ) (hn : 0 < n) (hN : n ≤ N) (hm : ∀ k, n ≤ k → x k = ⊥) :
    Ideal.div (acc (fun k => x k * ((1 / Real.log 2 : ℝ) : EReal)) w n (top (fun k => x k * ((1 / Real.log 2 : ℝ) : EReal)) n))
        (acc (fun k => x k * ((1 / Real.log 2 : ℝ) : EReal)) (fun _ => 1) n (top (fun k => x k * ((1 / Real.log 2 : ℝ) : EReal)) n))
      = ∑ k : Fin N, Ideal.div (Ideal.exp (x k.val - top x N)) (∑ k : Fin N, Ideal.exp (x k.val - top x N)) * w k.val := by
  have hc : (0 : EReal) ≤ ((1 / Real.log 2 : ℝ) : EReal) := EReal.coe_nonneg.mpr (by have : 0 < Real.log 2 := Real.log_pos (by norm_num); positivity)
  rw [top_scaled x n hn hc, top_masked x n N hN hm]
  obtain ⟨a, ha⟩ := top_real x hx h0 n hn
  rw [ha]
  choose e he0 he hp using fun k => exp_real (x k) (hx k) a
  have ext : ∀ w : ℕ → EReal, acc (fun k => x k * ((1 / Real.log 2 : ℝ) : EReal)) w n ((a : EReal) * ((1 / Real.log 2 : ℝ) : EReal)) = ∑ k : Fin N, w k.val * (e k.val : EReal) := by
    intro w
    unfold acc
    rw [← Finset.sum_range (fun k => w k * (e k : EReal))]
    refine (Finset.sum_congr rfl fun k _ => by rw [base _ (hx k), he]).trans (Finset.sum_subset (Finset.range_mono hN) fun k _ hk => ?_)
    have : x k = ⊥ := hm k (by simpa using hk)
    rw [← he, this, EReal.bot_sub]
    exact mul_zero _
  rw [ext, ext]
  simp only [he, one_mul]
  rw [sum_coe]
  have hl : 0 < ∑ k : Fin N, e k.val :=
    Finset.sum_pos' (fun k _ => he0 k) ⟨⟨0, by omega⟩, Finset.mem_univ _, hp 0 h0⟩
  generalize (∑ k : Fin N, e k.val) = l at hl
  have hd : ∀ y : EReal, Ideal.div y (l : EReal) = y * ((l⁻¹ : ℝ) : EReal) := fun y => by
    unfold Ideal.div
    rw [if_neg (by exact_mod_cast hl.ne'), EReal.coe_inv]
  simp only [hd]
  rw [Rows.sum_mul_factor _ _ (EReal.coe_nonneg.mpr (inv_nonneg.mpr hl.le)) (EReal.coe_ne_top _)]
  exact Finset.sum_congr rfl fun k _ => by rw [mul_assoc, mul_comm]

end Cert.LatentRows

end
-- ==== Proof.LatentValue.lean ====
/-
  The latent attention's call: what the body's arithmetic is at one entry, over the ideal numbers.
-/
module

public import proofs.«01_k».proof.Proof.LatentRuns
public import proofs.«01_k».proof.Proof.LatentRows

@[expose] public section

set_option maxRecDepth 16384

noncomputable section

namespace Cert.LatentCall

open Idealize.ShloMosaic Idealize.ShloMosaic.TcCoe Idealize.SL.Sem
open Idealize.ShloMosaic.Pointwise
open Cert.LatentIdeal Cert.LatentIdeal.Gen

theorem mask_bot : (Named.named κ "mask" 0xF149F2CA#32 : Ideal .f32) = (⊥ : EReal) := rfl

/-- The columns' maxima of a head's scores. -/
def colMax (s : FVec Ideal S16x512x512 .f32) : FVec Ideal S16x512 .f32 :=
  multiReduction .maximumf [1] S16x512 s 0xFF800000#32 reduces_S16x512x512_S16x512 (.inl rfl) rfl

theorem colMax_at (s : FVec Ideal S16x512x512 .f32) (h : Fin 16) (r : Fin 512) :
    colMax s (ix2 h r) = Finset.univ.fold max (⊥ : EReal) fun n : Fin 512 => s (ix3 h n r) := by
  refine (Ideal.multiReduction_maximumf_single s _ _ _ _ _).trans ?_
  rw [show (FloatOps.ofBits .f32 0xFF800000#32 : Ideal .f32) = (⊥ : EReal) from Rows.lowest]
  refine congrArg (fun f => Finset.univ.fold max (⊥ : EReal) f) (funext fun n => congrArg s (funext fun a => Fin.ext ?_))
  match a with
  | ⟨0, _⟩ => rfl
  | ⟨1, _⟩ => rfl
  | ⟨2, _⟩ => rfl

/-- A row of maxima, as the kernel keeps it. -/
theorem kept_at (y : FVec Ideal S16x512 .f32) (h : Fin 16) (r : Fin 512) :
    shapeCast S16x1x512 y shapeCasts_S16x512_S16x1x512 (ix3 h 0 r) = y (ix2 h r) := by
  pointwise

/-- The score of key `n` for the query `r` of head `h`. -/
def score (q : Vec Ideal S16x1x512x96 .bf16) (k : Vec Ideal S16x512x96 .bf16) (h : Fin 16) (n r : Fin 512) : EReal :=
  ∑ d : Fin 96, k (ix3 h n d) * q (ix4 h 0 r d)

theorem score_at (q : Vec Ideal S16x1x512x96 .bf16) (k : Vec Ideal S16x512x96 .bf16) (h : Fin 16) (n r : Fin 512) :
    k0_pay5 q k (ix3 h n r) = score q k h n r := by
  pointwise [k0_pay5]
  rfl

/-- The running maximum raised by a block of scores. -/
theorem raise_at (x : FVec Ideal S16x1x512 .f32) (y : FVec Ideal S16x512x512 .f32) (h : Fin 16) (r : Fin 512) :
    maximumf x (shapeCast S16x1x512 (colMax y) shapeCasts_S16x512_S16x1x512) (ix3 h 0 r)
      = max (x (ix3 h 0 r)) (Finset.univ.fold max (⊥ : EReal) fun n : Fin 512 => y (ix3 h n r)) := by
  rw [Idealize.ShloMosaic.maximumf_apply, kept_at, colMax_at, Ideal.maximumf_eq_max]

theorem max_eq (q : Vec Ideal S16x1x512x96 .bf16) (k : Vec Ideal S16x512x96 .bf16) (x : Vec Ideal S16x1x512 .f32) :
    k0_pay6 q k x = maximumf x (shapeCast S16x1x512 (colMax (k0_pay5 q k)) shapeCasts_S16x512_S16x1x512) := by
  unfold k0_pay6 colMax
  rfl

theorem maxOn_eq (q : Vec Ideal S16x1x512x96 .bf16) (k : Vec Ideal S16x512x96 .bf16) (a b : BitVec 32) (x : Vec Ideal S16x1x512 .f32) :
    k0_pay15 q k a b x = maximumf x (shapeCast S16x1x512 (colMax (k0_pay14 q k a b)) shapeCasts_S16x512_S16x1x512) := by
  unfold k0_pay15 colMax
  rfl

/-- The maximum as it is stored is the maximum as it is taken, -/
theorem stored_max (q : Vec Ideal S16x1x512x96 .bf16) (k : Vec Ideal S16x512x96 .bf16) (x : Vec Ideal S16x1x512 .f32) (h : Fin 16) (r : Fin 512) :
    k0_pay8 q k x (ix3 h 0 r) = k0_pay6 q k x (ix3 h 0 r) := by
  pointwise [k0_pay8]
/-- on the diagonal too. -/
theorem stored_maxOn (q : Vec Ideal S16x1x512x96 .bf16) (k : Vec Ideal S16x512x96 .bf16) (a b : BitVec 32) (x : Vec Ideal S16x1x512 .f32) (h : Fin 16) (r : Fin 512) :
    maxOn q k a b x (ix3 h 0 r) = k0_pay15 q k a b x (ix3 h 0 r) := by
  unfold maxOn
  pointwise [k0_pay4]

/-- The values with the row of ones under them. -/
def ext (v : Vec Ideal S16x64x512 .bf16) (h : Fin 16) (d : Fin 80) (n : Fin 512) : EReal :=
  if e : d.val < 64 then v (ix3 h ⟨d.val, e⟩ n) else 1

theorem sums_at (q : Vec Ideal S16x1x512x96 .bf16) (k : Vec Ideal S16x512x96 .bf16) (x : Vec Ideal S16x1x512 .f32) (v : Vec Ideal S16x64x512 .bf16) (s : Vec Ideal S16x80x512 .f32) (h : Fin 16) (d : Fin 80) (r : Fin 512) :
    k0_pay7 q k x v s (ix3 h d r) = Ideal.exp2 (x (ix3 h 0 r) - k0_pay6 q k x (ix3 h 0 r)) * s (ix3 h d r)
      + ∑ n : Fin 512, ext v h d n * Ideal.exp2 (k0_pay5 q k (ix3 h n r) - k0_pay6 q k x (ix3 h 0 r)) := by
  pointwise [k0_pay7]
  unfold ext
  rfl

theorem sumsOn_at (q : Vec Ideal S16x1x512x96 .bf16) (k : Vec Ideal S16x512x96 .bf16) (v : Vec Ideal S16x64x512 .bf16) (a b : BitVec 32) (x : Vec Ideal S16x1x512 .f32) (s : Vec Ideal S16x80x512 .f32) (h : Fin 16) (d : Fin 80) (r : Fin 512) :
    sumsOn q k v a b x s (ix3 h d r) = Ideal.exp2 (x (ix3 h 0 r) - k0_pay15 q k a b x (ix3 h 0 r)) * s (ix3 h d r)
      + ∑ n : Fin 512, ext v h d n * Ideal.exp2 (k0_pay14 q k a b (ix3 h n r) - k0_pay15 q k a b x (ix3 h 0 r)) := by
  unfold sumsOn
  pointwise [k0_pay3, k0_pay16, k0_pay17, k0_pay18]
  unfold ext
  rfl

/-- On the diagonal the mask keeps the keys that are not after the query. -/
theorem diag_word (a : BitVec 32) (n r : Fin 512) :
    IntOp.cmpi .sge (IntOp.subi (IntOp.addi (Scalar.subi (Scalar.muli a 512#32) (Scalar.muli a 512#32)) (BitVec.ofNat 32 r.val)) (BitVec.ofNat 32 n.val)) 0#32
      = if n.val ≤ r.val then 1#1 else 0#1 := by
  have e : Scalar.subi (Scalar.muli a 512#32) (Scalar.muli a 512#32) = 0#32 := BitVec.sub_self _
  rw [e]
  have hn := n.isLt
  have hr := r.isLt
  show BitVec.ofBool ((0#32).sle (0#32 + BitVec.ofNat 32 r.val - BitVec.ofNat 32 n.val)) = _
  have t : (0#32 + BitVec.ofNat 32 r.val - BitVec.ofNat 32 n.val).toInt = (r.val : ℤ) - n.val := by
    rw [BitVec.zero_add, BitVec.toInt_sub, BitVec.toInt_ofNat', BitVec.toInt_ofNat']
    simp only [Int.bmod]
    omega
  unfold BitVec.sle
  rw [t]
  by_cases hnr : n.val ≤ r.val
  · rw [if_pos hnr, decide_eq_true (by show (0 : ℤ) ≤ _; omega)]; rfl
  · rw [if_neg hnr, decide_eq_false (by show ¬ (0 : ℤ) ≤ _; omega)]; rfl

theorem masked_at (q : Vec Ideal S16x1x512x96 .bf16) (k : Vec Ideal S16x512x96 .bf16) (a b : BitVec 32) (e : a = b) (h : Fin 16) (n r : Fin 512) :
    k0_pay14 q k a b (ix3 h n r) = if n.val ≤ r.val then score q k h n r else ⊥ := by
  subst e
  pointwise [k0_pay14]
  rw [diag_word, mask_bot]
  unfold Scalar.select score
  by_cases hnr : n.val ≤ r.val
  · rw [if_pos hnr, if_pos hnr]; rfl
  · rw [if_neg hnr, if_neg hnr]; rfl

/-- What is stored of four heads: their sums over their sums of exponentials. -/
theorem quot0_at (l : Vec Ideal S16x1x512 .f32) (u : Vec Ideal S16x64x512 .f32) (r : Fin 512) (j : Fin 256) :
    k0_pay10 l u (ix3 0 r j) = Ideal.div (u (ix3 ⟨j.val / 64, by omega⟩ ⟨j.val % 64, by omega⟩ r)) (l (ix3 ⟨j.val / 64, by omega⟩ 0 r)) := by
  pointwise [k0_pay10, k0_pay9]
theorem quot1_at (l : Vec Ideal S16x1x512 .f32) (u : Vec Ideal S16x64x512 .f32) (r : Fin 512) (j : Fin 256) :
    k0_pay11 l u (ix3 0 r j) = Ideal.div (u (ix3 ⟨4 + j.val / 64, by omega⟩ ⟨j.val % 64, by omega⟩ r)) (l (ix3 ⟨4 + j.val / 64, by omega⟩ 0 r)) := by
  pointwise [k0_pay11, k0_pay9]
theorem quot2_at (l : Vec Ideal S16x1x512 .f32) (u : Vec Ideal S16x64x512 .f32) (r : Fin 512) (j : Fin 256) :
    k0_pay12 l u (ix3 0 r j) = Ideal.div (u (ix3 ⟨8 + j.val / 64, by omega⟩ ⟨j.val % 64, by omega⟩ r)) (l (ix3 ⟨8 + j.val / 64, by omega⟩ 0 r)) := by
  pointwise [k0_pay12, k0_pay9]
theorem quot3_at (l : Vec Ideal S16x1x512 .f32) (u : Vec Ideal S16x64x512 .f32) (r : Fin 512) (j : Fin 256) :
    k0_pay13 l u (ix3 0 r j) = Ideal.div (u (ix3 ⟨12 + j.val / 64, by omega⟩ ⟨j.val % 64, by omega⟩ r)) (l (ix3 ⟨12 + j.val / 64, by omega⟩ 0 r)) := by
  pointwise [k0_pay13, k0_pay9]

/-- The running maximum and sums start from nothing. -/
theorem start_max (i : S16x1x512.Idx) : (k0_pay1 (F := Ideal)) i = (⊥ : EReal) := rfl
theorem start_sum (i : S16x80x512.Idx) : (k0_pay2 (F := Ideal)) i = (0 : EReal) := by
  refine Eq.trans (b := Ideal.ofBits .f32 0x00000000#32) rfl ?_
  pointwise

end Cert.LatentCall

end
-- ==== Proof.LatentReads.lean ====
/-
  The latent attention's call: the windows' blocks at one entry, in the arguments.
-/
module

public import proofs.«01_k».proof.Proof.LatentKit
public import proofs.«01_k».proof.Proof.LatentRows
public import Idealize.ShloMosaic.Lib.StableHlo.ReadAt

@[expose] public section

set_option maxRecDepth 16384

noncomputable section

namespace Cert.LatentCall

open Idealize.ShloMosaic Idealize.ShloMosaic.TcCoe Idealize.SL.Sem
open Idealize.ShloMosaic.Pointwise
open Cert.LatentIdeal Cert.LatentIdeal.Gen

/-- The reference's divisor, the square root of 96, -/
def root : EReal := Ideal.sqrt (Ideal.ofBits .f32 1119879168#32)
/-- and the factor the kernel's host code scales the queries by. -/
def factor : EReal := Ideal.div 1 (root * Ideal.log (Ideal.ofBits .f32 1073741824#32))

theorem root_eq : root = ((Real.sqrt 96 : ℝ) : EReal) := by
  unfold root
  rw [show Ideal.ofBits .f32 1119879168#32 = ((96 : ℝ) : EReal) by simp [Ideal.ofBits, Ideal.ieee, -EReal.coe_mul]; norm_num]
  show (if (96 : ℝ) < 0 then (⊥ : EReal) else ((Real.sqrt 96 : ℝ) : EReal)) = _
  rw [if_neg (by norm_num)]

theorem sqrt_pos : 0 < Real.sqrt 96 := Real.sqrt_pos.mpr (by norm_num)
theorem log_pos : 0 < Real.log 2 := Real.log_pos (by norm_num)

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem factor_eq : factor = ((1 / (Real.sqrt 96 * Real.log 2) : ℝ) : EReal) := by
  unfold factor
  rw [root_eq, show Ideal.ofBits .f32 1073741824#32 = ((2 : ℝ) : EReal) by simp [Ideal.ofBits, Ideal.ieee, -EReal.coe_mul]; norm_num,
    show Ideal.log ((2 : ℝ) : EReal) = ((Real.log 2 : ℝ) : EReal) from if_neg (by norm_num), ← EReal.coe_mul, ← EReal.coe_one]
  exact div_coe _ _ (mul_pos sqrt_pos log_pos).ne'

variable (m : (ℓ : Loc nD τ sig) → Buf (Elt Ideal) ℓ)

/-- A query's entry times the factor. -/
abbrev scaled (q : S4x4x4096x96.Idx → EReal) (b h : Fin 4) (p : Fin 4096) (d : Fin 96) : EReal := q (ix4 b h p d) * factor

abbrev batchOf (g : Fin 16) : Fin 4 := ⟨g.val / 4, by omega⟩
abbrev headOf (g : Fin 16) : Fin 4 := ⟨g.val % 4, by omega⟩

theorem queries_apply (c : Dev nD) (g : Fin 16) (p : Fin 4096) (d : Fin 96) :
    (V m c main_v10 : S16x1x4096x96.Idx → EReal) (ix4 g 0 p d) = scaled (m ((c : Thread nD τ).loc main_arg0)) (batchOf g) (headOf g) p d := by
  unfold V
  after_reads_at
  rfl

theorem keys_apply (c : Dev nD) (g : Fin 16) (p : Fin 4096) (d : Fin 96) :
    (V m c main_v11 : S16x4096x96.Idx → EReal) (ix3 g p d) = m ((c : Thread nD τ).loc main_arg1) (ix4 (batchOf g) (headOf g) p d) := by
  unfold V
  after_reads_at

theorem values_apply (c : Dev nD) (g : Fin 16) (d : Fin 64) (p : Fin 4096) :
    (V m c main_v12 : S16x64x4096.Idx → EReal) (ix3 g d p) = m ((c : Thread nD τ).loc main_arg2) (ix4 (batchOf g) (headOf g) p d) := by
  unfold V
  after_reads_at

theorem queries_block (c : Dev nD) (t : Fin (cfgM (F := Ideal)).N) (g : Fin 16) (r : Fin 512) (d : Fin 96) (p : Fin 4096) (hp : p.val = (qw (pt t)).toNat * 512 + r.val) :
    (iblk m c 0 t : S16x1x512x96.Idx → EReal) (ix4 g 0 r d) = scaled (m ((c : Thread nD τ).loc main_arg0)) (batchOf g) (headOf g) p d := by
  refine Eq.trans ?_ (queries_apply m c g p d)
  show V m c main_v10 _ = V m c main_v10 _
  congr 1
  funext b
  apply Fin.ext
  match b with
  | ⟨0, _⟩ => show cc0_transform_0 k0_off1_inb numel1_S1 (tbl (F := Ideal)) (grid0.coords t) 0 * 16 + 1 * g.val = g.val; rw [map0]; show 0 * 16 + 1 * g.val = g.val; omega
  | ⟨1, _⟩ => show cc0_transform_0 k0_off1_inb numel1_S1 (tbl (F := Ideal)) (grid0.coords t) 1 * 1 + 1 * 0 = 0; rw [map0]; rfl
  | ⟨2, _⟩ => show cc0_transform_0 k0_off1_inb numel1_S1 (tbl (F := Ideal)) (grid0.coords t) 2 * 512 + 1 * r.val = p.val; rw [map0, hp]; show (qw (pt t)).toNat * 512 + 1 * r.val = _; omega
  | ⟨3, _⟩ => show cc0_transform_0 k0_off1_inb numel1_S1 (tbl (F := Ideal)) (grid0.coords t) 3 * 96 + 1 * d.val = d.val; rw [map0]; show 0 * 96 + 1 * d.val = d.val; omega

theorem keys_block (c : Dev nD) (t : Fin (cfgM (F := Ideal)).N) (g : Fin 16) (n : Fin 512) (d : Fin 96) (p : Fin 4096) (hp : p.val = (kw (pt t)).toNat * 512 + n.val) :
    (iblk m c 1 t : S16x512x96.Idx → EReal) (ix3 g n d) = m ((c : Thread nD τ).loc main_arg1) (ix4 (batchOf g) (headOf g) p d) := by
  refine Eq.trans ?_ (keys_apply m c g p d)
  show V m c main_v11 _ = V m c main_v11 _
  congr 1
  funext b
  apply Fin.ext
  match b with
  | ⟨0, _⟩ => show cc0_transform_1 k0_off1_inb numel1_S1 (tbl (F := Ideal)) (grid0.coords t) 0 * 16 + 1 * g.val = g.val; rw [map1]; show 0 * 16 + 1 * g.val = g.val; omega
  | ⟨1, _⟩ => show cc0_transform_1 k0_off1_inb numel1_S1 (tbl (F := Ideal)) (grid0.coords t) 1 * 512 + 1 * n.val = p.val; rw [map1, hp]; show (kw (pt t)).toNat * 512 + 1 * n.val = _; omega
  | ⟨2, _⟩ => show cc0_transform_1 k0_off1_inb numel1_S1 (tbl (F := Ideal)) (grid0.coords t) 2 * 96 + 1 * d.val = d.val; rw [map1]; show 0 * 96 + 1 * d.val = d.val; omega

theorem values_block (c : Dev nD) (t : Fin (cfgM (F := Ideal)).N) (g : Fin 16) (d : Fin 64) (n : Fin 512) (p : Fin 4096) (hp : p.val = (kw (pt t)).toNat * 512 + n.val) :
    (iblk m c 2 t : S16x64x512.Idx → EReal) (ix3 g d n) = m ((c : Thread nD τ).loc main_arg2) (ix4 (batchOf g) (headOf g) p d) := by
  refine Eq.trans ?_ (values_apply m c g d p)
  show V m c main_v12 _ = V m c main_v12 _
  congr 1
  funext b
  apply Fin.ext
  match b with
  | ⟨0, _⟩ => show cc0_transform_2 k0_off1_inb numel1_S1 (tbl (F := Ideal)) (grid0.coords t) 0 * 16 + 1 * g.val = g.val; rw [map2]; show 0 * 16 + 1 * g.val = g.val; omega
  | ⟨1, _⟩ => show cc0_transform_2 k0_off1_inb numel1_S1 (tbl (F := Ideal)) (grid0.coords t) 1 * 64 + 1 * d.val = d.val; rw [map2]; show 0 * 64 + 1 * d.val = d.val; omega
  | ⟨2, _⟩ => show cc0_transform_2 k0_off1_inb numel1_S1 (tbl (F := Ideal)) (grid0.coords t) 2 * 512 + 1 * n.val = p.val; rw [map2, hp]; show (kw (pt t)).toNat * 512 + 1 * n.val = _; omega

end Cert.LatentCall

end
-- ==== Proof.LatentBlock.lean ====
/-
  The latent attention's call: what the points leave of the maximum and the sums, what the diagonal points write, and what the
  result array holds after the run, for queries and keys of real entries.
-/
module

public import proofs.«01_k».proof.Proof.LatentFrame
public import proofs.«01_k».proof.Proof.LatentValue
public import proofs.«01_k».proof.Proof.LatentReads
public import Idealize.ShloMosaic.Lib.Pipeline.ValueKit.Tiles

@[expose] public section

set_option maxRecDepth 16384

noncomputable section

namespace Cert.LatentCall

open Idealize.ShloMosaic Idealize.ShloMosaic.TcCoe Idealize.SL.Sem
open Idealize.ShloMosaic.Pointwise
open Idealize.ShloMosaic.Pipeline (Dat)
open Cert.LatentIdeal Cert.LatentIdeal.Gen
open Cert.LatentRows

/-! ## The attention, as the reference computes it -/

/-- Position `n`. -/
def at4 (n : ℕ) : Fin 4096 := ⟨n % 4096, Nat.mod_lt _ (by decide)⟩
theorem at4_val (n : Fin 4096) : at4 n.val = n := Fin.ext (Nat.mod_eq_of_lt n.isLt)

/-- The score of key `n` for the query at `p`, under the causal mask. -/
def masked4 (q k : S4x4x4096x96.Idx → EReal) (b h : Fin 4) (p n : ℕ) : EReal :=
  if n ≤ p then Ideal.div (∑ d, q (ix4 b h (at4 p) d) * k (ix4 b h (at4 n) d)) root else ⊥
/-- The values' column `j`. -/
def column (v : S4x4x4096x64.Idx → EReal) (b h : Fin 4) (j : Fin 64) (n : ℕ) : EReal := v (ix4 b h (at4 n) j)

/-- One entry: the softmax of the scores against the values. -/
def entry (q k : S4x4x4096x96.Idx → EReal) (v : S4x4x4096x64.Idx → EReal) (b : Fin 4) (p : Fin 4096) (j : Fin 256) : EReal :=
  ∑ n : Fin 4096, Ideal.div (Ideal.exp (masked4 q k b ⟨j.val / 64, by omega⟩ p.val n.val - top (masked4 q k b ⟨j.val / 64, by omega⟩ p.val) 4096))
      (∑ n : Fin 4096, Ideal.exp (masked4 q k b ⟨j.val / 64, by omega⟩ p.val n.val - top (masked4 q k b ⟨j.val / 64, by omega⟩ p.val) 4096))
    * column v b ⟨j.val / 64, by omega⟩ ⟨j.val % 64, by omega⟩ n.val

/-- The same as an array. -/
def latent (q k : S4x4x4096x96.Idx → EReal) (v : S4x4x4096x64.Idx → EReal) : S4x4096x256.Idx → EReal := fun i => entry q k v (i 0) (i 1) (i 2)

/-! ## The scores of real queries and keys -/

/-- Every entry is a real number. -/
def Real4 (x : S4x4x4096x96.Idx → EReal) : Prop := ∀ i, ∃ r : ℝ, x i = (r : EReal)

theorem score_real {q k : S4x4x4096x96.Idx → EReal} (hq : Real4 q) (hk : Real4 k) (b h : Fin 4) (p n : Fin 4096) :
    ∃ r : ℝ, Ideal.div (∑ d, q (ix4 b h p d) * k (ix4 b h n d)) root = (r : EReal)
      ∧ ∑ d, k (ix4 b h n d) * scaled q b h p d = ((r * (1 / Real.log 2) : ℝ) : EReal) := by
  choose a ha using hq
  choose e he using hk
  refine ⟨(∑ d, a (ix4 b h p d) * e (ix4 b h n d)) / Real.sqrt 96, ?_, ?_⟩
  · rw [root_eq, ← div_coe _ _ sqrt_pos.ne', ← sum_coe]
    simp only [ha, he, EReal.coe_mul]
  · unfold scaled
    rw [factor_eq]
    simp only [ha, he, ← EReal.coe_mul]
    rw [sum_coe]
    congr 1
    rw [Finset.sum_div, Finset.sum_mul]
    refine Finset.sum_congr rfl fun d _ => ?_
    have h1 := sqrt_pos.ne'
    have h2 := log_pos.ne'
    field_simp

theorem masked_ne_top {q k : S4x4x4096x96.Idx → EReal} (hq : Real4 q) (hk : Real4 k) (b h : Fin 4) (p n : ℕ) : masked4 q k b h p n ≠ ⊤ := by
  obtain ⟨r, e, -⟩ := score_real hq hk b h (at4 p) (at4 n)
  unfold masked4
  split
  · rw [e]; exact EReal.coe_ne_top _
  · exact bot_ne_top

theorem masked_zero {q k : S4x4x4096x96.Idx → EReal} (hq : Real4 q) (hk : Real4 k) (b h : Fin 4) (p : ℕ) : masked4 q k b h p 0 ≠ ⊥ := by
  obtain ⟨r, e, -⟩ := score_real hq hk b h (at4 p) (at4 0)
  unfold masked4
  rw [if_pos (Nat.zero_le p), e]; exact EReal.coe_ne_bot _

/-- One over the logarithm of two. -/
abbrev inv : EReal := ((1 / Real.log 2 : ℝ) : EReal)

/-- The scores in base two. -/
def two (q k : S4x4x4096x96.Idx → EReal) (b h : Fin 4) (p : ℕ) : ℕ → EReal := fun n => masked4 q k b h p n * inv

theorem inv_pos : 0 < (1 / Real.log 2 : ℝ) := by have := log_pos; positivity

theorem two_eq {q k : S4x4x4096x96.Idx → EReal} (hq : Real4 q) (hk : Real4 k) (b h : Fin 4) (p n : Fin 4096) :
    two q k b h p.val n.val = if n.val ≤ p.val then ∑ d, k (ix4 b h n d) * scaled q b h p d else ⊥ := by
  obtain ⟨r, e, e'⟩ := score_real hq hk b h p n
  unfold two masked4
  rw [at4_val, at4_val, e, e']
  split
  · rw [← EReal.coe_mul]
  · exact EReal.bot_mul_coe_of_pos inv_pos

theorem two_ne_top {q k : S4x4x4096x96.Idx → EReal} (hq : Real4 q) (hk : Real4 k) (b h : Fin 4) (p n : ℕ) : two q k b h p n ≠ ⊤ := by
  obtain ⟨r, e, -⟩ := score_real hq hk b h (at4 p) (at4 n)
  unfold two masked4
  split
  · rw [e, ← EReal.coe_mul]; exact EReal.coe_ne_top _
  · rw [EReal.bot_mul_coe_of_pos inv_pos]; exact bot_ne_top

theorem two_zero {q k : S4x4x4096x96.Idx → EReal} (hq : Real4 q) (hk : Real4 k) (b h : Fin 4) (p : ℕ) : two q k b h p 0 ≠ ⊥ := by
  obtain ⟨r, e, -⟩ := score_real hq hk b h (at4 p) (at4 0)
  unfold two masked4
  rw [if_pos (Nat.zero_le p), e, ← EReal.coe_mul]; exact EReal.coe_ne_bot _

/-- The values with the row of ones under them. -/
def weight (v : S4x4x4096x64.Idx → EReal) (b h : Fin 4) (d : Fin 80) : ℕ → EReal :=
  if e : d.val < 64 then column v b h ⟨d.val, e⟩ else fun _ => 1

/-! ## What a point makes of the maximum and the sums -/

/-- The maximum and the sums of a query block `Q` over the first `N` keys. -/
def Good (q k : S4x4x4096x96.Idx → EReal) (v : S4x4x4096x64.Idx → EReal) (Q N : ℕ) (s : State (F := Ideal)) : Prop :=
  ∀ (g : Fin 16) (r : Fin 512), s.1 (ix3 g 0 r) = top (two q k (batchOf g) (headOf g) (Q * 512 + r.val)) N
    ∧ ∀ d : Fin 80, s.2 (ix3 g d r) = acc (two q k (batchOf g) (headOf g) (Q * 512 + r.val)) (weight v (batchOf g) (headOf g) d) N
        (top (two q k (batchOf g) (headOf g) (Q * 512 + r.val)) N)

theorem good_fresh (q k : S4x4x4096x96.Idx → EReal) (v : S4x4x4096x64.Idx → EReal) (Q : ℕ) : Good q k v Q 0 fresh :=
  fun g r => ⟨start_max (ix3 g 0 r), fun d => (start_sum (ix3 g d r)).trans (by unfold acc; rw [Finset.range_zero, Finset.sum_empty])⟩

/-- A block of 512 keys taken in. -/
theorem good_step {q k : S4x4x4096x96.Idx → EReal} (hq : Real4 q) (hk : Real4 k) (v : S4x4x4096x64.Idx → EReal) (Q N : ℕ)
    (s s' : State (F := Ideal)) (hs : Good q k v Q N s) (y : FVec Ideal S16x512x512 .f32) (vb : Vec Ideal S16x64x512 .bf16)
    (hy : ∀ (g : Fin 16) (n r : Fin 512), y (ix3 g n r) = two q k (batchOf g) (headOf g) (Q * 512 + r.val) (N + n.val))
    (hv : ∀ (g : Fin 16) (d : Fin 80) (n : Fin 512), ext vb g d n = weight v (batchOf g) (headOf g) d (N + n.val))
    (h1 : ∀ (g : Fin 16) (r : Fin 512), s'.1 (ix3 g 0 r) = max (s.1 (ix3 g 0 r)) (Finset.univ.fold max (⊥ : EReal) fun n : Fin 512 => y (ix3 g n r)))
    (h2 : ∀ (g : Fin 16) (d : Fin 80) (r : Fin 512), s'.2 (ix3 g d r) = Ideal.exp2 (s.1 (ix3 g 0 r) - s'.1 (ix3 g 0 r)) * s.2 (ix3 g d r)
      + ∑ n : Fin 512, ext vb g d n * Ideal.exp2 (y (ix3 g n r) - s'.1 (ix3 g 0 r))) : Good q k v Q (N + 512) s' := by
  intro g r
  obtain ⟨a, b⟩ := hs g r
  have e : s'.1 (ix3 g 0 r) = top (two q k (batchOf g) (headOf g) (Q * 512 + r.val)) (N + 512) := by
    rw [h1, a]; simp only [hy]; exact top_step _ N 512
  refine ⟨e, fun d => ?_⟩
  rw [h2, e, a, b d]
  simp only [hy, hv]
  exact acc_step _ _ (two_ne_top hq hk _ _ _) (two_zero hq hk _ _ _) N 512 (by decide)

variable (m : (ℓ : Loc nD τ sig) → Buf (Elt Ideal) ℓ)

abbrev argQ (c : Dev nD) : S4x4x4096x96.Idx → EReal := m ((c : Thread nD τ).loc main_arg0)
abbrev argK (c : Dev nD) : S4x4x4096x96.Idx → EReal := m ((c : Thread nD τ).loc main_arg1)
abbrev argV (c : Dev nD) : S4x4x4096x64.Idx → EReal := m ((c : Thread nD τ).loc main_arg2)

theorem score_block (c : Dev nD) (t : Fin (cfgM (F := Ideal)).N) (g : Fin 16) (n r : Fin 512) (p p' : Fin 4096) (hp : p.val = (qw (pt t)).toNat * 512 + r.val)
    (hp' : p'.val = (kw (pt t)).toNat * 512 + n.val) :
    score (iblk m c 0 t) (iblk m c 1 t) g n r = ∑ d, argK m c (ix4 (batchOf g) (headOf g) p' d) * scaled (argQ m c) (batchOf g) (headOf g) p d := by
  unfold score
  refine Finset.sum_congr rfl fun d _ => ?_
  exact congr (congrArg HMul.hMul (keys_block m c t g n d p' hp')) (queries_block m c t g r d p hp)

theorem ext_block (c : Dev nD) (t : Fin (cfgM (F := Ideal)).N) (g : Fin 16) (d : Fin 80) (n : Fin 512) (p' : Fin 4096)
    (hp' : p'.val = (kw (pt t)).toNat * 512 + n.val) :
    ext (iblk m c 2 t) g d n = weight (argV m c) (batchOf g) (headOf g) d p'.val := by
  unfold ext weight
  split
  · unfold column; rw [at4_val]; exact values_block m c t g _ n p' hp'
  · rfl

theorem good_point (c : Dev nD) (hq : Real4 (argQ m c)) (hk : Real4 (argK m c)) (t : Fin (cfgM (F := Ideal)).N) (s : State (F := Ideal))
    (hs : Good (argQ m c) (argK m c) (argV m c) (qw (pt t)).toNat ((kw (pt t)).toNat * 512) s) :
    Good (argQ m c) (argK m c) (argV m c) (qw (pt t)).toNat ((kw (pt t)).toNat * 512 + 512) (step m c t s) := by
  have hQ := qw_le (pt t)
  have hK := kw_le (pt t)
  have hx : ∀ r : Fin 512, (qw (pt t)).toNat * 512 + r.val < 4096 := fun r => by have := r.isLt; omega
  have hy : ∀ n : Fin 512, (kw (pt t)).toNat * 512 + n.val < 4096 := fun n => by have := n.isLt; omega
  have hv : ∀ (g : Fin 16) (d : Fin 80) (n : Fin 512), ext (iblk m c 2 t) g d n = weight (argV m c) (batchOf g) (headOf g) d ((kw (pt t)).toNat * 512 + n.val) :=
    fun g d n => ext_block m c t g d n ⟨_, hy n⟩ rfl
  by_cases ho : IsOn t
  · unfold step
    rw [if_pos ho]
    refine good_step hq hk (argV m c) _ _ s _ hs (k0_pay14 (iblk m c 0 t) (iblk m c 1 t) (qw (pt t)) (kw (pt t))) (iblk m c 2 t) ?_ hv ?_ ?_
    · intro g n r
      rw [masked_at _ _ _ _ (BitVec.eq_of_toNat_eq ho.symm), two_eq hq hk (batchOf g) (headOf g) ⟨_, hx r⟩ ⟨_, hy n⟩, score_block m c t g n r ⟨_, hx r⟩ ⟨_, hy n⟩ rfl rfl]
      have ho' : (kw (pt t)).toNat = (qw (pt t)).toNat := ho
      refine if_congr ?_ rfl rfl
      show n.val ≤ r.val ↔ (kw (pt t)).toNat * 512 + n.val ≤ (qw (pt t)).toNat * 512 + r.val
      omega
    · intro g r
      refine (stored_maxOn (iblk m c 0 t) (iblk m c 1 t) (qw (pt t)) (kw (pt t)) s.1 g r).trans ?_
      rw [maxOn_eq, raise_at]
    · intro g d r
      have e := sumsOn_at (iblk m c 0 t) (iblk m c 1 t) (iblk m c 2 t) (qw (pt t)) (kw (pt t)) s.1 s.2 g d r
      rw [← stored_maxOn (iblk m c 0 t) (iblk m c 1 t) (qw (pt t)) (kw (pt t)) s.1 g r] at e
      exact e
  · unfold step
    rw [if_neg ho]
    refine good_step hq hk (argV m c) _ _ s _ hs (k0_pay5 (iblk m c 0 t) (iblk m c 1 t)) (iblk m c 2 t) ?_ hv ?_ ?_
    · intro g n r
      rw [score_at, two_eq hq hk (batchOf g) (headOf g) ⟨_, hx r⟩ ⟨_, hy n⟩, score_block m c t g n r ⟨_, hx r⟩ ⟨_, hy n⟩ rfl rfl]
      have ho' : ¬(kw (pt t)).toNat = (qw (pt t)).toNat := ho
      have hn := n.isLt
      exact (if_pos (show (kw (pt t)).toNat * 512 + n.val ≤ (qw (pt t)).toNat * 512 + r.val by omega)).symm
    · intro g r
      refine (stored_max (iblk m c 0 t) (iblk m c 1 t) s.1 g r).trans ?_
      rw [max_eq, raise_at]
    · intro g d r
      have e := sums_at (iblk m c 0 t) (iblk m c 1 t) s.1 (iblk m c 2 t) s.2 g d r
      rw [← stored_max (iblk m c 0 t) (iblk m c 1 t) s.1 g r] at e
      exact e

/-- What every point leaves. -/
theorem good (c : Dev nD) (hq : Real4 (argQ m c)) (hk : Real4 (argK m c)) : ∀ (n : ℕ) (t : Fin (cfgM (F := Ideal)).N), t.val = n →
    Good (argQ m c) (argK m c) (argV m c) (qw (pt t)).toNat ((kw (pt t)).toNat * 512 + 512) (leaves m c t.val t.isLt) := by
  intro n
  induction n with
  | zero =>
    intro t ht
    have hf : IsFirst t := by
      obtain ⟨_, h⟩ := t
      obtain rfl : _ = 0 := ht
      exact zero_first h
    rw [leaves_first m c t hf]
    refine good_point m c hq hk t _ ?_
    rw [show (kw (pt t)).toNat = 0 from hf]
    exact good_fresh _ _ _ _
  | succ n ih =>
    intro t ht
    by_cases hf : IsFirst t
    · rw [leaves_first m c t hf]
      refine good_point m c hq hk t _ ?_
      rw [show (kw (pt t)).toNat = 0 from hf]
      exact good_fresh _ _ _ _
    · rw [leaves_later m c t hf]
      refine good_point m c hq hk t _ ?_
      obtain ⟨h0, hqw, hkw⟩ := before_word (pt t) hf
      have hlt : t.val - 1 < (cfgM (F := Ideal)).N := Nat.lt_of_le_of_lt (Nat.sub_le _ _) t.isLt
      have := ih ⟨t.val - 1, hlt⟩ (by show t.val - 1 = n; omega)
      have e : pt (F := Ideal) ⟨t.val - 1, hlt⟩ = ⟨(pt t).val - 1, Nat.lt_of_le_of_lt (Nat.sub_le _ _) (pt t).isLt⟩ :=
        Fin.ext ((pt_val _).trans (congrArg (· - 1) (pt_val t).symm))
      rw [e, hqw] at this
      rw [← hkw, Nat.add_mul, Nat.one_mul]
      exact this

/-! ## What a diagonal point writes -/

theorem lower_at (s : Vec Ideal S16x80x512 .f32) (g : Fin 16) (r : Fin 512) : lower s (ix3 g 0 r) = s (ix3 g 64 r) :=
  congrArg s (funext fun a => Fin.ext (by
    match a with
    | ⟨0, _⟩ => show 0 + 1 * g.val = g.val; omega
    | ⟨1, _⟩ => rfl
    | ⟨2, _⟩ => show 0 + 1 * r.val = r.val; omega))
theorem upper_at (s : Vec Ideal S16x80x512 .f32) (g : Fin 16) (d : Fin 64) (r : Fin 512) : upper s (ix3 g d r) = s (ix3 g ⟨d.val, by omega⟩ r) :=
  congrArg s (funext fun a => Fin.ext (by
    match a with
    | ⟨0, _⟩ => show 0 + 1 * g.val = g.val; omega
    | ⟨1, _⟩ => show 0 + 1 * d.val = d.val; omega
    | ⟨2, _⟩ => show 0 + 1 * r.val = r.val; omega))

/-- A batch's entry of the block: a head's sum over its sum of exponentials. -/
def share (s : Vec Ideal S16x80x512 .f32) (b : Fin 4) (r : Fin 512) (j : Fin 256) : EReal :=
  Ideal.div (s (ix3 ⟨4 * b.val + j.val / 64, by omega⟩ ⟨j.val % 64, by omega⟩ r)) (s (ix3 ⟨4 * b.val + j.val / 64, by omega⟩ 64 r))

theorem tile (s : Vec Ideal S16x80x512 .f32) (b B : Fin 4) (r : Fin 512) (j : Fin 256) (w : S1x512x256.Idx → EReal)
    (hw : ∀ r j, w (ix3 0 r j) = share s B r j) :
    View.TileAt (Val := Elt Ideal) (e := .bf16) (S := S4x512x256) (ix3 b r j) ![B.val, 0, 0] S1x512x256.size w (share s b r j) := by
  intro x hx
  have h0 : b.val = B.val + (x 0).val := hx 0
  have h1 : r.val = 0 + (x 1).val := hx 1
  have h2 : j.val = 0 + (x 2).val := hx 2
  have hz : (x 0).val < 1 := (x 0).isLt
  obtain ⟨r', j', rfl⟩ : ∃ (r' : Fin 512) (j' : Fin 256), x = ix3 0 r' j' :=
    ⟨x 1, x 2, by funext a; match a with | ⟨0, _⟩ => exact Subsingleton.elim (α := Fin 1) _ _ | ⟨1, _⟩ => rfl | ⟨2, _⟩ => rfl⟩
  have e0 : b = B := Fin.ext (by omega)
  have e1 : r = r' := Fin.ext (h1.trans (Nat.zero_add _))
  have e2 : j = j' := Fin.ext (h2.trans (Nat.zero_add _))
  rw [e0, e1, e2]
  exact hw r' j'

theorem stored_at (s : Vec Ideal S16x80x512 .f32) (b : Fin 4) (r : Fin 512) (j : Fin 256) : stored s (ix3 b r j) = share s b r j := by
  unfold stored
  refine View.canon_eq_of_allAt _ _ _ (View.cover_of_tiledL (s := S4x512x256) _ S1x512x256.size ?_ _) ?_
  · sl_kernel_rfl
  refine View.allAt_cons_unit _ _ _ _ _ (tile s b 3 r j _ fun r j => ?_) (View.allAt_cons_unit _ _ _ _ _ (tile s b 2 r j _ fun r j => ?_)
    (View.allAt_cons_unit _ _ _ _ _ (tile s b 1 r j _ fun r j => ?_) (View.allAt_cons_unit _ _ _ _ _ (tile s b 0 r j _ fun r j => ?_) (View.allAt_nil _ _))))
  · rw [quot3_at, upper_at, lower_at]; rfl
  · rw [quot2_at, upper_at, lower_at]; rfl
  · rw [quot1_at, upper_at, lower_at]; rfl
  · rw [quot0_at, upper_at, lower_at]
    unfold share
    have e : (⟨j.val / 64, by omega⟩ : Fin 16) = ⟨4 * (0 : Fin 4).val + j.val / 64, by have : (0 : Fin 4).val = 0 := rfl; omega⟩ := Fin.ext (by show j.val / 64 = 4 * 0 + j.val / 64; omega)
    rw [e]

theorem block_at (c : Dev nD) (hq : Real4 (argQ m c)) (hk : Real4 (argK m c)) (t : Fin (cfgM (F := Ideal)).N) (ho : IsOn t) (b : Fin 4) (r : Fin 512) (j : Fin 256)
    (p : Fin 4096) (hp : p.val = (qw (pt t)).toNat * 512 + r.val) :
    block m c t (ix3 b r j) = entry (argQ m c) (argK m c) (argV m c) b p j := by
  unfold block
  rw [stored_at]
  unfold share
  have hj := j.isLt
  have hb := b.isLt
  have hQ := qw_le (pt t)
  have hr := r.isLt
  have ho' : (kw (pt t)).toNat = (qw (pt t)).toNat := ho
  obtain ⟨-, e⟩ := good m c hq hk t.val t rfl ⟨4 * b.val + j.val / 64, by omega⟩ r
  have b1 : batchOf ⟨4 * b.val + j.val / 64, by omega⟩ = b := Fin.ext (by show (4 * b.val + j.val / 64) / 4 = b.val; omega)
  have h1 : headOf ⟨4 * b.val + j.val / 64, by omega⟩ = ⟨j.val / 64, by omega⟩ := Fin.ext (by show (4 * b.val + j.val / 64) % 4 = j.val / 64; omega)
  have w1 : weight (argV m c) b ⟨j.val / 64, by omega⟩ ⟨j.val % 64, by omega⟩ = column (argV m c) b ⟨j.val / 64, by omega⟩ ⟨j.val % 64, by omega⟩ :=
    dif_pos (show j.val % 64 < 64 by omega)
  have w2 : weight (argV m c) b ⟨j.val / 64, by omega⟩ 64 = fun _ => 1 := dif_neg (by decide)
  rw [e, e, b1, h1, ← hp, w1, w2]
  refine quotient (masked4 (argQ m c) (argK m c) b ⟨j.val / 64, by omega⟩ p.val) _ (masked_ne_top hq hk _ _ _) (masked_zero hq hk _ _ _) _ 4096 (by omega) (by omega) ?_
  intro n hn
  exact if_neg (by omega)

/-- The result array after the run. -/
abbrev final (c : Dev nD) : S4x4096x256.Idx → EReal := latent (argQ m c) (argK m c) (argV m c)

theorem written_block (t : Fin (cfgM (F := Ideal)).N) : cc0_transform_3 k0_off1_inb numel1_S1 (tbl (F := Ideal)) (grid0.coords t) = ![0, (qw (pt t)).toNat, 0] := map3 _

theorem cover (i : S4x4096x256.Idx) : ∃ t : Fin (cfgM (F := Ideal)).N, ((cfgM (F := Ideal)).win 3).flush t = true ∧ i ∈ (((cfgM (F := Ideal)).win 3).blk t).view.set := by
  have h0 : (i 0).val < 4 := (i 0).isLt
  have h1 : (i 1).val < 4096 := (i 1).isLt
  have h2 : (i 2).val < 256 := (i 2).isLt
  obtain ⟨h, hqw, hkw⟩ := point_word ⟨(i 1).val / 512, by omega⟩ ⟨(i 1).val / 512, by omega⟩ (Nat.le_refl _)
  let t : Fin (cfgM (F := Ideal)).N := ⟨_, lt_of_lt_of_eq h (show 36 = (cfgM (F := Ideal)).N from N_0.symm)⟩
  have et : pt t = ⟨_, h⟩ := Fin.ext (pt_val t)
  have e := written_block t
  rw [et, hqw] at e
  refine ⟨t, (flush0_3 t).mpr (by rw [et, hqw, hkw]), ?_⟩
  show i ∈ ((View.whole main_v13).slice (((cfgM (F := Ideal)).win 3).rect t)).set
  refine (iff_of_eq (congrArg (i ∈ ·) (View.set_slice_whole main_v13 (((cfgM (F := Ideal)).win 3).rect t)))).mpr ?_
  refine (Rect.mem_set_unit (s := S4x4096x256)).mpr ?_
  intro a
  match a with
  | ⟨0, _⟩ =>
    show cc0_transform_3 k0_off1_inb numel1_S1 (tbl (F := Ideal)) (grid0.coords t) 0 * 4 ≤ (i 0).val ∧ (i 0).val < cc0_transform_3 k0_off1_inb numel1_S1 (tbl (F := Ideal)) (grid0.coords t) 0 * 4 + 4
    rw [e]; show 0 * 4 ≤ (i 0).val ∧ (i 0).val < 0 * 4 + 4; omega
  | ⟨1, _⟩ =>
    show cc0_transform_3 k0_off1_inb numel1_S1 (tbl (F := Ideal)) (grid0.coords t) 1 * 512 ≤ (i 1).val ∧ (i 1).val < cc0_transform_3 k0_off1_inb numel1_S1 (tbl (F := Ideal)) (grid0.coords t) 1 * 512 + 512
    rw [e]; show (i 1).val / 512 * 512 ≤ (i 1).val ∧ (i 1).val < (i 1).val / 512 * 512 + 512; omega
  | ⟨2, _⟩ =>
    show cc0_transform_3 k0_off1_inb numel1_S1 (tbl (F := Ideal)) (grid0.coords t) 2 * 256 ≤ (i 2).val ∧ (i 2).val < cc0_transform_3 k0_off1_inb numel1_S1 (tbl (F := Ideal)) (grid0.coords t) 2 * 256 + 256
    rw [e]; show 0 * 256 ≤ (i 2).val ∧ (i 2).val < 0 * 256 + 256; omega

theorem three_axes (y : S4x512x256.Idx) : ∃ (b : Fin 4) (r : Fin 512) (j : Fin 256), y = ix3 b r j :=
  ⟨y 0, y 1, y 2, by funext a; match a with | ⟨0, _⟩ => rfl | ⟨1, _⟩ => rfl | ⟨2, _⟩ => rfl⟩

theorem written_index (t : Fin (cfgM (F := Ideal)).N) (b : Fin 4) (r : Fin 512) (j : Fin 256) (hp : (qw (pt t)).toNat * 512 + r.val < 4096) :
    ((((cfgM (F := Ideal)).win 3).blk t).view.emb (ix3 b r j) : S4x4096x256.Idx) = ix3 b ⟨(qw (pt t)).toNat * 512 + r.val, hp⟩ j := by
  have e := written_block t
  funext a
  apply Fin.ext
  match a with
  | ⟨0, _⟩ => show cc0_transform_3 k0_off1_inb numel1_S1 (tbl (F := Ideal)) (grid0.coords t) 0 * 4 + 1 * b.val = b.val; rw [e]; show 0 * 4 + 1 * b.val = b.val; omega
  | ⟨1, _⟩ => show cc0_transform_3 k0_off1_inb numel1_S1 (tbl (F := Ideal)) (grid0.coords t) 1 * 512 + 1 * r.val = (qw (pt t)).toNat * 512 + r.val; rw [e]; show (qw (pt t)).toNat * 512 + 1 * r.val = _; omega
  | ⟨2, _⟩ => show cc0_transform_3 k0_off1_inb numel1_S1 (tbl (F := Ideal)) (grid0.coords t) 2 * 256 + 1 * j.val = j.val; rw [e]; show 0 * 256 + 1 * j.val = j.val; omega

theorem flushed_apply (c : Dev nD) (t : Fin (cfgM (F := Ideal)).N) (y : S4x512x256.Idx) : (dats m 0 c).flushed 3 t y = block m c t y :=
  congrFun (after0_3 m c t) y

theorem flushed (c : Dev nD) (hq : Real4 (argQ m c)) (hk : Real4 (argK m c)) (t : Fin (cfgM (F := Ideal)).N) (hf : ((cfgM (F := Ideal)).win 3).flush t = true) :
    (dats m 0 c).flushed 3 t = (((cfgM (F := Ideal)).win 3).blk t).view.read (Elt Ideal) (final m c) := by
  have ho : IsOn t := (flush0_3 t).mp hf
  have hQ := qw_le (pt t)
  funext y
  obtain ⟨b, r, j, rfl⟩ : ∃ (b : Fin 4) (r : Fin 512) (j : Fin 256), y = ix3 b r j := three_axes y
  have hp : (qw (pt t)).toNat * 512 + r.val < 4096 := by have := r.isLt; omega
  refine (flushed_apply m c t (ix3 b r j)).trans ?_
  refine (block_at m c hq hk t ho b r j ⟨(qw (pt t)).toNat * 512 + r.val, hp⟩ rfl).trans ?_
  exact (congrArg (final m c) (written_index t b r j hp)).symm

theorem final_array (c : Dev nD) (hq : Real4 (argQ m c)) (hk : Real4 (argK m c)) : (dats m 0 c).arrAt 3 (cfgM (F := Ideal)).N = final m c :=
  (dats m 0 c).arrAt_eq_of_cover 3 _ (fun t hf => flushed m c hq hk t hf) cover

/-- The run, for real queries and keys: the result ends holding the attention, the arguments are unchanged. -/
theorem run (h : ∀ c : Dev nD, Real4 (argQ m c) ∧ Real4 (argK m c)) (ρ : Dev nD → PrngReg) :
    θ_run defs (onTc (τ := τ) (main (F := Ideal))) ⟨m, fun _ => 0, ρ⟩ fun r => ∀ c : Dev nD,
      r.2.mem ((c.tc : Thread nD τ).loc main_v13) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ q c => ⟨((q.1 c).1 3).trans (final_array m c (h c).1 (h c).2), q.2.1 c⟩)
    (θ_run_and ((θ_run defs _ _).mono (fun _ q => q.1) (run_main m ρ)) (frame m ρ))

end Cert.LatentCall

end
-- ==== Proof.LatentClaim.lean ====
/-
  The latent attention's call: the reference's array is the causal attention at every entry, which the kernel's array holds
  too when the queries and the keys are real numbers.
-/
module

public import proofs.«01_k».proof.Defs
public import proofs.«01_k».proof.Proof.LatentBlock
public import proofs.«01_k».proof.Proof.Gen.LatentRefIdeal.Run
public import proofs.«01_k».proof.Proof.Gen.Pre_finite
public import Idealize.ShloMosaic.Lib.Pointwise
public import Idealize.ShloMosaic.Lib.ReduceAll
public import Idealize.ShloMosaic.Lib.StableHlo.Predicate

@[expose] public section

noncomputable section

namespace Cert.LatentClaim

open Idealize.ShloMosaic Idealize.ShloMosaic.TcCoe Idealize.SL.Sem
open Idealize.ShloMosaic.Pointwise
open Cert.LatentRefIdeal Cert.LatentRefIdeal.Gen
open Cert.LatentCall (at4 at4_val masked4 column entry latent root Real4)
open Cert.LatentRows (top top_step)

/-! ## The reference -/

/-- Which keys a query sees. -/
def seen : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

theorem seen_word (p n : Fin 4096) : seen (ix2 p n) = IntOp.cmpi .sle (BitVec.ofNat 32 n.val) (BitVec.ofNat 32 p.val) := by
  pointwise [seen]

theorem small_toInt (n : Fin 4096) : (BitVec.ofNat 32 n.val).toInt = (n.val : Int) := by
  have h := n.isLt
  rw [BitVec.toInt_eq_toNat_cond, BitVec.toNat_ofNat]
  have e : n.val % 2 ^ 32 = n.val := by omega
  rw [e, if_pos (by omega)]

theorem seen_iff (p n : Fin 4096) : seen (ix2 p n) = 1#1 ↔ n.val ≤ p.val := by
  rw [seen_word, IntOp.cmpi_sle, small_toInt, small_toInt]
  omega

/-- The products of the queries and the keys over the divisor. -/
def products (q k : FVec Ideal S4x4x4096x96 .f32) : FVec Ideal S4x4x4096x4096 .f32 :=
  Host.divf (Host.dotGeneral dot_S4x4x4096x96_S4x4x4096x96_S4x4x4096x4096_3_3_2_2_01_01 none q k)
    (broadcastInDim S4x4x4096x4096 ![] bcast_S_S4x4x4096x4096 (Host.sqrt (constant S_ .f32 0x42C00000#32)))

theorem products_apply (q k : FVec Ideal S4x4x4096x96 .f32) (b h : Fin 4) (p n : Fin 4096) :
    products q k (ix4 b h p n) = Ideal.div (∑ d : Fin 96, q (ix4 b h p d) * k (ix4 b h n d)) root := by
  pointwise [products]
  rfl

/-- The scores under a mask, `z` where it hides a key. -/
def under (c : IVec S4096x4096 1) (s : FVec Ideal S4x4x4096x4096 .f32) (z : FVec Ideal S_ .f32) : FVec Ideal S4x4x4096x4096 .f32 :=
  select (broadcastInDim S4x4x4096x4096 ![2, 3] bcast_S4096x4096_S4x4x4096x4096_2_3 c) s (broadcastInDim S4x4x4096x4096 ![] bcast_S_S4x4x4096x4096 (id z))

theorem under_apply (c : IVec S4096x4096 1) (s : FVec Ideal S4x4x4096x4096 .f32) (z : FVec Ideal S_ .f32) (b h : Fin 4) (p n : Fin 4096) :
    under c s z (ix4 b h p n) = Scalar.select (c (ix2 p n)) (s (ix4 b h p n)) (z ix0) := by
  pointwise [under]
  rfl

theorem lowest : Ideal.ofBits FTy.f32 4286578688#32 = ⊥ := by
  simp [Ideal.ofBits, Ideal.ieee]

/-- The scores. -/
def scores (q k : FVec Ideal S4x4x4096x96 .f32) : FVec Ideal S4x4x4096x4096 .f32 := under seen (products q k) (constant S_ .f32 0xFF800000#32)

theorem scores_apply (q k : FVec Ideal S4x4x4096x96 .f32) (b h : Fin 4) (p n : Fin 4096) : scores q k (ix4 b h p n) = masked4 q k b h p.val n.val := by
  refine (under_apply _ _ _ b h p n).trans ?_
  unfold masked4
  by_cases c : n.val ≤ p.val
  · rw [if_pos c, (seen_iff p n).mpr c, products_apply, at4_val, at4_val]
    rfl
  · rw [if_neg c]
    have e : seen (ix2 p n) ≠ 1#1 := fun w => c ((seen_iff p n).mp w)
    refine Eq.trans (if_neg e) ?_
    exact lowest

/-- The greatest score of every row. -/
def greatest (s : FVec Ideal S4x4x4096x4096 .f32) : FVec Ideal S4x4x4096 .f32 :=
  Host.reduce FloatOps.maximumf s (constant S_ .f32 0xFF800000#32) reducesTo_S4x4x4096x4096_S4x4x4096_d3 h_S_

theorem greatest_apply (s : FVec Ideal S4x4x4096x4096 .f32) (a h : Fin 4) (p : Fin 4096) :
    greatest s (ix3 a h p) = Finset.univ.fold max (Ideal.ofBits FTy.f32 4286578688#32) (fun n : Fin 4096 => s (ix4 a h p n)) := by
  pointwise [greatest]

theorem greatest_top (q k : FVec Ideal S4x4x4096x96 .f32) (b h : Fin 4) (p : Fin 4096) :
    greatest (scores q k) (ix3 b h p) = top (masked4 q k b h p.val) 4096 := by
  rw [greatest_apply, lowest]
  have e := top_step (masked4 q k b h p.val) 0 4096
  rw [show top (masked4 q k b h p.val) 0 = ⊥ from rfl] at e
  refine Eq.trans ?_ ((max_eq_right bot_le).symm.trans (e.trans (congrArg _ (Nat.zero_add 4096))))
  refine congrArg (Finset.univ.fold max ⊥) (funext fun n => ?_)
  rw [scores_apply, Nat.zero_add]

/-- The exponentials of an array, shifted by the greater of `z` and of `w` in each row. -/
def shiftedBy (s : FVec Ideal S4x4x4096x4096 .f32) (z : FVec Ideal S_ .f32) (w : FVec Ideal S4x4x4096 .f32) : FVec Ideal S4x4x4096x4096 .f32 :=
  Host.exp (subf s (broadcastInDim S4x4x4096x4096 ![0, 1, 2, 3] bcast_S4x4x4096x1_S4x4x4096x4096_0_1_2_3
    (broadcastInDim S4x4x4096x1 ![0, 1, 2] bcast_S4x4x4096_S4x4x4096x1_0_1_2
      (maximumf (broadcastInDim S4x4x4096 ![] bcast_S_S4x4x4096 z) w))))

theorem shiftedBy_apply (s : FVec Ideal S4x4x4096x4096 .f32) (z : FVec Ideal S_ .f32) (w : FVec Ideal S4x4x4096 .f32) (a h : Fin 4) (p n : Fin 4096) :
    shiftedBy s z w (ix4 a h p n) = Ideal.exp (s (ix4 a h p n) - max (z ix0) (w (ix3 a h p))) := by
  pointwise [shiftedBy]

/-- The exponentials of the scores, shifted by the greatest of their row. -/
def shifted (s : FVec Ideal S4x4x4096x4096 .f32) : FVec Ideal S4x4x4096x4096 .f32 :=
  shiftedBy s (constant S_ .f32 0xFF800000#32) (greatest s)

theorem shifted_apply (q k : FVec Ideal S4x4x4096x96 .f32) (b h : Fin 4) (p n : Fin 4096) :
    shifted (scores q k) (ix4 b h p n) = Ideal.exp (masked4 q k b h p.val n.val - top (masked4 q k b h p.val) 4096) := by
  have e : (constant S_ .f32 0xFF800000#32 : FVec Ideal S_ .f32) ix0 = (⊥ : EReal) := lowest
  refine (shiftedBy_apply _ _ _ b h p n).trans ?_
  rw [e, greatest_top, scores_apply]
  exact congrArg (fun y => Ideal.exp (masked4 q k b h p.val n.val - y)) (max_eq_right bot_le)

/-- An array over its rows' sums. -/
def overSums (s : FVec Ideal S4x4x4096x4096 .f32) : FVec Ideal S4x4x4096x4096 .f32 :=
  Host.divf s (broadcastInDim S4x4x4096x4096 ![0, 1, 2, 3] bcast_S4x4x4096x1_S4x4x4096x4096_0_1_2_3
    (broadcastInDim S4x4x4096x1 ![0, 1, 2] bcast_S4x4x4096_S4x4x4096x1_0_1_2
      (Host.reduceAdd s (constant S_ .f32 0x00000000#32) reducesTo_S4x4x4096x4096_S4x4x4096_d3 h_S_)))

theorem overSums_apply (s : FVec Ideal S4x4x4096x4096 .f32) (b h : Fin 4) (p n : Fin 4096) :
    overSums s (ix4 b h p n) = Ideal.div (s (ix4 b h p n)) (∑ n : Fin 4096, s (ix4 b h p n)) := by
  pointwise [overSums]

/-- The heads' sums of values, set side by side. -/
def joined (w : FVec Ideal S4x4x4096x4096 .f32) (v : FVec Ideal S4x4x4096x64 .f32) : FVec Ideal S4x4096x256 .bf16 :=
  truncf .bf16 (shapeCast _ (transpose S4x4096x4x64 [0, 2, 1, 3] (Host.dotGeneral dot_S4x4x4096x4096_S4x4x4096x64_S4x4x4096x64_3_2_2_3_01_01 none w v)
    transposes_S4x4x4096x64_S4x4096x4x64_0_2_1_3) shapeCasts_S4x4096x4x64_S4x4096x256) bitsLt_bf16_f32

theorem joined_apply (w : FVec Ideal S4x4x4096x4096 .f32) (v : FVec Ideal S4x4x4096x64 .f32) (b : Fin 4) (p : Fin 4096) (j : Fin 256) :
    joined w v (ix3 b p j) = ∑ n : Fin 4096, w (ix4 b ⟨j.val / 64, by omega⟩ p n) * v (ix4 b ⟨j.val / 64, by omega⟩ n ⟨j.val % 64, by omega⟩) := by
  pointwise [joined]

/-- The whole reference. -/
def result (q k : FVec Ideal S4x4x4096x96 .f32) (v : FVec Ideal S4x4x4096x64 .f32) : FVec Ideal S4x4096x256 .bf16 :=
  joined (overSums (shifted (scores q k))) v

theorem result_eq (q k : FVec Ideal S4x4x4096x96 .f32) (v : FVec Ideal S4x4x4096x64 .f32) : result q k v = latent q k v := by
  funext i
  obtain ⟨b, p, j, rfl⟩ : ∃ (b : Fin 4) (p : Fin 4096) (j : Fin 256), i = ix3 b p j :=
    ⟨i 0, i 1, i 2, by funext a; match a with | ⟨0, _⟩ => rfl | ⟨1, _⟩ => rfl | ⟨2, _⟩ => rfl⟩
  refine (joined_apply _ _ b p j).trans ?_
  show _ = entry q k v b p j
  unfold entry
  refine Finset.sum_congr rfl fun n _ => ?_
  have w : column v b ⟨j.val / 64, by omega⟩ ⟨j.val % 64, by omega⟩ n.val = v (ix4 b ⟨j.val / 64, by omega⟩ n ⟨j.val % 64, by omega⟩) := by
    unfold column; rw [at4_val]
  rw [overSums_apply, w]
  simp only [shifted_apply]

/-- The reference: its result is the causal attention of its arguments. -/
theorem reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25)
        = latent (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨(h c).1.trans ?_, (h c).2⟩) (Value.run m ρ)
  exact result_eq _ _ _

/-! ## The precondition -/

theorem infinity : Ideal.ofBits FTy.f32 2139095040#32 = ⊤ := by
  simp [Ideal.ofBits, Ideal.ieee]

/-- A number of absolute value less than infinity is real. -/
theorem real_of_lt (x : EReal) (h : max x (-x) < ⊤) : ∃ r : ℝ, x = r := by
  induction x with
  | bot => simp at h
  | coe r => exact ⟨r, rfl⟩
  | top => simp at h

theorem holds_of_bit {P : Prop} [Decidable P] (h : BitVec.ofBool (decide P) = 1#1) : P := by
  by_contra c
  rw [decide_eq_false c] at h
  exact absurd h (by decide)

theorem less_apply (x : FVec Ideal S4x4x4096x96 .f32) (b h : Fin 4) (p : Fin 4096) (d : Fin 96)
    (e : cmpf .olt (Host.absf x) (broadcastInDim Cert.Pre_finite.S4x4x4096x96 ![] Cert.Pre_finite.Facts.bcast_S_S4x4x4096x96 (constant Cert.Pre_finite.S_ .f32 0x7F800000#32)) (ix4 b h p d) = 1#1) :
    ∃ r : ℝ, x (ix4 b h p d) = r := by
  refine real_of_lt _ ?_
  have e' : Ideal.cmp .olt (max (x (ix4 b h p d)) (-x (ix4 b h p d))) (Ideal.ofBits FTy.f32 2139095040#32) = 1#1 := e
  rw [infinity] at e'
  exact holds_of_bit e'

/-- Under the precondition the queries and the keys are real numbers. -/
theorem decode (q k : FVec Ideal S4x4x4096x96 .f32) (v : FVec Ideal S4x4x4096x64 .f32) (h : Cert.Pre_finite.fn (F := Ideal) q k v = fun _ => 1#1) :
    Real4 q ∧ Real4 k := by
  have h' := congrFun h ix0
  simp only [Cert.Pre_finite.fn] at h'
  obtain ⟨hq, hk⟩ := IntOp.andi_eq_one.mp h'
  have four (i : S4x4x4096x96.Idx) : ∃ (b h : Fin 4) (p : Fin 4096) (d : Fin 96), i = ix4 b h p d :=
    ⟨i 0, i 1, i 2, i 3, by funext a; match a with | ⟨0, _⟩ => rfl | ⟨1, _⟩ => rfl | ⟨2, _⟩ => rfl | ⟨3, _⟩ => rfl⟩
  refine ⟨fun i => ?_, fun i => ?_⟩
  · obtain ⟨b, h, p, d, rfl⟩ := four i
    exact less_apply q b h p d (Host.reduce_andi_all _ _ _ _ _ hq (ix4 b h p d))
  · obtain ⟨b, h, p, d, rfl⟩ := four i
    exact less_apply k b h p d (Host.reduce_andi_all _ _ _ _ _ hk (ix4 b h p d))

theorem equal : Cert.algebraic_LatentIdeal_LatentRefIdeal_pre_finite := by
  intro m ρ m' ρ' hpre hagree
  refine ⟨fun c => Cert.LatentCall.final m c, Cert.LatentCall.run m (fun c => decode _ _ _ (hpre c)) ρ, ?_⟩
  refine (θ_run defs _ _).mono (fun _ h c => ⟨(h c).1.trans ?_, (h c).2⟩) (reference m' ρ')
  obtain ⟨h0, h1, h2⟩ := hagree c
  rw [h0, h1, h2]

end Cert.LatentClaim

end
-- ==== Proof.lean ====
/-
  The claims, assembled: the frames of the six kernels over machine words and over the extended reals and of their
  references, the kernels' idealizations, and the equality of each kernel's results with its reference's.
-/
module

public import proofs.«01_k».proof.Defs
public import proofs.«01_k».proof.Proof.Gen.Cross.Frame
public import proofs.«01_k».proof.Proof.Gen.Cross
public import proofs.«01_k».proof.Proof.Gen.CrossIdeal.Frame
public import proofs.«01_k».proof.Proof.Gen.CrossIdeal
public import proofs.«01_k».proof.Proof.Gen.CrossIdeal.Value
public import proofs.«01_k».proof.Proof.Gen.CrossRefIdeal
public import proofs.«01_k».proof.Proof.Gen.CrossRefIdeal.Run
public import proofs.«01_k».proof.Proof.Gen.Memory.Frame
public import proofs.«01_k».proof.Proof.Gen.Memory
public import proofs.«01_k».proof.Proof.Gen.MemoryIdeal.Frame
public import proofs.«01_k».proof.Proof.Gen.MemoryIdeal
public import proofs.«01_k».proof.Proof.Gen.MemoryIdeal.Value
public import proofs.«01_k».proof.Proof.Gen.MemoryRefIdeal
public import proofs.«01_k».proof.Proof.Gen.MemoryRefIdeal.Run
public import proofs.«01_k».proof.Proof.Gen.Swiglu.Frame
public import proofs.«01_k».proof.Proof.Gen.Swiglu
public import proofs.«01_k».proof.Proof.Gen.SwigluIdeal.Frame
public import proofs.«01_k».proof.Proof.Gen.SwigluIdeal
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.Norm.Frame
public import proofs.«01_k».proof.Proof.Gen.Norm
public import proofs.«01_k».proof.Proof.Gen.NormIdeal.Frame
public import proofs.«01_k».proof.Proof.Gen.NormIdeal
public import proofs.«01_k».proof.Proof.Gen.NormIdeal.Value
public import proofs.«01_k».proof.Proof.Gen.NormRefIdeal
public import proofs.«01_k».proof.Proof.Gen.NormRefIdeal.Run
public import proofs.«01_k».proof.Proof.Gen.Experts
public import proofs.«01_k».proof.Proof.Gen.ExpertsIdeal
public import proofs.«01_k».proof.Proof.Gen.ExpertsRefIdeal
public import proofs.«01_k».proof.Proof.Gen.ExpertsRefIdeal.Run
public import proofs.«01_k».proof.Proof.Gen.Pre_in_range
public import proofs.«01_k».proof.Proof.Gen.Latent
public import proofs.«01_k».proof.Proof.Gen.LatentIdeal
public import proofs.«01_k».proof.Proof.Gen.LatentRefIdeal
public import proofs.«01_k».proof.Proof.Gen.LatentRefIdeal.Run
public import proofs.«01_k».proof.Proof.Gen.Pre_finite
public import proofs.«01_k».proof.Proof.MemoryClaim
public import proofs.«01_k».proof.Proof.CrossClaim
public import proofs.«01_k».proof.Proof.SwigluClaim
public import proofs.«01_k».proof.Proof.NormClaim
public import proofs.«01_k».proof.Proof.ExpertsClaim
public import proofs.«01_k».proof.Proof.LatentClaim
public import Idealize.ShloMosaic.Lib.Quiescent
public import Idealize.ShloMosaic.Lib.Tactic
public import Idealize.ShloMosaic.Adequacy
public import Idealize.ShloMosaic.Init

@[expose] public section

noncomputable section

namespace Cert.Proof

open Idealize.ShloMosaic Idealize.ShloMosaic.TcCoe Idealize.SL.Sem

/-- The reference of Cross: every run ends with its semaphores at zero and its arguments unchanged. -/
theorem reference_Cross : Cert.quiescent_CrossRefIdeal := fun m ρ _ =>
  (θ_run Cert.CrossRefIdeal.defs _ _).mono (fun r h => ⟨fun c => (h c).2, Idealize.ShloMosaic.sem_eq_zero_of_no_sems (by decide) r.2⟩)
    (Cert.CrossRefIdeal.Value.run (F := Ideal) m ρ)

/-- The reference of Swiglu: every run ends with its semaphores at zero and its arguments unchanged. -/
theorem reference_Swiglu : Cert.quiescent_SwigluRefIdeal := fun m ρ _ =>
  (θ_run Cert.SwigluRefIdeal.defs _ _).mono (fun r h => ⟨fun c => (h c).2, Idealize.ShloMosaic.sem_eq_zero_of_no_sems (by decide) r.2⟩)
    (Cert.SwigluRefIdeal.Value.run (F := Ideal) m ρ)

/-- The reference of Memory: every run ends with its semaphores at zero and its arguments unchanged. -/
theorem reference_Memory : Cert.quiescent_MemoryRefIdeal := fun m ρ _ =>
  (θ_run Cert.MemoryRefIdeal.defs _ _).mono (fun r h => ⟨fun c => (h c).2.2, Idealize.ShloMosaic.sem_eq_zero_of_no_sems (by decide) r.2⟩)
    (Cert.MemoryRefIdeal.Value.run (F := Ideal) m ρ)

/-- The reference of Norm: every run ends with its semaphores at zero and its arguments unchanged. -/
theorem reference_Norm : Cert.quiescent_NormRefIdeal := fun m ρ _ =>
  (θ_run Cert.NormRefIdeal.defs _ _).mono (fun r h => ⟨fun c => (h c).2, Idealize.ShloMosaic.sem_eq_zero_of_no_sems (by decide) r.2⟩)
    (Cert.NormRefIdeal.Value.run (F := Ideal) m ρ)

/-- The reference of Experts: every run ends with its semaphores at zero and its arguments unchanged. -/
theorem reference_Experts : Cert.quiescent_ExpertsRefIdeal := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

/-- The reference of Latent: every run ends with its semaphores at zero and its arguments unchanged. -/
theorem reference_Latent : Cert.quiescent_LatentRefIdeal := fun m ρ _ =>
  (θ_run Cert.LatentRefIdeal.defs _ _).mono (fun r h => ⟨fun c => (h c).2, Idealize.ShloMosaic.sem_eq_zero_of_no_sems (by decide) r.2⟩)
    (Cert.LatentRefIdeal.Value.run (F := Ideal) m ρ)

/-- The experts' kernel over the extended reals: every run ends with its semaphores at zero and its arguments unchanged. -/
theorem ideal_Experts : Cert.quiescent_ExpertsIdeal := fun m ρ h =>
  Cert.ExpertsCall.frame (F := Ideal) m ρ (Cert.ExpertsCall.inside _ (Cert.ExpertsCall.inRange_of m h))

section Tables

variable {F : FTy → Type} [FloatOps F]

/-- The kernel and its idealization have one table of bodies, -/
theorem bodies_Experts : Cert.Experts.defs₀ (F := F) = Cert.ExpertsIdeal.defs₀ (F := F) := by
  refine congrArg Defs.onTc (funext fun l => ?_)
  match l with
  | ⟨0, _⟩ => funext ⟨t, s⟩; rfl
  | ⟨_ + 1, h⟩ => exact absurd h (Nat.not_lt.2 (Nat.le_add_left _ _))

/-- and so one table of procedures. -/
theorem tables_Experts : Cert.Experts.defs (F := F) = Cert.ExpertsIdeal.defs (F := F) :=
  congrArg (Pipeline.defs Cert.ExpertsIdeal.pcfgs) bodies_Experts

/-- Over machine words the named constant is the word it is printed as. -/
instance wordsNamed : Named Bits where
  named _ _ {φ} w := FloatOps.ofBits φ w

/-- The latent attention's kernel and its idealization have one table of bodies over machine words, -/
theorem bodies_Latent : Cert.Latent.defs₀ (F := Bits) = Cert.LatentIdeal.defs₀ (F := Bits) := by
  refine congrArg Defs.onTc (funext fun l => ?_)
  match l with
  | ⟨0, _⟩ => funext ⟨t, s⟩; rfl
  | ⟨_ + 1, h⟩ => exact absurd h (Nat.not_lt.2 (Nat.le_add_left _ _))

/-- and so one table of procedures. -/
theorem tables_Latent : Cert.Latent.defs (F := Bits) = Cert.LatentIdeal.defs (F := Bits) :=
  congrArg (Pipeline.defs Cert.LatentIdeal.pcfgs) bodies_Latent

theorem query_words : Cert.Latent.lit0 = Cert.LatentIdeal.lit0 := by decide
theorem key_words : Cert.Latent.lit1 = Cert.LatentIdeal.lit1 := by decide
theorem flag_words : Cert.Latent.lit2 = Cert.LatentIdeal.lit2 := by decide

set_option maxHeartbeats 4000000 in
/-- The two @main are one. -/
theorem main_Latent : Cert.Latent.main (F := Bits) = Cert.LatentIdeal.main (F := Bits) := by
  funext c
  unfold Cert.Latent.main Cert.LatentIdeal.main
  rw [query_words, key_words, flag_words]
  sl_kernel_rfl

end Tables

/-- The experts' kernel over machine words: every run ends with its semaphores at zero and its arguments unchanged. -/
theorem words_Experts : Cert.quiescent_Experts := fun m ρ h => by
  rw [tables_Experts]
  exact Cert.ExpertsCall.frame (F := Bits) m ρ (Cert.ExpertsCall.inside _ (Cert.ExpertsCall.inRange_of m h))

/-- The latent attention's kernel over the extended reals: every run ends with its semaphores at zero and its arguments
    unchanged. -/
theorem ideal_Latent : Cert.quiescent_LatentIdeal := fun m ρ _ => Cert.LatentCall.frame (F := Ideal) m ρ

/-- The same over machine words. -/
theorem words_Latent : Cert.quiescent_Latent := fun m ρ _ => by
  rw [tables_Latent, main_Latent]
  exact Cert.LatentCall.frame (F := Bits) m ρ

theorem claim : Cert.Claim :=
  ⟨Cert.Cross.Gen.facts, Cert.CrossIdeal.Gen.facts, Cert.CrossRefIdeal.Gen.facts,
    Cert.Swiglu.Gen.facts, Cert.SwigluIdeal.Gen.facts, Cert.SwigluRefIdeal.Gen.facts,
    Cert.Memory.Gen.facts, Cert.MemoryIdeal.Gen.facts, Cert.MemoryRefIdeal.Gen.facts,
    Cert.Norm.Gen.facts, Cert.NormIdeal.Gen.facts, Cert.NormRefIdeal.Gen.facts,
    Cert.Experts.Gen.facts, Cert.ExpertsIdeal.Gen.facts, Cert.ExpertsRefIdeal.Gen.facts,
    Cert.Latent.Gen.facts, Cert.LatentIdeal.Gen.facts, Cert.LatentRefIdeal.Gen.facts,
    Cert.Pre_in_range.Gen.facts, Cert.Pre_finite.Gen.facts,
    fun m ρ _ => Cert.Cross.Gen.frame m ρ, fun m ρ _ => Cert.CrossIdeal.Gen.frame m ρ, reference_Cross,
    fun m ρ _ => Cert.Swiglu.Gen.frame m ρ, fun m ρ _ => Cert.SwigluIdeal.Gen.frame m ρ, reference_Swiglu,
    fun m ρ _ => Cert.Memory.Gen.frame m ρ, fun m ρ _ => Cert.MemoryIdeal.Gen.frame m ρ, reference_Memory,
    fun m ρ _ => Cert.Norm.Gen.frame m ρ, fun m ρ _ => Cert.NormIdeal.Gen.frame m ρ, reference_Norm,
    words_Experts, ideal_Experts, reference_Experts,
    words_Latent, ideal_Latent, fun m ρ _ => ideal_Latent m ρ trivial, reference_Latent, fun m ρ _ => reference_Latent m ρ trivial,
    trivial, Cert.CrossClaim.equal,
    trivial, Cert.SwigluClaim.equal,
    trivial, Cert.MemoryClaim.equal,
    trivial, Cert.NormClaim.equal,
    trivial, Cert.ExpertsClaim.equal,
    IdealRules.named_const.statement Cert.LatentIdeal.κ "mask" .f32 0xF149F2CA#32 ⊥ rfl, Cert.LatentClaim.equal⟩

end Cert.Proof

end
